-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_not_negative [hPre_scales_not_negative : Cert.Pre_scales_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_not_negative [hPre_scales_not_negative : Cert.Pre_scales_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_not_negative [hKernelIdeal : Cert.KernelIdeal.Facts] [hPre_scales_not_negative : Cert.Pre_scales_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_not_negative [hReferenceIdeal : Cert.ReferenceIdeal.Facts] [hPre_scales_not_negative : Cert.Pre_scales_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e_16" .f32 0x3DB8AA3B#32 ((((Real.log 2) * 16)⁻¹ : ℝ) : EReal)

def algebraic_KernelIdeal_ReferenceIdeal_on_query_results [hKernelIdeal : Cert.KernelIdeal.Facts] [hReferenceIdeal : Cert.ReferenceIdeal.Facts] [hOn_query_results : Cert.On_query_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 640, 10240]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v4_0) i = v0 c i)
          ∧ (∀ i : (⟨3, ![3, 80, 640]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v4_1) i = v1 c i)
          ∧ (∀ i : (⟨3, ![3, 640, 10240]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v4_2) i = v2 c i)
          ∧ (∀ i : (⟨3, ![3, 40, 640]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v4_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 640, 10240]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v0_0) i = v0 c i)
          ∧ (∀ i : (⟨3, ![3, 80, 640]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v0_1) i = v1 c i)
          ∧ (∀ i : (⟨3, ![3, 640, 10240]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v0_2) i = v2 c i)
          ∧ (∀ i : (⟨3, ![3, 40, 640]⟩ : Shape).Idx, (Cert.On_query_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v0_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_pre_scales_not_negative [hKernelIdeal : Cert.KernelIdeal.Facts] [hReferenceIdeal : Cert.ReferenceIdeal.Facts] [hPre_scales_not_negative : Cert.Pre_scales_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_not_negative : Cert.Pre_scales_not_negative.Facts) (hOn_query_results : Cert.On_query_results.Facts),
    quiescent_Kernel (hKernel := hKernel)
    ∧ quiescent_KernelIdeal (hKernelIdeal := hKernelIdeal)
    ∧ quiescent_KernelIdeal_pre_scales_not_negative (hKernelIdeal := hKernelIdeal) (hPre_scales_not_negative := hPre_scales_not_negative)
    ∧ quiescent_ReferenceIdeal (hReferenceIdeal := hReferenceIdeal)
    ∧ quiescent_ReferenceIdeal_pre_scales_not_negative (hReferenceIdeal := hReferenceIdeal) (hPre_scales_not_negative := hPre_scales_not_negative)
    ∧ preserves_Kernel_KernelIdeal
    ∧ algebraic_KernelIdeal_ReferenceIdeal_on_query_results (hKernelIdeal := hKernelIdeal) (hReferenceIdeal := hReferenceIdeal) (hOn_query_results := hOn_query_results)
    ∧ algebraic_KernelIdeal_ReferenceIdeal_pre_scales_not_negative (hKernelIdeal := hKernelIdeal) (hReferenceIdeal := hReferenceIdeal) (hPre_scales_not_negative := hPre_scales_not_negative)
-- ==== On_query_results.lean ====
abbrev S3x640x10240 : Shape := ⟨3, ![3, 640, 10240]⟩
abbrev S3x640x8x256 : Shape := ⟨4, ![3, 640, 8, 256]⟩
abbrev S3x5x8 : Shape := ⟨3, ![3, 5, 8]⟩
abbrev S_ : Shape := ⟨0, ![]⟩
abbrev S3x80x640 : Shape := ⟨3, ![3, 80, 640]⟩
abbrev S3x40x640 : Shape := ⟨3, ![3, 40, 640]⟩

class Facts : Prop where
  bcast_S_S3x640x10240 : S_.BroadcastsInDim S3x640x10240 (![] : Fin 0 → Fin S3x640x10240.rank)
  bcast_S_S3x80x640 : S_.BroadcastsInDim S3x80x640 (![] : Fin 0 → Fin S3x80x640.rank)
  bcast_S_S3x40x640 : S_.BroadcastsInDim S3x40x640 (![] : Fin 0 → Fin S3x40x640.rank)

variable [Facts]

def fn {F : FTy → Type} [FloatOps F] (main_arg0 : FVec F S3x640x10240 .bf16) (main_arg1 : FVec F S3x640x8x256 .fp8e4m3) (main_arg2 : FVec F S3x5x8 .f32) (main_arg3 : FVec F S3x640x8x256 .fp8e4m3) (main_arg4 : FVec F S3x5x8 .f32) : IVec S3x640x10240 1 × IVec S3x80x640 1 × IVec S3x640x10240 1 × IVec S3x40x640 1 :=
  let main_c : IVec S_ 1 := constantI S_ 1 0#1
  let main_v0 : IVec S3x640x10240 1 := broadcastInDim S3x640x10240 ![] bcast_S_S3x640x10240 main_c
  let main_c_0 : IVec S_ 1 := constantI S_ 1 0#1
  let main_v1 : IVec S3x80x640 1 := broadcastInDim S3x80x640 ![] bcast_S_S3x80x640 main_c_0
  let main_c_1 : IVec S_ 1 := constantI S_ 1 1#1
  let main_v2 : IVec S3x640x10240 1 := broadcastInDim S3x640x10240 ![] bcast_S_S3x640x10240 main_c_1
  let main_c_2 : IVec S_ 1 := constantI S_ 1 1#1
  let main_v3 : IVec S3x40x640 1 := broadcastInDim S3x40x640 ![] bcast_S_S3x40x640 main_c_2
  (main_v0, main_v1, main_v2, main_v3)
-- ==== Pre_scales_not_negative.lean ====
abbrev S3x640x10240 : Shape := ⟨3, ![3, 640, 10240]⟩
abbrev S3x640x8x256 : Shape := ⟨4, ![3, 640, 8, 256]⟩
abbrev S3x5x8 : Shape := ⟨3, ![3, 5, 8]⟩
abbrev S_ : Shape := ⟨0, ![]⟩

class Facts : Prop where
  bcast_S_S3x5x8 : S_.BroadcastsInDim S3x5x8 (![] : Fin 0 → Fin S3x5x8.rank)

variable [Facts]

def fn {F : FTy → Type} [FloatOps F] (main_arg0 : FVec F S3x640x10240 .bf16) (main_arg1 : FVec F S3x640x8x256 .fp8e4m3) (main_arg2 : FVec F S3x5x8 .f32) (main_arg3 : FVec F S3x640x8x256 .fp8e4m3) (main_arg4 : FVec F S3x5x8 .f32) : IVec S3x5x8 1 :=
  let main_cst : FVec F S_ .f32 := constant S_ .f32 0x00000000#32
  let main_v0 : FVec F S3x5x8 .f32 := broadcastInDim S3x5x8 ![] bcast_S_S3x5x8 main_cst
  let main_v1 : IVec S3x5x8 1 := cmpf .oge main_arg2 main_v0
  main_v1
-- ==== Kernel.lean ====
abbrev S3x640x10240 : Shape := ⟨3, ![3, 640, 10240]⟩
abbrev S3x640x8x256 : Shape := ⟨4, ![3, 640, 8, 256]⟩
abbrev S3x5x8 : Shape := ⟨3, ![3, 5, 8]⟩
abbrev S3x640x2048 : Shape := ⟨3, ![3, 640, 2048]⟩
abbrev S5x3x8 : Shape := ⟨3, ![5, 3, 8]⟩
abbrev S3x80x640 : Shape := ⟨3, ![3, 80, 640]⟩
abbrev S3x40x640 : Shape := ⟨3, ![3, 40, 640]⟩
abbrev S1x128x10240 : Shape := ⟨3, ![1, 128, 10240]⟩
abbrev S1x640x2048 : Shape := ⟨3, ![1, 640, 2048]⟩
abbrev S1x80x128 : Shape := ⟨3, ![1, 80, 128]⟩
abbrev S1x40x128 : Shape := ⟨3, ![1, 40, 128]⟩
abbrev S8x640x256 : Shape := ⟨3, ![8, 640, 256]⟩
abbrev S8x256x640 : Shape := ⟨3, ![8, 256, 640]⟩
abbrev S40x128 : Shape := ⟨2, ![40, 128]⟩
abbrev S640x640 : Shape := ⟨2, ![640, 640]⟩
abbrev S1x128x256 : Shape := ⟨3, ![1, 128, 256]⟩
abbrev S128x256 : Shape := ⟨2, ![128, 256]⟩
abbrev S4x4x8x256 : Shape := ⟨4, ![4, 4, 8, 256]⟩
abbrev S4x8x4x256 : Shape := ⟨4, ![4, 8, 4, 256]⟩
abbrev S1x1x1 : Shape := ⟨3, ![1, 1, 1]⟩
abbrev S256x128 : Shape := ⟨2, ![256, 128]⟩
abbrev S1x256x128 : Shape := ⟨3, ![1, 256, 128]⟩
abbrev S128x128 : Shape := ⟨2, ![128, 128]⟩
abbrev S128 : Shape := ⟨1, ![128]⟩
abbrev S128x1 : Shape := ⟨2, ![128, 1]⟩
abbrev S1x254 : Shape := ⟨2, ![1, 254]⟩
abbrev S128x254 : Shape := ⟨2, ![128, 254]⟩
abbrev S254x1x1 : Shape := ⟨3, ![254, 1, 1]⟩
abbrev S254x40x128 : Shape := ⟨3, ![254, 40, 128]⟩
abbrev S1x256x256 : Shape := ⟨3, ![1, 256, 256]⟩
abbrev S256x256 : Shape := ⟨2, ![256, 256]⟩
abbrev S1x128 : Shape := ⟨2, ![1, 128]⟩
abbrev S254x1 : Shape := ⟨2, ![254, 1]⟩
abbrev S254x128 : Shape := ⟨2, ![254, 128]⟩
abbrev S1x1x128 : Shape := ⟨3, ![1, 1, 128]⟩
abbrev S1x128x128 : Shape := ⟨3, ![1, 128, 128]⟩
abbrev S1x384x256 : Shape := ⟨3, ![1, 384, 256]⟩
abbrev S384x256 : Shape := ⟨2, ![384, 256]⟩
abbrev S384x128 : Shape := ⟨2, ![384, 128]⟩
abbrev S1x256x384 : Shape := ⟨3, ![1, 256, 384]⟩
abbrev S256x384 : Shape := ⟨2, ![256, 384]⟩
abbrev S1x512x256 : Shape := ⟨3, ![1, 512, 256]⟩
abbrev S512x256 : Shape := ⟨2, ![512, 256]⟩
abbrev S512x128 : Shape := ⟨2, ![512, 128]⟩
abbrev S1x256x512 : Shape := ⟨3, ![1, 256, 512]⟩
abbrev S256x512 : Shape := ⟨2, ![256, 512]⟩
abbrev S1x640x256 : Shape := ⟨3, ![1, 640, 256]⟩
abbrev S640x256 : Shape := ⟨2, ![640, 256]⟩
abbrev S640x128 : Shape := ⟨2, ![640, 128]⟩
abbrev S1x256x640 : Shape := ⟨3, ![1, 256, 640]⟩
abbrev S256x640 : Shape := ⟨2, ![256, 640]⟩

abbrev nBuf : Space → Nat
  | .hbm => 13
  | .vmem => 20
  | .smem => 2
  | _ => 0

abbrev bufTy : (tb : Table) → Fin (tcTables nBuf tb) → BufTy
  | .hbm, ⟨0, _⟩ => ⟨S3x640x10240, .bf16⟩
  | .hbm, ⟨1, _⟩ => ⟨S3x640x8x256, .fp8e4m3⟩
  | .hbm, ⟨2, _⟩ => ⟨S3x5x8, .f32⟩
  | .hbm, ⟨3, _⟩ => ⟨S3x640x8x256, .fp8e4m3⟩
  | .hbm, ⟨4, _⟩ => ⟨S3x5x8, .f32⟩
  | .hbm, ⟨5, _⟩ => ⟨S3x640x2048, .fp8e4m3⟩
  | .hbm, ⟨6, _⟩ => ⟨S3x640x2048, .fp8e4m3⟩
  | .hbm, ⟨7, _⟩ => ⟨S5x3x8, .f32⟩
  | .hbm, ⟨8, _⟩ => ⟨S5x3x8, .f32⟩
  | .hbm, ⟨9, _⟩ => ⟨S3x640x10240, .fp8e4m3⟩
  | .hbm, ⟨10, _⟩ => ⟨S3x80x640, .f32⟩
  | .hbm, ⟨11, _⟩ => ⟨S3x640x10240, .fp8e4m3⟩
  | .hbm, ⟨12, _⟩ => ⟨S3x40x640, .f32⟩
  | .local _ .vmem, ⟨0, _⟩ => ⟨S1x128x10240, .bf16⟩
  | .local _ .vmem, ⟨1, _⟩ => ⟨S1x128x10240, .bf16⟩
  | .local _ .vmem, ⟨2, _⟩ => ⟨S1x640x2048, .fp8e4m3⟩
  | .local _ .vmem, ⟨3, _⟩ => ⟨S1x640x2048, .fp8e4m3⟩
  | .local _ .vmem, ⟨4, _⟩ => ⟨S1x640x2048, .fp8e4m3⟩
  | .local _ .vmem, ⟨5, _⟩ => ⟨S1x640x2048, .fp8e4m3⟩
  | .local _ .vmem, ⟨6, _⟩ => ⟨S1x128x10240, .fp8e4m3⟩
  | .local _ .vmem, ⟨7, _⟩ => ⟨S1x128x10240, .fp8e4m3⟩
  | .local _ .vmem, ⟨8, _⟩ => ⟨S1x80x128, .f32⟩
  | .local _ .vmem, ⟨9, _⟩ => ⟨S1x80x128, .f32⟩
  | .local _ .vmem, ⟨10, _⟩ => ⟨S1x128x10240, .fp8e4m3⟩
  | .local _ .vmem, ⟨11, _⟩ => ⟨S1x128x10240, .fp8e4m3⟩
  | .local _ .vmem, ⟨12, _⟩ => ⟨S1x40x128, .f32⟩
  | .local _ .vmem, ⟨13, _⟩ => ⟨S1x40x128, .f32⟩
  | .local _ .vmem, ⟨14, _⟩ => ⟨S8x640x256, .fp8e4m3⟩
  | .local _ .vmem, ⟨15, _⟩ => ⟨S8x256x640, .bf16⟩
  | .local _ .vmem, ⟨16, _⟩ => ⟨S8x640x256, .fp8e4m3⟩
  | .local _ .vmem, ⟨17, _⟩ => ⟨S40x128, .f32⟩
  | .local _ .vmem, ⟨18, _⟩ => ⟨S640x640, .f32⟩
  | .local _ .vmem, ⟨19, _⟩ => ⟨S640x640, .fp8e4m3⟩
  | .local _ .smem, ⟨0, _⟩ => ⟨S5x3x8, .f32⟩
  | .local _ .smem, ⟨1, _⟩ => ⟨S5x3x8, .f32⟩
  | _, _ => ⟨S3x640x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![3, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_937 : BitVec 32 := 0#32
  let c5_i32_938 : BitVec 32 := 5#32
  let v2095 : BitVec 32 := Scalar.addi c0_i32_937 c5_i32_938
  let c1_i32_939 : BitVec 32 := 1#32
  ⟨c0_i32_937, v2095, c1_i32_939⟩
def k0_mult1 (k0_t1 : Fin k0_t1_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  v2098
def k0_off1 (k0_t1 : Fin k0_t1_loop.trips) : Fin 3 → Nat :=
  let c0_943 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2100 : Index := Scalar.indexCast v2099
  let c0_944 : Index := 0#32
  ![0, v2100.toNat, 0]
def k0_off2 (k0_t1 : Fin k0_t1_loop.trips) : Fin 3 → Nat :=
  let c0_945 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2106 : Index := Scalar.indexCast v2099
  let c0_946 : Index := 0#32
  ![0, v2106.toNat, 0]
def k0_off3 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2117 : Index := Scalar.indexCast v2097
  let arg0 : BitVec 32 := BitVec.ofNat 32 (i 0).val
  let v2118 : Index := Scalar.indexCast arg0
  let c0_949 : Index := 0#32
  ![v2117.toNat, v2118.toNat, 0]
def k0_off4 (k0_t1 : Fin k0_t1_loop.trips) : Fin 3 → Nat :=
  let c0_950 : Index := 0#32
  let c0_951 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2124 : Index := Scalar.indexCast v2099
  ![0, 0, v2124.toNat]
def k0_off5 (k0_t1 : Fin k0_t1_loop.trips) : Fin 3 → Nat :=
  let c0_952 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2128 : Index := Scalar.indexCast v2099
  let c256_953 : Index := 256#32
  ![0, v2128.toNat, 256]
def k0_off6 (k0_t1 : Fin k0_t1_loop.trips) : Fin 3 → Nat :=
  let c1_954 : Index := 1#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2134 : Index := Scalar.indexCast v2099
  let c0_955 : Index := 0#32
  ![1, v2134.toNat, 0]
def k0_off7 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2145 : Index := Scalar.indexCast v2097
  let arg0 : BitVec 32 := BitVec.ofNat 32 (i 0).val
  let v2146 : Index := Scalar.indexCast arg0
  let c1_958 : Index := 1#32
  ![v2145.toNat, v2146.toNat, 1]
def k0_off8 (k0_t1 : Fin k0_t1_loop.trips) : Fin 3 → Nat :=
  let c1_959 : Index := 1#32
  let c0_960 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2152 : Index := Scalar.indexCast v2099
  ![1, 0, v2152.toNat]
def k0_off9 (k0_t1 : Fin k0_t1_loop.trips) : Fin 3 → Nat :=
  let c0_961 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2156 : Index := Scalar.indexCast v2099
  let c512_962 : Index := 512#32
  ![0, v2156.toNat, 512]
def k0_off10 (k0_t1 : Fin k0_t1_loop.trips) : Fin 3 → Nat :=
  let c2_963 : Index := 2#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2162 : Index := Scalar.indexCast v2099
  let c0_964 : Index := 0#32
  ![2, v2162.toNat, 0]
def k0_off11 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2173 : Index := Scalar.indexCast v2097
  let arg0 : BitVec 32 := BitVec.ofNat 32 (i 0).val
  let v2174 : Index := Scalar.indexCast arg0
  let c2_967 : Index := 2#32
  ![v2173.toNat, v2174.toNat, 2]
def k0_off12 (k0_t1 : Fin k0_t1_loop.trips) : Fin 3 → Nat :=
  let c2_968 : Index := 2#32
  let c0_969 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2180 : Index := Scalar.indexCast v2099
  ![2, 0, v2180.toNat]
def k0_off13 (k0_t1 : Fin k0_t1_loop.trips) : Fin 3 → Nat :=
  let c0_970 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2184 : Index := Scalar.indexCast v2099
  let c768_971 : Index := 768#32
  ![0, v2184.toNat, 768]
def k0_off14 (k0_t1 : Fin k0_t1_loop.trips) : Fin 3 → Nat :=
  let c3_972 : Index := 3#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2190 : Index := Scalar.indexCast v2099
  let c0_973 : Index := 0#32
  ![3, v2190.toNat, 0]
def k0_off15 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2201 : Index := Scalar.indexCast v2097
  let arg0 : BitVec 32 := BitVec.ofNat 32 (i 0).val
  let v2202 : Index := Scalar.indexCast arg0
  let c3_976 : Index := 3#32
  ![v2201.toNat, v2202.toNat, 3]
def k0_off16 (k0_t1 : Fin k0_t1_loop.trips) : Fin 3 → Nat :=
  let c3_977 : Index := 3#32
  let c0_978 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2208 : Index := Scalar.indexCast v2099
  ![3, 0, v2208.toNat]
def k0_off17 (k0_t1 : Fin k0_t1_loop.trips) : Fin 3 → Nat :=
  let c0_979 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2212 : Index := Scalar.indexCast v2099
  let c1024_980 : Index := 1024#32
  ![0, v2212.toNat, 1024]
def k0_off18 (k0_t1 : Fin k0_t1_loop.trips) : Fin 3 → Nat :=
  let c4_981 : Index := 4#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2218 : Index := Scalar.indexCast v2099
  let c0_982 : Index := 0#32
  ![4, v2218.toNat, 0]
def k0_off19 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2229 : Index := Scalar.indexCast v2097
  let arg0 : BitVec 32 := BitVec.ofNat 32 (i 0).val
  let v2230 : Index := Scalar.indexCast arg0
  let c4_985 : Index := 4#32
  ![v2229.toNat, v2230.toNat, 4]
def k0_off20 (k0_t1 : Fin k0_t1_loop.trips) : Fin 3 → Nat :=
  let c4_986 : Index := 4#32
  let c0_987 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2236 : Index := Scalar.indexCast v2099
  ![4, 0, v2236.toNat]
def k0_off21 (k0_t1 : Fin k0_t1_loop.trips) : Fin 3 → Nat :=
  let c0_988 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2240 : Index := Scalar.indexCast v2099
  let c1280_989 : Index := 1280#32
  ![0, v2240.toNat, 1280]
def k0_off22 (k0_t1 : Fin k0_t1_loop.trips) : Fin 3 → Nat :=
  let c5_990 : Index := 5#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2246 : Index := Scalar.indexCast v2099
  let c0_991 : Index := 0#32
  ![5, v2246.toNat, 0]
def k0_off23 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2257 : Index := Scalar.indexCast v2097
  let arg0 : BitVec 32 := BitVec.ofNat 32 (i 0).val
  let v2258 : Index := Scalar.indexCast arg0
  let c5_994 : Index := 5#32
  ![v2257.toNat, v2258.toNat, 5]
def k0_off24 (k0_t1 : Fin k0_t1_loop.trips) : Fin 3 → Nat :=
  let c5_995 : Index := 5#32
  let c0_996 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2264 : Index := Scalar.indexCast v2099
  ![5, 0, v2264.toNat]
def k0_off25 (k0_t1 : Fin k0_t1_loop.trips) : Fin 3 → Nat :=
  let c0_997 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2268 : Index := Scalar.indexCast v2099
  let c1536_998 : Index := 1536#32
  ![0, v2268.toNat, 1536]
def k0_off26 (k0_t1 : Fin k0_t1_loop.trips) : Fin 3 → Nat :=
  let c6_999 : Index := 6#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2274 : Index := Scalar.indexCast v2099
  let c0_1000 : Index := 0#32
  ![6, v2274.toNat, 0]
def k0_off27 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2285 : Index := Scalar.indexCast v2097
  let arg0 : BitVec 32 := BitVec.ofNat 32 (i 0).val
  let v2286 : Index := Scalar.indexCast arg0
  let c6_1003 : Index := 6#32
  ![v2285.toNat, v2286.toNat, 6]
def k0_off28 (k0_t1 : Fin k0_t1_loop.trips) : Fin 3 → Nat :=
  let c6_1004 : Index := 6#32
  let c0_1005 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2292 : Index := Scalar.indexCast v2099
  ![6, 0, v2292.toNat]
def k0_off29 (k0_t1 : Fin k0_t1_loop.trips) : Fin 3 → Nat :=
  let c0_1006 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2296 : Index := Scalar.indexCast v2099
  let c1792_1007 : Index := 1792#32
  ![0, v2296.toNat, 1792]
def k0_off30 (k0_t1 : Fin k0_t1_loop.trips) : Fin 3 → Nat :=
  let c7_1008 : Index := 7#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2302 : Index := Scalar.indexCast v2099
  let c0_1009 : Index := 0#32
  ![7, v2302.toNat, 0]
def k0_off31 (i : grid0.Coords) (k0_t1 : Fin k0_t1_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let v2313 : Index := Scalar.indexCast v2097
  let arg0 : BitVec 32 := BitVec.ofNat 32 (i 0).val
  let v2314 : Index := Scalar.indexCast arg0
  let c7_1012 : Index := 7#32
  ![v2313.toNat, v2314.toNat, 7]
def k0_off32 (k0_t1 : Fin k0_t1_loop.trips) : Fin 3 → Nat :=
  let c7_1013 : Index := 7#32
  let c0_1014 : Index := 0#32
  let c0_i32_942 : BitVec 32 := 0#32
  let c0_i32_937 : BitVec 32 := 0#32
  let c1_i32_939 : BitVec 32 := 1#32
  let arg17 : BitVec 32 := Scf.iv c0_i32_937 c1_i32_939 k0_t1
  let c1_i32_941 : BitVec 32 := 1#32
  let v2096 : BitVec 32 := Scalar.muli arg17 c1_i32_941
  let v2097 : BitVec 32 := Scalar.addi c0_i32_942 v2096
  let c128_i32 : BitVec 32 := 128#32
  let v2098 : BitVec 32 := Scalar.muli v2097 c128_i32
  let v2099 : BitVec 32 := v2098
  let v2320 : Index := Scalar.indexCast v2099
  ![7, 0, v2320.toNat]
def k0_cond2 (i : grid0.Coords) : BitVec 1 :=
  let arg1 : BitVec 32 := BitVec.ofNat 32 (i 1).val
  let c0_i32_927 : BitVec 32 := 0#32
  let v2080 : BitVec 1 := Scalar.cmpi .eq arg1 c0_i32_927
  let v2081 : BitVec 32 := Scalar.extui v2080
  let c0_i32_928 : BitVec 32 := 0#32
  let v2082 : BitVec 1 := Scalar.cmpi .ne v2081 c0_i32_928
  v2082

@[reducible] def k0_t2_loop : Scf.Loop 32 :=
  let c0_i32_937 : BitVec 32 := 0#32
  let c8_i32_938 : BitVec 32 := 8#32
  let v2095 : BitVec 32 := Scalar.addi c0_i32_937 c8_i32_938
  let c1_i32_939 : BitVec 32 := 1#32
  ⟨c0_i32_937, v2095, c1_i32_939⟩
def k0_off33 (k0_t2 : Fin k0_t2_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let v2113 : Index := Scalar.indexCast v2097
  let c0_947 : Index := 0#32
  let c0_948 : Index := 0#32
  ![v2113.toNat, 0, 0]
def k0_off34 (k0_t2 : Fin k0_t2_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let v2116 : Index := Scalar.indexCast v2097
  let c0_949 : Index := 0#32
  let c0_950 : Index := 0#32
  ![v2116.toNat, 0, 0]
def k0_off35 (k0_t2 : Fin k0_t2_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let v2126 : Index := Scalar.indexCast v2097
  let c256_956 : Index := 256#32
  let c0_957 : Index := 0#32
  ![v2126.toNat, 256, 0]
def k0_off36 (k0_t2 : Fin k0_t2_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let v2136 : Index := Scalar.indexCast v2097
  let c512_963 : Index := 512#32
  let c0_964 : Index := 0#32
  ![v2136.toNat, 512, 0]
def k0_off37 (i : grid0.Coords) (k0_t2 : Fin k0_t2_loop.trips) : Fin 3 → Nat :=
  let c0_968 : Index := 0#32
  let arg0 : BitVec 32 := BitVec.ofNat 32 (i 0).val
  let v2143 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let v2144 : Index := Scalar.indexCast v2097
  ![0, v2143.toNat, v2144.toNat]
def k0_off38 (k0_t2 : Fin k0_t2_loop.trips) (c0_i32_970 : BitVec 32) : Fin 2 → Nat :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_969 : BitVec 32 := 5#32
  let v2146 : BitVec 32 := Scalar.muli v2097 c5_i32_969
  let v2147 : BitVec 32 := Scalar.addi v2146 c0_i32_970
  let v2148 : Index := Scalar.indexCast v2147
  let c0_971 : Index := 0#32
  ![v2148.toNat, 0]
def k0_off39 (k0_t2 : Fin k0_t2_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let v2316 : Index := Scalar.indexCast v2097
  let c0_1049 : Index := 0#32
  let c0_1050 : Index := 0#32
  ![v2316.toNat, 0, 0]
def k0_off40 (k0_t2 : Fin k0_t2_loop.trips) (c0_i32_1066 : BitVec 32) (c0_i32_1068 : BitVec 32) : Fin 3 → Nat :=
  let c0_1069 : Index := 0#32
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1065 : BitVec 32 := 5#32
  let v2353 : BitVec 32 := Scalar.muli v2097 c5_i32_1065
  let v2354 : BitVec 32 := Scalar.addi v2353 c0_i32_1066
  let c2_i32_1067 : BitVec 32 := 2#32
  let v2355 : BitVec 32 := Scalar.muli v2354 c2_i32_1067
  let v2356 : BitVec 32 := Scalar.addi v2355 c0_i32_1068
  let v2357 : Index := Scalar.indexCast v2356
  let c0_1070 : Index := 0#32
  ![0, v2357.toNat, 0]
def k0_mult2 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1065 : BitVec 32 := 5#32
  let v2353 : BitVec 32 := Scalar.muli v2097 c5_i32_1065
  let c0_i32_1066 : BitVec 32 := 0#32
  let v2354 : BitVec 32 := Scalar.addi v2353 c0_i32_1066
  let c256_i32 : BitVec 32 := 256#32
  let v2368 : BitVec 32 := Scalar.muli v2354 c256_i32
  let c0_i32_1073 : BitVec 32 := 0#32
  let v2369 : BitVec 32 := Scalar.addi v2368 c0_i32_1073
  v2369
def k0_off41 (k0_t2 : Fin k0_t2_loop.trips) (c0_i32_1066 : BitVec 32) (c0_i32_1073 : BitVec 32) : Fin 3 → Nat :=
  let c0_1074 : Index := 0#32
  let c0_1075 : Index := 0#32
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1065 : BitVec 32 := 5#32
  let v2353 : BitVec 32 := Scalar.muli v2097 c5_i32_1065
  let v2354 : BitVec 32 := Scalar.addi v2353 c0_i32_1066
  let c256_i32 : BitVec 32 := 256#32
  let v2368 : BitVec 32 := Scalar.muli v2354 c256_i32
  let v2369 : BitVec 32 := Scalar.addi v2368 c0_i32_1073
  let v2370 : BitVec 32 := v2369
  let v2373 : Index := Scalar.indexCast v2370
  ![0, 0, v2373.toNat]
def k0_mult3 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1086 : BitVec 32 := 5#32
  let v2407 : BitVec 32 := Scalar.muli v2097 c5_i32_1086
  let c0_i32_1087 : BitVec 32 := 0#32
  let v2408 : BitVec 32 := Scalar.addi v2407 c0_i32_1087
  let c256_i32_1094 : BitVec 32 := 256#32
  let v2422 : BitVec 32 := Scalar.muli v2408 c256_i32_1094
  let c128_i32 : BitVec 32 := 128#32
  let v2423 : BitVec 32 := Scalar.addi v2422 c128_i32
  v2423
def k0_mult4 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1108 : BitVec 32 := 5#32
  let v2463 : BitVec 32 := Scalar.muli v2097 c5_i32_1108
  let c1_i32_1109 : BitVec 32 := 1#32
  let v2464 : BitVec 32 := Scalar.addi v2463 c1_i32_1109
  let c256_i32_1116 : BitVec 32 := 256#32
  let v2478 : BitVec 32 := Scalar.muli v2464 c256_i32_1116
  let c0_i32_1117 : BitVec 32 := 0#32
  let v2479 : BitVec 32 := Scalar.addi v2478 c0_i32_1117
  v2479
def k0_mult5 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1130 : BitVec 32 := 5#32
  let v2517 : BitVec 32 := Scalar.muli v2097 c5_i32_1130
  let c1_i32_1131 : BitVec 32 := 1#32
  let v2518 : BitVec 32 := Scalar.addi v2517 c1_i32_1131
  let c256_i32_1138 : BitVec 32 := 256#32
  let v2532 : BitVec 32 := Scalar.muli v2518 c256_i32_1138
  let c128_i32_1139 : BitVec 32 := 128#32
  let v2533 : BitVec 32 := Scalar.addi v2532 c128_i32_1139
  v2533
def k0_mult6 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1158 : BitVec 32 := 5#32
  let v2578 : BitVec 32 := Scalar.muli v2097 c5_i32_1158
  let c2_i32_1159 : BitVec 32 := 2#32
  let v2579 : BitVec 32 := Scalar.addi v2578 c2_i32_1159
  let c256_i32_1166 : BitVec 32 := 256#32
  let v2593 : BitVec 32 := Scalar.muli v2579 c256_i32_1166
  let c0_i32_1167 : BitVec 32 := 0#32
  let v2594 : BitVec 32 := Scalar.addi v2593 c0_i32_1167
  v2594
def k0_mult7 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1180 : BitVec 32 := 5#32
  let v2632 : BitVec 32 := Scalar.muli v2097 c5_i32_1180
  let c2_i32_1181 : BitVec 32 := 2#32
  let v2633 : BitVec 32 := Scalar.addi v2632 c2_i32_1181
  let c256_i32_1188 : BitVec 32 := 256#32
  let v2647 : BitVec 32 := Scalar.muli v2633 c256_i32_1188
  let c128_i32_1189 : BitVec 32 := 128#32
  let v2648 : BitVec 32 := Scalar.addi v2647 c128_i32_1189
  v2648
def k0_mult8 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1203 : BitVec 32 := 5#32
  let v2688 : BitVec 32 := Scalar.muli v2097 c5_i32_1203
  let c3_i32_1204 : BitVec 32 := 3#32
  let v2689 : BitVec 32 := Scalar.addi v2688 c3_i32_1204
  let c256_i32_1211 : BitVec 32 := 256#32
  let v2703 : BitVec 32 := Scalar.muli v2689 c256_i32_1211
  let c0_i32_1212 : BitVec 32 := 0#32
  let v2704 : BitVec 32 := Scalar.addi v2703 c0_i32_1212
  v2704
def k0_mult9 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1225 : BitVec 32 := 5#32
  let v2742 : BitVec 32 := Scalar.muli v2097 c5_i32_1225
  let c3_i32_1226 : BitVec 32 := 3#32
  let v2743 : BitVec 32 := Scalar.addi v2742 c3_i32_1226
  let c256_i32_1233 : BitVec 32 := 256#32
  let v2757 : BitVec 32 := Scalar.muli v2743 c256_i32_1233
  let c128_i32_1234 : BitVec 32 := 128#32
  let v2758 : BitVec 32 := Scalar.addi v2757 c128_i32_1234
  v2758
def k0_mult10 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1253 : BitVec 32 := 5#32
  let v2803 : BitVec 32 := Scalar.muli v2097 c5_i32_1253
  let c4_i32_1254 : BitVec 32 := 4#32
  let v2804 : BitVec 32 := Scalar.addi v2803 c4_i32_1254
  let c256_i32_1261 : BitVec 32 := 256#32
  let v2818 : BitVec 32 := Scalar.muli v2804 c256_i32_1261
  let c0_i32_1262 : BitVec 32 := 0#32
  let v2819 : BitVec 32 := Scalar.addi v2818 c0_i32_1262
  v2819
def k0_mult11 (k0_t2 : Fin k0_t2_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t2
  let c1_i32_941 : BitVec 32 := 1#32
  let v2096 : BitVec 32 := Scalar.muli arg17 c1_i32_941
  let v2097 : BitVec 32 := Scalar.addi c0_i32_942 v2096
  let c5_i32_1275 : BitVec 32 := 5#32
  let v2857 : BitVec 32 := Scalar.muli v2097 c5_i32_1275
  let c4_i32_1276 : BitVec 32 := 4#32
  let v2858 : BitVec 32 := Scalar.addi v2857 c4_i32_1276
  let c256_i32_1283 : BitVec 32 := 256#32
  let v2872 : BitVec 32 := Scalar.muli v2858 c256_i32_1283
  let c128_i32_1284 : BitVec 32 := 128#32
  let v2873 : BitVec 32 := Scalar.addi v2872 c128_i32_1284
  v2873
def k0_cond3 (i : grid0.Coords) : BitVec 1 :=
  let arg1 : BitVec 32 := BitVec.ofNat 32 (i 1).val
  let c1_i32_929 : BitVec 32 := 1#32
  let v2083 : BitVec 1 := Scalar.cmpi .eq arg1 c1_i32_929
  let v2084 : BitVec 32 := Scalar.extui v2083
  let c0_i32_930 : BitVec 32 := 0#32
  let v2085 : BitVec 1 := Scalar.cmpi .ne v2084 c0_i32_930
  v2085

@[reducible] def k0_t3_loop : Scf.Loop 32 :=
  let c0_i32_937 : BitVec 32 := 0#32
  let c8_i32_938 : BitVec 32 := 8#32
  let v2095 : BitVec 32 := Scalar.addi c0_i32_937 c8_i32_938
  let c1_i32_939 : BitVec 32 := 1#32
  ⟨c0_i32_937, v2095, c1_i32_939⟩
def k0_off42 (k0_t3 : Fin k0_t3_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let v2113 : Index := Scalar.indexCast v2097
  let c0_947 : Index := 0#32
  let c0_948 : Index := 0#32
  ![v2113.toNat, 0, 0]
def k0_off43 (k0_t3 : Fin k0_t3_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let v2126 : Index := Scalar.indexCast v2097
  let c256_956 : Index := 256#32
  let c0_957 : Index := 0#32
  ![v2126.toNat, 256, 0]
def k0_off44 (k0_t3 : Fin k0_t3_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let v2136 : Index := Scalar.indexCast v2097
  let c512_963 : Index := 512#32
  let c0_964 : Index := 0#32
  ![v2136.toNat, 512, 0]
def k0_off45 (i : grid0.Coords) (k0_t3 : Fin k0_t3_loop.trips) : Fin 3 → Nat :=
  let c0_968 : Index := 0#32
  let arg0 : BitVec 32 := BitVec.ofNat 32 (i 0).val
  let v2143 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let v2144 : Index := Scalar.indexCast v2097
  ![0, v2143.toNat, v2144.toNat]
def k0_off46 (i : grid0.Coords) (k0_t3 : Fin k0_t3_loop.trips) : Fin 3 → Nat :=
  let c1_969 : Index := 1#32
  let arg0 : BitVec 32 := BitVec.ofNat 32 (i 0).val
  let v2146 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let v2147 : Index := Scalar.indexCast v2097
  ![1, v2146.toNat, v2147.toNat]
def k0_off47 (k0_t3 : Fin k0_t3_loop.trips) (c0_i32_971 : BitVec 32) : Fin 2 → Nat :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_970 : BitVec 32 := 5#32
  let v2149 : BitVec 32 := Scalar.muli v2097 c5_i32_970
  let v2150 : BitVec 32 := Scalar.addi v2149 c0_i32_971
  let v2151 : Index := Scalar.indexCast v2150
  let c0_972 : Index := 0#32
  ![v2151.toNat, 0]
def k0_off48 (k0_t3 : Fin k0_t3_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let v2444 : Index := Scalar.indexCast v2097
  let c0_1100 : Index := 0#32
  let c0_1101 : Index := 0#32
  ![v2444.toNat, 0, 0]
def k0_off49 (k0_t3 : Fin k0_t3_loop.trips) (c0_i32_1117 : BitVec 32) (c0_i32_1119 : BitVec 32) : Fin 3 → Nat :=
  let c0_1120 : Index := 0#32
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1116 : BitVec 32 := 5#32
  let v2481 : BitVec 32 := Scalar.muli v2097 c5_i32_1116
  let v2482 : BitVec 32 := Scalar.addi v2481 c0_i32_1117
  let c2_i32_1118 : BitVec 32 := 2#32
  let v2483 : BitVec 32 := Scalar.muli v2482 c2_i32_1118
  let v2484 : BitVec 32 := Scalar.addi v2483 c0_i32_1119
  let v2485 : Index := Scalar.indexCast v2484
  let c0_1121 : Index := 0#32
  ![0, v2485.toNat, 0]
def k0_mult12 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1116 : BitVec 32 := 5#32
  let v2481 : BitVec 32 := Scalar.muli v2097 c5_i32_1116
  let c0_i32_1117 : BitVec 32 := 0#32
  let v2482 : BitVec 32 := Scalar.addi v2481 c0_i32_1117
  let c256_i32 : BitVec 32 := 256#32
  let v2496 : BitVec 32 := Scalar.muli v2482 c256_i32
  let c0_i32_1124 : BitVec 32 := 0#32
  let v2497 : BitVec 32 := Scalar.addi v2496 c0_i32_1124
  v2497
def k0_off50 (k0_t3 : Fin k0_t3_loop.trips) (c0_i32_1117 : BitVec 32) (c0_i32_1124 : BitVec 32) : Fin 3 → Nat :=
  let c0_1125 : Index := 0#32
  let c0_1126 : Index := 0#32
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1116 : BitVec 32 := 5#32
  let v2481 : BitVec 32 := Scalar.muli v2097 c5_i32_1116
  let v2482 : BitVec 32 := Scalar.addi v2481 c0_i32_1117
  let c256_i32 : BitVec 32 := 256#32
  let v2496 : BitVec 32 := Scalar.muli v2482 c256_i32
  let v2497 : BitVec 32 := Scalar.addi v2496 c0_i32_1124
  let v2498 : BitVec 32 := v2497
  let v2501 : Index := Scalar.indexCast v2498
  ![0, 0, v2501.toNat]
def k0_mult13 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1137 : BitVec 32 := 5#32
  let v2535 : BitVec 32 := Scalar.muli v2097 c5_i32_1137
  let c0_i32_1138 : BitVec 32 := 0#32
  let v2536 : BitVec 32 := Scalar.addi v2535 c0_i32_1138
  let c256_i32_1145 : BitVec 32 := 256#32
  let v2550 : BitVec 32 := Scalar.muli v2536 c256_i32_1145
  let c128_i32 : BitVec 32 := 128#32
  let v2551 : BitVec 32 := Scalar.addi v2550 c128_i32
  v2551
def k0_mult14 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1159 : BitVec 32 := 5#32
  let v2591 : BitVec 32 := Scalar.muli v2097 c5_i32_1159
  let c1_i32_1160 : BitVec 32 := 1#32
  let v2592 : BitVec 32 := Scalar.addi v2591 c1_i32_1160
  let c256_i32_1167 : BitVec 32 := 256#32
  let v2606 : BitVec 32 := Scalar.muli v2592 c256_i32_1167
  let c0_i32_1168 : BitVec 32 := 0#32
  let v2607 : BitVec 32 := Scalar.addi v2606 c0_i32_1168
  v2607
def k0_mult15 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1181 : BitVec 32 := 5#32
  let v2645 : BitVec 32 := Scalar.muli v2097 c5_i32_1181
  let c1_i32_1182 : BitVec 32 := 1#32
  let v2646 : BitVec 32 := Scalar.addi v2645 c1_i32_1182
  let c256_i32_1189 : BitVec 32 := 256#32
  let v2660 : BitVec 32 := Scalar.muli v2646 c256_i32_1189
  let c128_i32_1190 : BitVec 32 := 128#32
  let v2661 : BitVec 32 := Scalar.addi v2660 c128_i32_1190
  v2661
def k0_mult16 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1209 : BitVec 32 := 5#32
  let v2706 : BitVec 32 := Scalar.muli v2097 c5_i32_1209
  let c2_i32_1210 : BitVec 32 := 2#32
  let v2707 : BitVec 32 := Scalar.addi v2706 c2_i32_1210
  let c256_i32_1217 : BitVec 32 := 256#32
  let v2721 : BitVec 32 := Scalar.muli v2707 c256_i32_1217
  let c0_i32_1218 : BitVec 32 := 0#32
  let v2722 : BitVec 32 := Scalar.addi v2721 c0_i32_1218
  v2722
def k0_mult17 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1231 : BitVec 32 := 5#32
  let v2760 : BitVec 32 := Scalar.muli v2097 c5_i32_1231
  let c2_i32_1232 : BitVec 32 := 2#32
  let v2761 : BitVec 32 := Scalar.addi v2760 c2_i32_1232
  let c256_i32_1239 : BitVec 32 := 256#32
  let v2775 : BitVec 32 := Scalar.muli v2761 c256_i32_1239
  let c128_i32_1240 : BitVec 32 := 128#32
  let v2776 : BitVec 32 := Scalar.addi v2775 c128_i32_1240
  v2776
def k0_mult18 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1254 : BitVec 32 := 5#32
  let v2816 : BitVec 32 := Scalar.muli v2097 c5_i32_1254
  let c3_i32_1255 : BitVec 32 := 3#32
  let v2817 : BitVec 32 := Scalar.addi v2816 c3_i32_1255
  let c256_i32_1262 : BitVec 32 := 256#32
  let v2831 : BitVec 32 := Scalar.muli v2817 c256_i32_1262
  let c0_i32_1263 : BitVec 32 := 0#32
  let v2832 : BitVec 32 := Scalar.addi v2831 c0_i32_1263
  v2832
def k0_mult19 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1276 : BitVec 32 := 5#32
  let v2870 : BitVec 32 := Scalar.muli v2097 c5_i32_1276
  let c3_i32_1277 : BitVec 32 := 3#32
  let v2871 : BitVec 32 := Scalar.addi v2870 c3_i32_1277
  let c256_i32_1284 : BitVec 32 := 256#32
  let v2885 : BitVec 32 := Scalar.muli v2871 c256_i32_1284
  let c128_i32_1285 : BitVec 32 := 128#32
  let v2886 : BitVec 32 := Scalar.addi v2885 c128_i32_1285
  v2886
def k0_mult20 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1304 : BitVec 32 := 5#32
  let v2931 : BitVec 32 := Scalar.muli v2097 c5_i32_1304
  let c4_i32_1305 : BitVec 32 := 4#32
  let v2932 : BitVec 32 := Scalar.addi v2931 c4_i32_1305
  let c256_i32_1312 : BitVec 32 := 256#32
  let v2946 : BitVec 32 := Scalar.muli v2932 c256_i32_1312
  let c0_i32_1313 : BitVec 32 := 0#32
  let v2947 : BitVec 32 := Scalar.addi v2946 c0_i32_1313
  v2947
def k0_mult21 (k0_t3 : Fin k0_t3_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t3
  let c1_i32_941 : BitVec 32 := 1#32
  let v2096 : BitVec 32 := Scalar.muli arg17 c1_i32_941
  let v2097 : BitVec 32 := Scalar.addi c0_i32_942 v2096
  let c5_i32_1326 : BitVec 32 := 5#32
  let v2985 : BitVec 32 := Scalar.muli v2097 c5_i32_1326
  let c4_i32_1327 : BitVec 32 := 4#32
  let v2986 : BitVec 32 := Scalar.addi v2985 c4_i32_1327
  let c256_i32_1334 : BitVec 32 := 256#32
  let v3000 : BitVec 32 := Scalar.muli v2986 c256_i32_1334
  let c128_i32_1335 : BitVec 32 := 128#32
  let v3001 : BitVec 32 := Scalar.addi v3000 c128_i32_1335
  v3001
def k0_cond4 (i : grid0.Coords) : BitVec 1 :=
  let arg1 : BitVec 32 := BitVec.ofNat 32 (i 1).val
  let c2_i32_931 : BitVec 32 := 2#32
  let v2086 : BitVec 1 := Scalar.cmpi .eq arg1 c2_i32_931
  let v2087 : BitVec 32 := Scalar.extui v2086
  let c0_i32_932 : BitVec 32 := 0#32
  let v2088 : BitVec 1 := Scalar.cmpi .ne v2087 c0_i32_932
  v2088

@[reducible] def k0_t4_loop : Scf.Loop 32 :=
  let c0_i32_937 : BitVec 32 := 0#32
  let c8_i32_938 : BitVec 32 := 8#32
  let v2095 : BitVec 32 := Scalar.addi c0_i32_937 c8_i32_938
  let c1_i32_939 : BitVec 32 := 1#32
  ⟨c0_i32_937, v2095, c1_i32_939⟩
def k0_off51 (k0_t4 : Fin k0_t4_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2113 : Index := Scalar.indexCast v2097
  let c0_947 : Index := 0#32
  let c0_948 : Index := 0#32
  ![v2113.toNat, 0, 0]
def k0_off52 (k0_t4 : Fin k0_t4_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2116 : Index := Scalar.indexCast v2097
  let c0_949 : Index := 0#32
  let c0_950 : Index := 0#32
  ![v2116.toNat, 0, 0]
def k0_off53 (k0_t4 : Fin k0_t4_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2126 : Index := Scalar.indexCast v2097
  let c256_956 : Index := 256#32
  let c0_957 : Index := 0#32
  ![v2126.toNat, 256, 0]
def k0_off54 (k0_t4 : Fin k0_t4_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2136 : Index := Scalar.indexCast v2097
  let c512_963 : Index := 512#32
  let c0_964 : Index := 0#32
  ![v2136.toNat, 512, 0]
def k0_off55 (i : grid0.Coords) (k0_t4 : Fin k0_t4_loop.trips) : Fin 3 → Nat :=
  let c0_968 : Index := 0#32
  let arg0 : BitVec 32 := BitVec.ofNat 32 (i 0).val
  let v2143 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2144 : Index := Scalar.indexCast v2097
  ![0, v2143.toNat, v2144.toNat]
def k0_off56 (i : grid0.Coords) (k0_t4 : Fin k0_t4_loop.trips) : Fin 3 → Nat :=
  let c1_969 : Index := 1#32
  let arg0 : BitVec 32 := BitVec.ofNat 32 (i 0).val
  let v2146 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2147 : Index := Scalar.indexCast v2097
  ![1, v2146.toNat, v2147.toNat]
def k0_off57 (i : grid0.Coords) (k0_t4 : Fin k0_t4_loop.trips) : Fin 3 → Nat :=
  let c2_970 : Index := 2#32
  let arg0 : BitVec 32 := BitVec.ofNat 32 (i 0).val
  let v2149 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2150 : Index := Scalar.indexCast v2097
  ![2, v2149.toNat, v2150.toNat]
def k0_off58 (k0_t4 : Fin k0_t4_loop.trips) (c0_i32_972 : BitVec 32) : Fin 2 → Nat :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_971 : BitVec 32 := 5#32
  let v2152 : BitVec 32 := Scalar.muli v2097 c5_i32_971
  let v2153 : BitVec 32 := Scalar.addi v2152 c0_i32_972
  let v2154 : Index := Scalar.indexCast v2153
  let c0_973 : Index := 0#32
  ![v2154.toNat, 0]
def k0_off59 (k0_t4 : Fin k0_t4_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let v2572 : Index := Scalar.indexCast v2097
  let c0_1151 : Index := 0#32
  let c0_1152 : Index := 0#32
  ![v2572.toNat, 0, 0]
def k0_off60 (k0_t4 : Fin k0_t4_loop.trips) (c0_i32_1168 : BitVec 32) (c0_i32_1170 : BitVec 32) : Fin 3 → Nat :=
  let c0_1171 : Index := 0#32
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1167 : BitVec 32 := 5#32
  let v2609 : BitVec 32 := Scalar.muli v2097 c5_i32_1167
  let v2610 : BitVec 32 := Scalar.addi v2609 c0_i32_1168
  let c2_i32_1169 : BitVec 32 := 2#32
  let v2611 : BitVec 32 := Scalar.muli v2610 c2_i32_1169
  let v2612 : BitVec 32 := Scalar.addi v2611 c0_i32_1170
  let v2613 : Index := Scalar.indexCast v2612
  let c0_1172 : Index := 0#32
  ![0, v2613.toNat, 0]
def k0_mult22 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1167 : BitVec 32 := 5#32
  let v2609 : BitVec 32 := Scalar.muli v2097 c5_i32_1167
  let c0_i32_1168 : BitVec 32 := 0#32
  let v2610 : BitVec 32 := Scalar.addi v2609 c0_i32_1168
  let c256_i32 : BitVec 32 := 256#32
  let v2624 : BitVec 32 := Scalar.muli v2610 c256_i32
  let c0_i32_1175 : BitVec 32 := 0#32
  let v2625 : BitVec 32 := Scalar.addi v2624 c0_i32_1175
  v2625
def k0_off61 (k0_t4 : Fin k0_t4_loop.trips) (c0_i32_1168 : BitVec 32) (c0_i32_1175 : BitVec 32) : Fin 3 → Nat :=
  let c0_1176 : Index := 0#32
  let c0_1177 : Index := 0#32
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1167 : BitVec 32 := 5#32
  let v2609 : BitVec 32 := Scalar.muli v2097 c5_i32_1167
  let v2610 : BitVec 32 := Scalar.addi v2609 c0_i32_1168
  let c256_i32 : BitVec 32 := 256#32
  let v2624 : BitVec 32 := Scalar.muli v2610 c256_i32
  let v2625 : BitVec 32 := Scalar.addi v2624 c0_i32_1175
  let v2626 : BitVec 32 := v2625
  let v2629 : Index := Scalar.indexCast v2626
  ![0, 0, v2629.toNat]
def k0_mult23 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1188 : BitVec 32 := 5#32
  let v2663 : BitVec 32 := Scalar.muli v2097 c5_i32_1188
  let c0_i32_1189 : BitVec 32 := 0#32
  let v2664 : BitVec 32 := Scalar.addi v2663 c0_i32_1189
  let c256_i32_1196 : BitVec 32 := 256#32
  let v2678 : BitVec 32 := Scalar.muli v2664 c256_i32_1196
  let c128_i32 : BitVec 32 := 128#32
  let v2679 : BitVec 32 := Scalar.addi v2678 c128_i32
  v2679
def k0_mult24 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1210 : BitVec 32 := 5#32
  let v2719 : BitVec 32 := Scalar.muli v2097 c5_i32_1210
  let c1_i32_1211 : BitVec 32 := 1#32
  let v2720 : BitVec 32 := Scalar.addi v2719 c1_i32_1211
  let c256_i32_1218 : BitVec 32 := 256#32
  let v2734 : BitVec 32 := Scalar.muli v2720 c256_i32_1218
  let c0_i32_1219 : BitVec 32 := 0#32
  let v2735 : BitVec 32 := Scalar.addi v2734 c0_i32_1219
  v2735
def k0_mult25 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1232 : BitVec 32 := 5#32
  let v2773 : BitVec 32 := Scalar.muli v2097 c5_i32_1232
  let c1_i32_1233 : BitVec 32 := 1#32
  let v2774 : BitVec 32 := Scalar.addi v2773 c1_i32_1233
  let c256_i32_1240 : BitVec 32 := 256#32
  let v2788 : BitVec 32 := Scalar.muli v2774 c256_i32_1240
  let c128_i32_1241 : BitVec 32 := 128#32
  let v2789 : BitVec 32 := Scalar.addi v2788 c128_i32_1241
  v2789
def k0_mult26 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1260 : BitVec 32 := 5#32
  let v2834 : BitVec 32 := Scalar.muli v2097 c5_i32_1260
  let c2_i32_1261 : BitVec 32 := 2#32
  let v2835 : BitVec 32 := Scalar.addi v2834 c2_i32_1261
  let c256_i32_1268 : BitVec 32 := 256#32
  let v2849 : BitVec 32 := Scalar.muli v2835 c256_i32_1268
  let c0_i32_1269 : BitVec 32 := 0#32
  let v2850 : BitVec 32 := Scalar.addi v2849 c0_i32_1269
  v2850
def k0_mult27 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1282 : BitVec 32 := 5#32
  let v2888 : BitVec 32 := Scalar.muli v2097 c5_i32_1282
  let c2_i32_1283 : BitVec 32 := 2#32
  let v2889 : BitVec 32 := Scalar.addi v2888 c2_i32_1283
  let c256_i32_1290 : BitVec 32 := 256#32
  let v2903 : BitVec 32 := Scalar.muli v2889 c256_i32_1290
  let c128_i32_1291 : BitVec 32 := 128#32
  let v2904 : BitVec 32 := Scalar.addi v2903 c128_i32_1291
  v2904
def k0_mult28 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1305 : BitVec 32 := 5#32
  let v2944 : BitVec 32 := Scalar.muli v2097 c5_i32_1305
  let c3_i32_1306 : BitVec 32 := 3#32
  let v2945 : BitVec 32 := Scalar.addi v2944 c3_i32_1306
  let c256_i32_1313 : BitVec 32 := 256#32
  let v2959 : BitVec 32 := Scalar.muli v2945 c256_i32_1313
  let c0_i32_1314 : BitVec 32 := 0#32
  let v2960 : BitVec 32 := Scalar.addi v2959 c0_i32_1314
  v2960
def k0_mult29 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1327 : BitVec 32 := 5#32
  let v2998 : BitVec 32 := Scalar.muli v2097 c5_i32_1327
  let c3_i32_1328 : BitVec 32 := 3#32
  let v2999 : BitVec 32 := Scalar.addi v2998 c3_i32_1328
  let c256_i32_1335 : BitVec 32 := 256#32
  let v3013 : BitVec 32 := Scalar.muli v2999 c256_i32_1335
  let c128_i32_1336 : BitVec 32 := 128#32
  let v3014 : BitVec 32 := Scalar.addi v3013 c128_i32_1336
  v3014
def k0_mult30 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1355 : BitVec 32 := 5#32
  let v3059 : BitVec 32 := Scalar.muli v2097 c5_i32_1355
  let c4_i32_1356 : BitVec 32 := 4#32
  let v3060 : BitVec 32 := Scalar.addi v3059 c4_i32_1356
  let c256_i32_1363 : BitVec 32 := 256#32
  let v3074 : BitVec 32 := Scalar.muli v3060 c256_i32_1363
  let c0_i32_1364 : BitVec 32 := 0#32
  let v3075 : BitVec 32 := Scalar.addi v3074 c0_i32_1364
  v3075
def k0_mult31 (k0_t4 : Fin k0_t4_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t4
  let c1_i32_941 : BitVec 32 := 1#32
  let v2096 : BitVec 32 := Scalar.muli arg17 c1_i32_941
  let v2097 : BitVec 32 := Scalar.addi c0_i32_942 v2096
  let c5_i32_1377 : BitVec 32 := 5#32
  let v3113 : BitVec 32 := Scalar.muli v2097 c5_i32_1377
  let c4_i32_1378 : BitVec 32 := 4#32
  let v3114 : BitVec 32 := Scalar.addi v3113 c4_i32_1378
  let c256_i32_1385 : BitVec 32 := 256#32
  let v3128 : BitVec 32 := Scalar.muli v3114 c256_i32_1385
  let c128_i32_1386 : BitVec 32 := 128#32
  let v3129 : BitVec 32 := Scalar.addi v3128 c128_i32_1386
  v3129
def k0_cond5 (i : grid0.Coords) : BitVec 1 :=
  let arg1 : BitVec 32 := BitVec.ofNat 32 (i 1).val
  let c3_i32_933 : BitVec 32 := 3#32
  let v2089 : BitVec 1 := Scalar.cmpi .eq arg1 c3_i32_933
  let v2090 : BitVec 32 := Scalar.extui v2089
  let c0_i32_934 : BitVec 32 := 0#32
  let v2091 : BitVec 1 := Scalar.cmpi .ne v2090 c0_i32_934
  v2091

@[reducible] def k0_t5_loop : Scf.Loop 32 :=
  let c0_i32_937 : BitVec 32 := 0#32
  let c8_i32_938 : BitVec 32 := 8#32
  let v2095 : BitVec 32 := Scalar.addi c0_i32_937 c8_i32_938
  let c1_i32_939 : BitVec 32 := 1#32
  ⟨c0_i32_937, v2095, c1_i32_939⟩
def k0_off62 (k0_t5 : Fin k0_t5_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2113 : Index := Scalar.indexCast v2097
  let c0_947 : Index := 0#32
  let c0_948 : Index := 0#32
  ![v2113.toNat, 0, 0]
def k0_off63 (k0_t5 : Fin k0_t5_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2116 : Index := Scalar.indexCast v2097
  let c0_949 : Index := 0#32
  let c0_950 : Index := 0#32
  ![v2116.toNat, 0, 0]
def k0_off64 (k0_t5 : Fin k0_t5_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2126 : Index := Scalar.indexCast v2097
  let c256_956 : Index := 256#32
  let c0_957 : Index := 0#32
  ![v2126.toNat, 256, 0]
def k0_off65 (k0_t5 : Fin k0_t5_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2136 : Index := Scalar.indexCast v2097
  let c512_963 : Index := 512#32
  let c0_964 : Index := 0#32
  ![v2136.toNat, 512, 0]
def k0_off66 (i : grid0.Coords) (k0_t5 : Fin k0_t5_loop.trips) : Fin 3 → Nat :=
  let c0_968 : Index := 0#32
  let arg0 : BitVec 32 := BitVec.ofNat 32 (i 0).val
  let v2143 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2144 : Index := Scalar.indexCast v2097
  ![0, v2143.toNat, v2144.toNat]
def k0_off67 (i : grid0.Coords) (k0_t5 : Fin k0_t5_loop.trips) : Fin 3 → Nat :=
  let c1_969 : Index := 1#32
  let arg0 : BitVec 32 := BitVec.ofNat 32 (i 0).val
  let v2146 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2147 : Index := Scalar.indexCast v2097
  ![1, v2146.toNat, v2147.toNat]
def k0_off68 (i : grid0.Coords) (k0_t5 : Fin k0_t5_loop.trips) : Fin 3 → Nat :=
  let c2_970 : Index := 2#32
  let arg0 : BitVec 32 := BitVec.ofNat 32 (i 0).val
  let v2149 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2150 : Index := Scalar.indexCast v2097
  ![2, v2149.toNat, v2150.toNat]
def k0_off69 (i : grid0.Coords) (k0_t5 : Fin k0_t5_loop.trips) : Fin 3 → Nat :=
  let c3_971 : Index := 3#32
  let arg0 : BitVec 32 := BitVec.ofNat 32 (i 0).val
  let v2152 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2153 : Index := Scalar.indexCast v2097
  ![3, v2152.toNat, v2153.toNat]
def k0_off70 (k0_t5 : Fin k0_t5_loop.trips) (c0_i32_973 : BitVec 32) : Fin 2 → Nat :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_972 : BitVec 32 := 5#32
  let v2155 : BitVec 32 := Scalar.muli v2097 c5_i32_972
  let v2156 : BitVec 32 := Scalar.addi v2155 c0_i32_973
  let v2157 : Index := Scalar.indexCast v2156
  let c0_974 : Index := 0#32
  ![v2157.toNat, 0]
def k0_off71 (k0_t5 : Fin k0_t5_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let v2700 : Index := Scalar.indexCast v2097
  let c0_1202 : Index := 0#32
  let c0_1203 : Index := 0#32
  ![v2700.toNat, 0, 0]
def k0_off72 (k0_t5 : Fin k0_t5_loop.trips) (c0_i32_1219 : BitVec 32) (c0_i32_1221 : BitVec 32) : Fin 3 → Nat :=
  let c0_1222 : Index := 0#32
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1218 : BitVec 32 := 5#32
  let v2737 : BitVec 32 := Scalar.muli v2097 c5_i32_1218
  let v2738 : BitVec 32 := Scalar.addi v2737 c0_i32_1219
  let c2_i32_1220 : BitVec 32 := 2#32
  let v2739 : BitVec 32 := Scalar.muli v2738 c2_i32_1220
  let v2740 : BitVec 32 := Scalar.addi v2739 c0_i32_1221
  let v2741 : Index := Scalar.indexCast v2740
  let c0_1223 : Index := 0#32
  ![0, v2741.toNat, 0]
def k0_mult32 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1218 : BitVec 32 := 5#32
  let v2737 : BitVec 32 := Scalar.muli v2097 c5_i32_1218
  let c0_i32_1219 : BitVec 32 := 0#32
  let v2738 : BitVec 32 := Scalar.addi v2737 c0_i32_1219
  let c256_i32 : BitVec 32 := 256#32
  let v2752 : BitVec 32 := Scalar.muli v2738 c256_i32
  let c0_i32_1226 : BitVec 32 := 0#32
  let v2753 : BitVec 32 := Scalar.addi v2752 c0_i32_1226
  v2753
def k0_off73 (k0_t5 : Fin k0_t5_loop.trips) (c0_i32_1219 : BitVec 32) (c0_i32_1226 : BitVec 32) : Fin 3 → Nat :=
  let c0_1227 : Index := 0#32
  let c0_1228 : Index := 0#32
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1218 : BitVec 32 := 5#32
  let v2737 : BitVec 32 := Scalar.muli v2097 c5_i32_1218
  let v2738 : BitVec 32 := Scalar.addi v2737 c0_i32_1219
  let c256_i32 : BitVec 32 := 256#32
  let v2752 : BitVec 32 := Scalar.muli v2738 c256_i32
  let v2753 : BitVec 32 := Scalar.addi v2752 c0_i32_1226
  let v2754 : BitVec 32 := v2753
  let v2757 : Index := Scalar.indexCast v2754
  ![0, 0, v2757.toNat]
def k0_mult33 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1239 : BitVec 32 := 5#32
  let v2791 : BitVec 32 := Scalar.muli v2097 c5_i32_1239
  let c0_i32_1240 : BitVec 32 := 0#32
  let v2792 : BitVec 32 := Scalar.addi v2791 c0_i32_1240
  let c256_i32_1247 : BitVec 32 := 256#32
  let v2806 : BitVec 32 := Scalar.muli v2792 c256_i32_1247
  let c128_i32 : BitVec 32 := 128#32
  let v2807 : BitVec 32 := Scalar.addi v2806 c128_i32
  v2807
def k0_mult34 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1261 : BitVec 32 := 5#32
  let v2847 : BitVec 32 := Scalar.muli v2097 c5_i32_1261
  let c1_i32_1262 : BitVec 32 := 1#32
  let v2848 : BitVec 32 := Scalar.addi v2847 c1_i32_1262
  let c256_i32_1269 : BitVec 32 := 256#32
  let v2862 : BitVec 32 := Scalar.muli v2848 c256_i32_1269
  let c0_i32_1270 : BitVec 32 := 0#32
  let v2863 : BitVec 32 := Scalar.addi v2862 c0_i32_1270
  v2863
def k0_mult35 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1283 : BitVec 32 := 5#32
  let v2901 : BitVec 32 := Scalar.muli v2097 c5_i32_1283
  let c1_i32_1284 : BitVec 32 := 1#32
  let v2902 : BitVec 32 := Scalar.addi v2901 c1_i32_1284
  let c256_i32_1291 : BitVec 32 := 256#32
  let v2916 : BitVec 32 := Scalar.muli v2902 c256_i32_1291
  let c128_i32_1292 : BitVec 32 := 128#32
  let v2917 : BitVec 32 := Scalar.addi v2916 c128_i32_1292
  v2917
def k0_mult36 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1311 : BitVec 32 := 5#32
  let v2962 : BitVec 32 := Scalar.muli v2097 c5_i32_1311
  let c2_i32_1312 : BitVec 32 := 2#32
  let v2963 : BitVec 32 := Scalar.addi v2962 c2_i32_1312
  let c256_i32_1319 : BitVec 32 := 256#32
  let v2977 : BitVec 32 := Scalar.muli v2963 c256_i32_1319
  let c0_i32_1320 : BitVec 32 := 0#32
  let v2978 : BitVec 32 := Scalar.addi v2977 c0_i32_1320
  v2978
def k0_mult37 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1333 : BitVec 32 := 5#32
  let v3016 : BitVec 32 := Scalar.muli v2097 c5_i32_1333
  let c2_i32_1334 : BitVec 32 := 2#32
  let v3017 : BitVec 32 := Scalar.addi v3016 c2_i32_1334
  let c256_i32_1341 : BitVec 32 := 256#32
  let v3031 : BitVec 32 := Scalar.muli v3017 c256_i32_1341
  let c128_i32_1342 : BitVec 32 := 128#32
  let v3032 : BitVec 32 := Scalar.addi v3031 c128_i32_1342
  v3032
def k0_mult38 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1356 : BitVec 32 := 5#32
  let v3072 : BitVec 32 := Scalar.muli v2097 c5_i32_1356
  let c3_i32_1357 : BitVec 32 := 3#32
  let v3073 : BitVec 32 := Scalar.addi v3072 c3_i32_1357
  let c256_i32_1364 : BitVec 32 := 256#32
  let v3087 : BitVec 32 := Scalar.muli v3073 c256_i32_1364
  let c0_i32_1365 : BitVec 32 := 0#32
  let v3088 : BitVec 32 := Scalar.addi v3087 c0_i32_1365
  v3088
def k0_mult39 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1378 : BitVec 32 := 5#32
  let v3126 : BitVec 32 := Scalar.muli v2097 c5_i32_1378
  let c3_i32_1379 : BitVec 32 := 3#32
  let v3127 : BitVec 32 := Scalar.addi v3126 c3_i32_1379
  let c256_i32_1386 : BitVec 32 := 256#32
  let v3141 : BitVec 32 := Scalar.muli v3127 c256_i32_1386
  let c128_i32_1387 : BitVec 32 := 128#32
  let v3142 : BitVec 32 := Scalar.addi v3141 c128_i32_1387
  v3142
def k0_mult40 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1406 : BitVec 32 := 5#32
  let v3187 : BitVec 32 := Scalar.muli v2097 c5_i32_1406
  let c4_i32_1407 : BitVec 32 := 4#32
  let v3188 : BitVec 32 := Scalar.addi v3187 c4_i32_1407
  let c256_i32_1414 : BitVec 32 := 256#32
  let v3202 : BitVec 32 := Scalar.muli v3188 c256_i32_1414
  let c0_i32_1415 : BitVec 32 := 0#32
  let v3203 : BitVec 32 := Scalar.addi v3202 c0_i32_1415
  v3203
def k0_mult41 (k0_t5 : Fin k0_t5_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t5
  let c1_i32_941 : BitVec 32 := 1#32
  let v2096 : BitVec 32 := Scalar.muli arg17 c1_i32_941
  let v2097 : BitVec 32 := Scalar.addi c0_i32_942 v2096
  let c5_i32_1428 : BitVec 32 := 5#32
  let v3241 : BitVec 32 := Scalar.muli v2097 c5_i32_1428
  let c4_i32_1429 : BitVec 32 := 4#32
  let v3242 : BitVec 32 := Scalar.addi v3241 c4_i32_1429
  let c256_i32_1436 : BitVec 32 := 256#32
  let v3256 : BitVec 32 := Scalar.muli v3242 c256_i32_1436
  let c128_i32_1437 : BitVec 32 := 128#32
  let v3257 : BitVec 32 := Scalar.addi v3256 c128_i32_1437
  v3257
def k0_cond6 (i : grid0.Coords) : BitVec 1 :=
  let arg1 : BitVec 32 := BitVec.ofNat 32 (i 1).val
  let c4_i32_935 : BitVec 32 := 4#32
  let v2092 : BitVec 1 := Scalar.cmpi .eq arg1 c4_i32_935
  let v2093 : BitVec 32 := Scalar.extui v2092
  let c0_i32_936 : BitVec 32 := 0#32
  let v2094 : BitVec 1 := Scalar.cmpi .ne v2093 c0_i32_936
  v2094

@[reducible] def k0_t6_loop : Scf.Loop 32 :=
  let c0_i32_937 : BitVec 32 := 0#32
  let c8_i32_938 : BitVec 32 := 8#32
  let v2095 : BitVec 32 := Scalar.addi c0_i32_937 c8_i32_938
  let c1_i32_939 : BitVec 32 := 1#32
  ⟨c0_i32_937, v2095, c1_i32_939⟩
def k0_off74 (k0_t6 : Fin k0_t6_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2113 : Index := Scalar.indexCast v2097
  let c0_947 : Index := 0#32
  let c0_948 : Index := 0#32
  ![v2113.toNat, 0, 0]
def k0_off75 (k0_t6 : Fin k0_t6_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2116 : Index := Scalar.indexCast v2097
  let c0_949 : Index := 0#32
  let c0_950 : Index := 0#32
  ![v2116.toNat, 0, 0]
def k0_off76 (k0_t6 : Fin k0_t6_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2126 : Index := Scalar.indexCast v2097
  let c256_956 : Index := 256#32
  let c0_957 : Index := 0#32
  ![v2126.toNat, 256, 0]
def k0_off77 (k0_t6 : Fin k0_t6_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2136 : Index := Scalar.indexCast v2097
  let c512_963 : Index := 512#32
  let c0_964 : Index := 0#32
  ![v2136.toNat, 512, 0]
def k0_off78 (i : grid0.Coords) (k0_t6 : Fin k0_t6_loop.trips) : Fin 3 → Nat :=
  let c0_968 : Index := 0#32
  let arg0 : BitVec 32 := BitVec.ofNat 32 (i 0).val
  let v2143 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2144 : Index := Scalar.indexCast v2097
  ![0, v2143.toNat, v2144.toNat]
def k0_off79 (i : grid0.Coords) (k0_t6 : Fin k0_t6_loop.trips) : Fin 3 → Nat :=
  let c1_969 : Index := 1#32
  let arg0 : BitVec 32 := BitVec.ofNat 32 (i 0).val
  let v2146 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2147 : Index := Scalar.indexCast v2097
  ![1, v2146.toNat, v2147.toNat]
def k0_off80 (i : grid0.Coords) (k0_t6 : Fin k0_t6_loop.trips) : Fin 3 → Nat :=
  let c2_970 : Index := 2#32
  let arg0 : BitVec 32 := BitVec.ofNat 32 (i 0).val
  let v2149 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2150 : Index := Scalar.indexCast v2097
  ![2, v2149.toNat, v2150.toNat]
def k0_off81 (i : grid0.Coords) (k0_t6 : Fin k0_t6_loop.trips) : Fin 3 → Nat :=
  let c3_971 : Index := 3#32
  let arg0 : BitVec 32 := BitVec.ofNat 32 (i 0).val
  let v2152 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2153 : Index := Scalar.indexCast v2097
  ![3, v2152.toNat, v2153.toNat]
def k0_off82 (i : grid0.Coords) (k0_t6 : Fin k0_t6_loop.trips) : Fin 3 → Nat :=
  let c4_972 : Index := 4#32
  let arg0 : BitVec 32 := BitVec.ofNat 32 (i 0).val
  let v2155 : Index := Scalar.indexCast arg0
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2156 : Index := Scalar.indexCast v2097
  ![4, v2155.toNat, v2156.toNat]
def k0_off83 (k0_t6 : Fin k0_t6_loop.trips) (c0_i32_974 : BitVec 32) : Fin 2 → Nat :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_973 : BitVec 32 := 5#32
  let v2158 : BitVec 32 := Scalar.muli v2097 c5_i32_973
  let v2159 : BitVec 32 := Scalar.addi v2158 c0_i32_974
  let v2160 : Index := Scalar.indexCast v2159
  let c0_975 : Index := 0#32
  ![v2160.toNat, 0]
def k0_off84 (k0_t6 : Fin k0_t6_loop.trips) : Fin 3 → Nat :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let v2828 : Index := Scalar.indexCast v2097
  let c0_1253 : Index := 0#32
  let c0_1254 : Index := 0#32
  ![v2828.toNat, 0, 0]
def k0_off85 (k0_t6 : Fin k0_t6_loop.trips) (c0_i32_1270 : BitVec 32) (c0_i32_1272 : BitVec 32) : Fin 3 → Nat :=
  let c0_1273 : Index := 0#32
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1269 : BitVec 32 := 5#32
  let v2865 : BitVec 32 := Scalar.muli v2097 c5_i32_1269
  let v2866 : BitVec 32 := Scalar.addi v2865 c0_i32_1270
  let c2_i32_1271 : BitVec 32 := 2#32
  let v2867 : BitVec 32 := Scalar.muli v2866 c2_i32_1271
  let v2868 : BitVec 32 := Scalar.addi v2867 c0_i32_1272
  let v2869 : Index := Scalar.indexCast v2868
  let c0_1274 : Index := 0#32
  ![0, v2869.toNat, 0]
def k0_mult42 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1269 : BitVec 32 := 5#32
  let v2865 : BitVec 32 := Scalar.muli v2097 c5_i32_1269
  let c0_i32_1270 : BitVec 32 := 0#32
  let v2866 : BitVec 32 := Scalar.addi v2865 c0_i32_1270
  let c256_i32 : BitVec 32 := 256#32
  let v2880 : BitVec 32 := Scalar.muli v2866 c256_i32
  let c0_i32_1277 : BitVec 32 := 0#32
  let v2881 : BitVec 32 := Scalar.addi v2880 c0_i32_1277
  v2881
def k0_off86 (k0_t6 : Fin k0_t6_loop.trips) (c0_i32_1270 : BitVec 32) (c0_i32_1277 : BitVec 32) : Fin 3 → Nat :=
  let c0_1278 : Index := 0#32
  let c0_1279 : Index := 0#32
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1269 : BitVec 32 := 5#32
  let v2865 : BitVec 32 := Scalar.muli v2097 c5_i32_1269
  let v2866 : BitVec 32 := Scalar.addi v2865 c0_i32_1270
  let c256_i32 : BitVec 32 := 256#32
  let v2880 : BitVec 32 := Scalar.muli v2866 c256_i32
  let v2881 : BitVec 32 := Scalar.addi v2880 c0_i32_1277
  let v2882 : BitVec 32 := v2881
  let v2885 : Index := Scalar.indexCast v2882
  ![0, 0, v2885.toNat]
def k0_mult43 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1290 : BitVec 32 := 5#32
  let v2919 : BitVec 32 := Scalar.muli v2097 c5_i32_1290
  let c0_i32_1291 : BitVec 32 := 0#32
  let v2920 : BitVec 32 := Scalar.addi v2919 c0_i32_1291
  let c256_i32_1298 : BitVec 32 := 256#32
  let v2934 : BitVec 32 := Scalar.muli v2920 c256_i32_1298
  let c128_i32 : BitVec 32 := 128#32
  let v2935 : BitVec 32 := Scalar.addi v2934 c128_i32
  v2935
def k0_mult44 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1312 : BitVec 32 := 5#32
  let v2975 : BitVec 32 := Scalar.muli v2097 c5_i32_1312
  let c1_i32_1313 : BitVec 32 := 1#32
  let v2976 : BitVec 32 := Scalar.addi v2975 c1_i32_1313
  let c256_i32_1320 : BitVec 32 := 256#32
  let v2990 : BitVec 32 := Scalar.muli v2976 c256_i32_1320
  let c0_i32_1321 : BitVec 32 := 0#32
  let v2991 : BitVec 32 := Scalar.addi v2990 c0_i32_1321
  v2991
def k0_mult45 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1334 : BitVec 32 := 5#32
  let v3029 : BitVec 32 := Scalar.muli v2097 c5_i32_1334
  let c1_i32_1335 : BitVec 32 := 1#32
  let v3030 : BitVec 32 := Scalar.addi v3029 c1_i32_1335
  let c256_i32_1342 : BitVec 32 := 256#32
  let v3044 : BitVec 32 := Scalar.muli v3030 c256_i32_1342
  let c128_i32_1343 : BitVec 32 := 128#32
  let v3045 : BitVec 32 := Scalar.addi v3044 c128_i32_1343
  v3045
def k0_mult46 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1362 : BitVec 32 := 5#32
  let v3090 : BitVec 32 := Scalar.muli v2097 c5_i32_1362
  let c2_i32_1363 : BitVec 32 := 2#32
  let v3091 : BitVec 32 := Scalar.addi v3090 c2_i32_1363
  let c256_i32_1370 : BitVec 32 := 256#32
  let v3105 : BitVec 32 := Scalar.muli v3091 c256_i32_1370
  let c0_i32_1371 : BitVec 32 := 0#32
  let v3106 : BitVec 32 := Scalar.addi v3105 c0_i32_1371
  v3106
def k0_mult47 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1384 : BitVec 32 := 5#32
  let v3144 : BitVec 32 := Scalar.muli v2097 c5_i32_1384
  let c2_i32_1385 : BitVec 32 := 2#32
  let v3145 : BitVec 32 := Scalar.addi v3144 c2_i32_1385
  let c256_i32_1392 : BitVec 32 := 256#32
  let v3159 : BitVec 32 := Scalar.muli v3145 c256_i32_1392
  let c128_i32_1393 : BitVec 32 := 128#32
  let v3160 : BitVec 32 := Scalar.addi v3159 c128_i32_1393
  v3160
def k0_mult48 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1407 : BitVec 32 := 5#32
  let v3200 : BitVec 32 := Scalar.muli v2097 c5_i32_1407
  let c3_i32_1408 : BitVec 32 := 3#32
  let v3201 : BitVec 32 := Scalar.addi v3200 c3_i32_1408
  let c256_i32_1415 : BitVec 32 := 256#32
  let v3215 : BitVec 32 := Scalar.muli v3201 c256_i32_1415
  let c0_i32_1416 : BitVec 32 := 0#32
  let v3216 : BitVec 32 := Scalar.addi v3215 c0_i32_1416
  v3216
def k0_mult49 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1429 : BitVec 32 := 5#32
  let v3254 : BitVec 32 := Scalar.muli v2097 c5_i32_1429
  let c3_i32_1430 : BitVec 32 := 3#32
  let v3255 : BitVec 32 := Scalar.addi v3254 c3_i32_1430
  let c256_i32_1437 : BitVec 32 := 256#32
  let v3269 : BitVec 32 := Scalar.muli v3255 c256_i32_1437
  let c128_i32_1438 : BitVec 32 := 128#32
  let v3270 : BitVec 32 := Scalar.addi v3269 c128_i32_1438
  v3270
def k0_mult50 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1457 : BitVec 32 := 5#32
  let v3315 : BitVec 32 := Scalar.muli v2097 c5_i32_1457
  let c4_i32_1458 : BitVec 32 := 4#32
  let v3316 : BitVec 32 := Scalar.addi v3315 c4_i32_1458
  let c256_i32_1465 : BitVec 32 := 256#32
  let v3330 : BitVec 32 := Scalar.muli v3316 c256_i32_1465
  let c0_i32_1466 : BitVec 32 := 0#32
  let v3331 : BitVec 32 := Scalar.addi v3330 c0_i32_1466
  v3331
def k0_mult51 (k0_t6 : Fin k0_t6_loop.trips) : BitVec 32 :=
  let c0_i32_942 : BitVec 32 := 0#32
  let c0_i32_937 : BitVec 32 := 0#32
  let c1_i32_939 : BitVec 32 := 1#32
  let arg17 : BitVec 32 := Scf.iv c0_i32_937 c1_i32_939 k0_t6
  let c1_i32_941 : BitVec 32 := 1#32
  let v2096 : BitVec 32 := Scalar.muli arg17 c1_i32_941
  let v2097 : BitVec 32 := Scalar.addi c0_i32_942 v2096
  let c5_i32_1479 : BitVec 32 := 5#32
  let v3369 : BitVec 32 := Scalar.muli v2097 c5_i32_1479
  let c4_i32_1480 : BitVec 32 := 4#32
  let v3370 : BitVec 32 := Scalar.addi v3369 c4_i32_1480
  let c256_i32_1487 : BitVec 32 := 256#32
  let v3384 : BitVec 32 := Scalar.muli v3370 c256_i32_1487
  let c128_i32_1488 : BitVec 32 := 128#32
  let v3385 : BitVec 32 := Scalar.addi v3384 c128_i32_1488
  v3385
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S5x3x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S5x3x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x10240 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x10240 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x40x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e_16" => some ((((Real.log 2) * 16)⁻¹ : ℝ) : EReal)
  | _ => none
-- ==== ReferenceIdeal.lean ====
abbrev S3x640x10240 : Shape := ⟨3, ![3, 640, 10240]⟩
abbrev S3x640x8x256 : Shape := ⟨4, ![3, 640, 8, 256]⟩
abbrev S3x5x8 : Shape := ⟨3, ![3, 5, 8]⟩
abbrev S3x80x640 : Shape := ⟨3, ![3, 80, 640]⟩
abbrev S3x40x640 : Shape := ⟨3, ![3, 40, 640]⟩
abbrev S3x640x40x256 : Shape := ⟨4, ![3, 640, 40, 256]⟩
abbrev S3x640x40 : Shape := ⟨3, ![3, 640, 40]⟩
abbrev S1x254 : Shape := ⟨2, ![1, 254]⟩
abbrev S254 : Shape := ⟨1, ![254]⟩
abbrev S3x640x40x1 : Shape := ⟨4, ![3, 640, 40, 1]⟩
abbrev S1x1x1x254 : Shape := ⟨4, ![1, 1, 1, 254]⟩
abbrev S3x640x40x254 : Shape := ⟨4, ![3, 640, 40, 254]⟩
abbrev S3x640x8x5x256 : Shape := ⟨5, ![3, 640, 8, 5, 256]⟩
abbrev S3x640x8x5 : Shape := ⟨4, ![3, 640, 8, 5]⟩
abbrev S3x5x1x8 : Shape := ⟨4, ![3, 5, 1, 8]⟩
abbrev S3x5x128x8 : Shape := ⟨4, ![3, 5, 128, 8]⟩
abbrev S3x640x8 : Shape := ⟨3, ![3, 640, 8]⟩
abbrev S3x8x640 : Shape := ⟨3, ![3, 8, 640]⟩
abbrev S3x8x640x5x640 : Shape := ⟨5, ![3, 8, 640, 5, 640]⟩
abbrev S3x8x640x5 : Shape := ⟨4, ![3, 8, 640, 5]⟩
abbrev S3x8x640x5x1 : Shape := ⟨5, ![3, 8, 640, 5, 1]⟩
abbrev S3x8x1x1x640 : Shape := ⟨5, ![3, 8, 1, 1, 640]⟩
abbrev S640x640 : Shape := ⟨2, ![640, 640]⟩
abbrev S1x1x640x1x640 : Shape := ⟨5, ![1, 1, 640, 1, 640]⟩
abbrev S3x8x640x5x256 : Shape := ⟨5, ![3, 8, 640, 5, 256]⟩
abbrev S3x640x80x128 : Shape := ⟨4, ![3, 640, 80, 128]⟩
abbrev S3x640x80 : Shape := ⟨3, ![3, 640, 80]⟩
abbrev S3x640x80x1 : Shape := ⟨4, ![3, 640, 80, 1]⟩
abbrev S3x640x80x254 : Shape := ⟨4, ![3, 640, 80, 254]⟩

abbrev nBuf : Space → Nat
  | .hbm => 9
  | .vmem => 9
  | .smem => 0
  | _ => 0

abbrev bufTy : (tb : Table) → Fin (tcTables nBuf tb) → BufTy
  | .hbm, ⟨0, _⟩ => ⟨S3x640x10240, .bf16⟩
  | .hbm, ⟨1, _⟩ => ⟨S3x640x8x256, .fp8e4m3⟩
  | .hbm, ⟨2, _⟩ => ⟨S3x5x8, .f32⟩
  | .hbm, ⟨3, _⟩ => ⟨S3x640x8x256, .fp8e4m3⟩
  | .hbm, ⟨4, _⟩ => ⟨S3x5x8, .f32⟩
  | .hbm, ⟨5, _⟩ => ⟨S3x640x10240, .fp8e4m3⟩
  | .hbm, ⟨6, _⟩ => ⟨S3x80x640, .f32⟩
  | .hbm, ⟨7, _⟩ => ⟨S3x640x10240, .fp8e4m3⟩
  | .hbm, ⟨8, _⟩ => ⟨S3x40x640, .f32⟩
  | .local _ .vmem, ⟨0, _⟩ => ⟨S3x640x10240, .bf16⟩
  | .local _ .vmem, ⟨1, _⟩ => ⟨S3x640x8x256, .fp8e4m3⟩
  | .local _ .vmem, ⟨2, _⟩ => ⟨S3x5x8, .f32⟩
  | .local _ .vmem, ⟨3, _⟩ => ⟨S3x640x8x256, .fp8e4m3⟩
  | .local _ .vmem, ⟨4, _⟩ => ⟨S3x5x8, .f32⟩
  | .local _ .vmem, ⟨5, _⟩ => ⟨S3x640x10240, .fp8e4m3⟩
  | .local _ .vmem, ⟨6, _⟩ => ⟨S3x80x640, .f32⟩
  | .local _ .vmem, ⟨7, _⟩ => ⟨S3x640x10240, .fp8e4m3⟩
  | .local _ .vmem, ⟨8, _⟩ => ⟨S3x40x640, .f32⟩
  | _, _ => ⟨S3x640x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x640x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x8x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x5x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x8x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x5x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x10240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x80x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x10240 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x40x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.HeldKernel.lean ====
module

public import proofs.«01_k».proof.Proof.Gen.Kernel.Frame
public import proofs.«01_k».proof.Proof.Gen.Kernel.Loops

@[expose] public section

set_option maxRecDepth 65536
set_option maxHeartbeats 40000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- The buffers of the body: the input blocks at given contents, the output blocks and the scratch at whatever
they hold. -/
abbrev Held (c : Dev nD) (arg2 : Memref sig .tc .vmem S1x128x10240 .bf16) (arg3 : Memref sig .tc .vmem S1x640x2048 .fp8e4m3) (arg4 : Memref sig .tc .vmem S1x640x2048 .fp8e4m3) (arg5 : Memref sig .tc .smem S5x3x8 .f32) (arg6 : Memref sig .tc .smem S5x3x8 .f32) (arg7 : Memref sig .tc .vmem S1x128x10240 .fp8e4m3) (arg8 : Memref sig .tc .vmem S1x80x128 .f32) (arg9 : Memref sig .tc .vmem S1x128x10240 .fp8e4m3) (arg10 : Memref sig .tc .vmem S1x40x128 .f32) (arg11 : Memref sig .tc .vmem S8x640x256 .fp8e4m3) (arg12 : Memref sig .tc .vmem S8x256x640 .bf16) (arg13 : Memref sig .tc .vmem S8x640x256 .fp8e4m3) (arg14 : Memref sig .tc .vmem S40x128 .f32) (arg15 : Memref sig .tc .vmem S640x640 .f32) (arg16 : Memref sig .tc .vmem S640x640 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))

/-- A conditional followed by the rest of the body: enough that the taken branch keeps the assertion and that the
rest runs from it. -/
theorem wp_branch {c' : Prop} [Decidable c'] {E : Set ℕ} (A : c' → Prog (TpuEff nD τ sig (Elt F) Λ₀ .tc) PUnit)
    (K : Prog (TpuEff nD τ sig (Elt F) Λ₀ .tc) PUnit) {R : sProp 𝕄} {Q : PUnit → sProp 𝕄}
    (h1 : ∀ h, R ⊢ wp frame (wpE (defs₀ (F := F)) 𝒱 (c : Thread nD τ) bd) E (A h) (fun _ => R))
    (h2 : R ⊢ wp frame (wpE (defs₀ (F := F)) 𝒱 (c : Thread nD τ) bd) E K Q) :
    R ⊢ wp frame (wpE (defs₀ (F := F)) 𝒱 (c : Thread nD τ) bd) E (if h : c' then (A h >>= fun _ => K) else K) Q := by
  by_cases h : c'
  · rw [dif_pos h, wp_bind]
    exact (h1 h).trans (wp_mono _ _ _ fun _ => h2)
  · rw [dif_neg h]
    exact h2

/-- Branch 0 of the body leaves the buffers held. -/
theorem branch0_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (E : Set ℕ) (arg0 : BitVec 32) (h : k0_cond2 i = 1#1) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E
        (Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 1 of the body leaves the buffers held. -/
theorem branch1_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (E : Set ℕ) (arg0 : BitVec 32) (h : k0_cond3 i = 1#1) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E
        (Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 2 of the body leaves the buffers held. -/
theorem branch2_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (E : Set ℕ) (arg0 : BitVec 32) (h : k0_cond4 i = 1#1) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E
        (Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 3 of the body leaves the buffers held. -/
theorem branch3_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (E : Set ℕ) (arg0 : BitVec 32) (h : k0_cond5 i = 1#1) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E
        (Scf.Loop.for k0_t5_loop (k0_t5_ok i h) ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 4 of the body leaves the buffers held. -/
theorem branch4_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (E : Set ℕ) (arg0 : BitVec 32) (h : k0_cond6 i = 1#1) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E
        (Scf.Loop.for k0_t6_loop (k0_t6_ok i h) ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6) := by
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- The first part of the body at a first point of a batch leaves the buffers held. -/
theorem quant_first_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (h1 : k0_cond1 i = 1#1) (E : Set ℕ) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => Held (F := F) c arg2 arg3 arg4 arg5 arg6 arg7 arg8 arg9 arg10 arg11 arg12 arg13 arg14 arg15 arg16 X2 X3 X4 X5 X6) := by
  rw [k0_part186_eq_skeleton]
  unfold k0_part186_skel
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec_parts (disch := sl_exact h1)
  sl_step
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- The first part of the body at a later point of a batch leaves the buffers held. -/
theorem quant_later_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (h1 : ¬ k0_cond1 i = 1#1) (E : Set ℕ) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => Held (F := F) c arg2 arg3 arg4 arg5 arg6 arg7 arg8 arg9 arg10 arg11 arg12 arg13 arg14 arg15 arg16 X2 X3 X4 X5 X6) := by
  rw [k0_part186_eq_skeleton]
  unfold k0_part186_skel
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec_parts (disch := sl_exact h1)
  sl_step
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- The whole body, at any point, leaves the buffers held. -/
theorem body_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (E : Set ℕ) :
    Held (F := F) c arg2 arg3 arg4 arg5 arg6 arg7 arg8 arg9 arg10 arg11 arg12 arg13 arg14 arg15 arg16 X2 X3 X4 X5 X6
    ⊢ wp frame (wpE (defs₀ (F := F)) 𝒱 (c : Thread nD τ) bd) E (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => Held (F := F) c arg2 arg3 arg4 arg5 arg6 arg7 arg8 arg9 arg10 arg11 arg12 arg13 arg14 arg15 arg16 X2 X3 X4 X5 X6) := by
  rw [cc0_attn_eq_skeleton]
  unfold cc0_attn_skel
  rw [wp_bind]
  refine ((em (k0_cond1 i = 1#1)).elim (fun h => quant_first_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 h E)
    fun h => quant_later_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 h E).trans (wp_mono _ _ _ fun r => ?_)
  obtain ⟨arg0, arg1⟩ := r
  refine wp_branch (F := F) 𝒱 c bd _ _ (fun h => branch0_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h) ?_
  refine wp_branch (F := F) 𝒱 c bd _ _ (fun h => branch1_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h) ?_
  refine wp_branch (F := F) 𝒱 c bd _ _ (fun h => branch2_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h) ?_
  refine wp_branch (F := F) 𝒱 c bd _ _ (fun h => branch3_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h) ?_
  refine wp_branch (F := F) 𝒱 c bd _ _ (fun h => branch4_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h) ?_
  iintro H
  sl_step
  iexact H

end Cert.Kernel.Body

end
-- ==== Proof.FrameKernel.lean ====
module

public import proofs.«01_k».proof.Proof.HeldKernel

/-!
# The frame of the kernel

The body at any point leaves every buffer it was given; what the outputs and the scratch hold afterwards is not
said here. From this the launch's own theorem gives that every run terminates, leaves the arguments unchanged and
every counter at zero.
-/

@[expose] public section

set_option maxRecDepth 65536

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel Cert.Kernel.Gen

namespace Frame

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs, whose contents are not described here. -/
def fgt (w : Fin cfg0.W) : Bool := decide (5 ≤ w.val)

/-- The proof data of the frame: each input block as it was fetched, the outputs not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => fun _ => Classical.arbitrary _
    | ⟨8, _⟩ => fun _ => Classical.arbitrary _
  Φ _ := Pipeline.ΦA spec0 c
  q _ := fullShare
  owed _ := 0

/-- The arrays of the proof data are what the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is given at point `t`. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- What the body leaves at point `t`. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold Pipeline.ΦA owns
  rw [scopedRest0_eq]
  simp only [← owns_whole]
  unfold owns
  iintro ⟨⟨⟨⟨%s0, %z0, %y0, S0⟩, ⟨%s1, %z1, %y1, S1⟩, ⟨%s2, %z2, %y2, S2⟩, ⟨%s3, %z3, %y3, S3⟩, ⟨%s4, %z4, %y4, S4⟩, ⟨%s5, %z5, %y5, S5⟩⟩, HP⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩⟩
  iapply (wp_wand_r frame (wpE (defs₀ (F := F)) Variants.none (c : Thread nD τ) none) Set.univ)
  isplitr [HP Ho]
  · iapply (body_held (F := F) Variants.none c none (grid0.coords t) _ _ _ _ _ _ _ _ _ _ _ _ _ _ _ _ _ _ _ _ _ _ _ _ _ _ _ _ _ _ g0 g1 g2 g3 g4 Set.univ)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [S0]; · iexists _; iexact S0
    isplitl [S1]; · iexists _; iexact S1
    isplitl [S2]; · iexists _; iexact S2
    isplitl [S3]; · iexists _; iexact S3
    isplitl [S4]; · iexists _; iexact S4
    iexists _; iexact S5
  · iintro %_ ⟨H0, H1, H2, H3, H4, ⟨%k5, H5⟩, ⟨%k6, H6⟩, ⟨%k7, H7⟩, ⟨%k8, H8⟩, ⟨%l0, S0⟩, ⟨%l1, S1⟩, ⟨%l2, S2⟩, ⟨%l3, S3⟩, ⟨%l4, S4⟩, ⟨%l5, S5⟩⟩
    isplitl [HP S0 S1 S2 S3 S4 S5]
    · isplitr [HP]
      · isplitl [S0]; · iexists _, _; isplitr; swap; · iexact S0
                        ipureintro; rfl
        isplitl [S1]; · iexists _, _; isplitr; swap; · iexact S1
                        ipureintro; rfl
        isplitl [S2]; · iexists _, _; isplitr; swap; · iexact S2
                        ipureintro; rfl
        isplitl [S3]; · iexists _, _; isplitr; swap; · iexact S3
                        ipureintro; rfl
        isplitl [S4]; · iexists _, _; isplitr; swap; · iexact S4
                        ipureintro; rfl
        iexists _, _; isplitr; swap; · iexact S5
        ipureintro; rfl
      · iexact HP
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The body's row of the table is the body at the point's slots. -/
theorem row (t : Fin cfg0.N) :
    defs₀ (F := F) .tc cfg0.body (cfg0.bodyArgs t (cfg0.slots t)) = bodyAt0 t := by
  unfold defs₀; rw [Defs.onTc_tc]

/-- The obligation of the launch, at every point. -/
theorem body_obligation (c : Dev nD) : BodyObligationLoose (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
set_option maxHeartbeats 800000 in
/-- THE FRAME: every run terminates, leaves the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_⟩, h.2⟩)
    (Pipeline.θ_run_frame_forget (Q' := fun r => RDat.FramePost cfg0 (fun c => (dats m 0 c).toRForget fgt) (V m) r ∧ r.2.sem = fun _ => 0)
      cfgs (dats m) (0 : Fin 1) launch0 defs₀ Variants.none fgt m ρ main
      (hbody := body_obligation m) (hshare := fun c => (dats m 0 c).share_full fun _ => rfl)
      (howed := fun _ _ => rfl) (V := V m) (hmain := hmain m Variants.none) (hA := A_eq m) (hΦ := fun _ _ => rfl) (hQ' := fun _ h => h))
  · have h0 := (h.1 c).1 0
    rw [RDat.ArrAt_in (rd := (dats m 0 c).toRForget fgt) 0 rfl] at h0
    exact h0.trans (V_main_arg0 m c)
  · exact ((h.1 c).2 main_arg1 (Pipeline.mem_restRefs_of main_arg1 (by decide) (by decide))).trans (V_main_arg1 m c)
  · exact ((h.1 c).2 main_arg2 (Pipeline.mem_restRefs_of main_arg2 (by decide) (by decide))).trans (V_main_arg2 m c)
  · exact ((h.1 c).2 main_arg3 (Pipeline.mem_restRefs_of main_arg3 (by decide) (by decide))).trans (V_main_arg3 m c)
  · exact ((h.1 c).2 main_arg4 (Pipeline.mem_restRefs_of main_arg4 (by decide) (by decide))).trans (V_main_arg4 m c)

end Frame

end Cert.Kernel.Body

end
-- ==== Proof.HeldIdeal.lean ====
module

public import proofs.«01_k».proof.Proof.Gen.KernelIdeal.Frame
public import proofs.«01_k».proof.Proof.Gen.KernelIdeal.Loops

@[expose] public section

set_option maxRecDepth 65536
set_option maxHeartbeats 40000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- The buffers of the body: the input blocks at given contents, the copies of the query codes and the scales at
contents of which `P` holds, the other output blocks and the scratch at whatever they hold. -/
abbrev Held (c : Dev nD) (arg2 : Memref sig .tc .vmem S1x128x10240 .bf16) (arg3 : Memref sig .tc .vmem S1x640x2048 .fp8e4m3) (arg4 : Memref sig .tc .vmem S1x640x2048 .fp8e4m3) (arg5 : Memref sig .tc .smem S5x3x8 .f32) (arg6 : Memref sig .tc .smem S5x3x8 .f32) (arg7 : Memref sig .tc .vmem S1x128x10240 .fp8e4m3) (arg8 : Memref sig .tc .vmem S1x80x128 .f32) (arg9 : Memref sig .tc .vmem S1x128x10240 .fp8e4m3) (arg10 : Memref sig .tc .vmem S1x40x128 .f32) (arg11 : Memref sig .tc .vmem S8x640x256 .fp8e4m3) (arg12 : Memref sig .tc .vmem S8x256x640 .bf16) (arg13 : Memref sig .tc .vmem S8x640x256 .fp8e4m3) (arg14 : Memref sig .tc .vmem S40x128 .f32) (arg15 : Memref sig .tc .vmem S640x640 .f32) (arg16 : Memref sig .tc .vmem S640x640 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f)) ∗ (∃ f, (arg8.view.loc (c : Thread nD τ) ↦[arg8.view.set]{fullShare} f)) ∗ (∃ f9 f10, ⌜P f9 f10⌝ ∗ (arg9.view.loc (c : Thread nD τ) ↦[arg9.view.set]{fullShare} f9) ∗ (arg10.view.loc (c : Thread nD τ) ↦[arg10.view.set]{fullShare} f10)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))

/-- A conditional followed by the rest of the body: enough that the taken branch keeps the assertion and that the
rest runs from it. -/
theorem wp_branch {c' : Prop} [Decidable c'] {E : Set ℕ} (A : c' → Prog (TpuEff nD τ sig (Elt F) Λ₀ .tc) PUnit)
    (K : Prog (TpuEff nD τ sig (Elt F) Λ₀ .tc) PUnit) {R : sProp 𝕄} {Q : PUnit → sProp 𝕄}
    (h1 : ∀ h, R ⊢ wp frame (wpE (defs₀ (F := F)) 𝒱 (c : Thread nD τ) bd) E (A h) (fun _ => R))
    (h2 : R ⊢ wp frame (wpE (defs₀ (F := F)) 𝒱 (c : Thread nD τ) bd) E K Q) :
    R ⊢ wp frame (wpE (defs₀ (F := F)) 𝒱 (c : Thread nD τ) bd) E (if h : c' then (A h >>= fun _ => K) else K) Q := by
  by_cases h : c'
  · rw [dif_pos h, wp_bind]
    exact (h1 h).trans (wp_mono _ _ _ fun _ => h2)
  · rw [dif_neg h]
    exact h2

/-- Branch 0 of the body leaves the buffers held. -/
theorem branch0_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop) (E : Set ℕ) (arg0 : BitVec 32) (h : k0_cond2 i = 1#1) :
    Held (F := F) c arg2 arg3 arg4 arg5 arg6 arg7 arg8 arg9 arg10 arg11 arg12 arg13 arg14 arg15 arg16 X2 X3 X4 X5 X6 P
    ⊢ wp frame (wpE (defs₀ (F := F)) 𝒱 (c : Thread nD τ) bd) E
        (Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, %hP, H9, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9 H10]
  · iexists f9, f10
    isplitr; · ipureintro; exact hP
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 1 of the body leaves the buffers held. -/
theorem branch1_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop) (E : Set ℕ) (arg0 : BitVec 32) (h : k0_cond3 i = 1#1) :
    Held (F := F) c arg2 arg3 arg4 arg5 arg6 arg7 arg8 arg9 arg10 arg11 arg12 arg13 arg14 arg15 arg16 X2 X3 X4 X5 X6 P
    ⊢ wp frame (wpE (defs₀ (F := F)) 𝒱 (c : Thread nD τ) bd) E
        (Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, %hP, H9, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9 H10]
  · iexists f9, f10
    isplitr; · ipureintro; exact hP
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 2 of the body leaves the buffers held. -/
theorem branch2_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop) (E : Set ℕ) (arg0 : BitVec 32) (h : k0_cond4 i = 1#1) :
    Held (F := F) c arg2 arg3 arg4 arg5 arg6 arg7 arg8 arg9 arg10 arg11 arg12 arg13 arg14 arg15 arg16 X2 X3 X4 X5 X6 P
    ⊢ wp frame (wpE (defs₀ (F := F)) 𝒱 (c : Thread nD τ) bd) E
        (Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, %hP, H9, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9 H10]
  · iexists f9, f10
    isplitr; · ipureintro; exact hP
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 3 of the body leaves the buffers held. -/
theorem branch3_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop) (E : Set ℕ) (arg0 : BitVec 32) (h : k0_cond5 i = 1#1) :
    Held (F := F) c arg2 arg3 arg4 arg5 arg6 arg7 arg8 arg9 arg10 arg11 arg12 arg13 arg14 arg15 arg16 X2 X3 X4 X5 X6 P
    ⊢ wp frame (wpE (defs₀ (F := F)) 𝒱 (c : Thread nD τ) bd) E
        (Scf.Loop.for k0_t5_loop (k0_t5_ok i h) ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, %hP, H9, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9 H10]
  · iexists f9, f10
    isplitr; · ipureintro; exact hP
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- Branch 4 of the body leaves the buffers held. -/
theorem branch4_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop) (E : Set ℕ) (arg0 : BitVec 32) (h : k0_cond6 i = 1#1) :
    Held (F := F) c arg2 arg3 arg4 arg5 arg6 arg7 arg8 arg9 arg10 arg11 arg12 arg13 arg14 arg15 arg16 X2 X3 X4 X5 X6 P
    ⊢ wp frame (wpE (defs₀ (F := F)) 𝒱 (c : Thread nD τ) bd) E
        (Scf.Loop.for k0_t6_loop (k0_t6_ok i h) ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, %hP, H9, H10⟩, ⟨%f11, H11⟩, ⟨%f12, H12⟩, ⟨%f13, H13⟩, ⟨%f14, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9 H10]
  · iexists f9, f10
    isplitr; · ipureintro; exact hP
    isplitl [H9]; · iexact H9
    iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Body

end
-- ==== Proof.RunA.lean ====
module

public import proofs.«01_k».proof.Proof.Gen.KernelIdeal.Frame
public import proofs.«01_k».proof.Proof.Gen.KernelIdeal.Loops

@[expose] public section

set_option maxRecDepth 65536
set_option maxHeartbeats 40000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

@[irreducible] def quantA (h1 : k0_cond1 i = 1#1) (X2 : BufTy.Contents (Elt F) arg2.view.ty) (X3 : BufTy.Contents (Elt F) arg3.view.ty) (X4 : BufTy.Contents (Elt F) arg4.view.ty) (X6 : BufTy.Contents (Elt F) arg6.view.ty) :
    Σ' (L9 : List (View.Piece (Elt F) S1x128x10240 .fp8e4m3)) (L10 : List (View.Piece (Elt F) S1x40x128 .f32)) (L11 : List (View.Piece (Elt F) S8x640x256 .fp8e4m3)) (L12 : List (View.Piece (Elt F) S8x256x640 .bf16)) (L13 : List (View.Piece (Elt F) S8x640x256 .fp8e4m3)), { L14 : List (View.Piece (Elt F) S40x128 .f32) //
      ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg12.view.loc (c : Thread nD τ) ↦[arg12.view.set]{fullShare} (arg12.view.writes (Elt F) f12 L12)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)))) } := by
  refine ⟨?_, ?_, ?_, ?_, ?_, ?_, fun E f9 f10 f11 f12 f13 f14 => ?run⟩
  case run =>
    rw [k0_part186_eq_skeleton]
    unfold k0_part186_skel
    iintro ⟨H2, H3, H4, H6, H9, H10, H11, H12, H13, H14⟩
    sl_exec_parts (disch := sl_exact h1)
    sl_step
    sl_close

end Cert.KernelIdeal.Body

end
-- ==== Proof.RunB.lean ====
module

public import proofs.«01_k».proof.Proof.Gen.KernelIdeal.Frame
public import proofs.«01_k».proof.Proof.Gen.KernelIdeal.Loops

@[expose] public section

set_option maxRecDepth 65536
set_option maxHeartbeats 40000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

@[irreducible] def quantB (h1 : ¬ k0_cond1 i = 1#1) (X2 : BufTy.Contents (Elt F) arg2.view.ty) :
    Σ' (L9 : List (View.Piece (Elt F) S1x128x10240 .fp8e4m3)) (L10 : List (View.Piece (Elt F) S1x40x128 .f32)) (L13 : List (View.Piece (Elt F) S8x640x256 .fp8e4m3)), { L14 : List (View.Piece (Elt F) S40x128 .f32) //
      ∀ (E : Set ℕ) (f9 : BufTy.Contents (Elt F) arg9.view.ty) (f10 : BufTy.Contents (Elt F) arg10.view.ty) (f13 : BufTy.Contents (Elt F) arg13.view.ty) (f14 : BufTy.Contents (Elt F) arg14.view.ty),
      (iprop((arg2.view.loc (c : Thread nD τ) ↦[arg2.view.set]{fullShare} X2) ∗ (arg9.view.loc (c : Thread nD τ) ↦[arg9.view.set]{fullShare} f9) ∗ (arg10.view.loc (c : Thread nD τ) ↦[arg10.view.set]{fullShare} f10) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((arg2.view.loc (c : Thread nD τ) ↦[arg2.view.set]{fullShare} X2) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)))) } := by
  refine ⟨?_, ?_, ?_, ?_, fun E f9 f10 f13 f14 => ?run⟩
  case run =>
    rw [k0_part186_eq_skeleton]
    unfold k0_part186_skel
    iintro ⟨H2, H9, H10, H13, H14⟩
    sl_exec_parts (disch := sl_exact h1)
    sl_step
    sl_close

end Cert.KernelIdeal.Body

end
-- ==== Proof.QuantLists.lean ====
module

public import proofs.«01_k».proof.Proof.RunA
public import proofs.«01_k».proof.Proof.RunB

@[expose] public section

set_option maxRecDepth 65536
set_option maxHeartbeats 4000000

noncomputable section

namespace Cert.KernelIdeal.Body

open Idealize.ShloMosaic Idealize.ShloMosaic.TcCoe Idealize.ShloMosaic.Tactic
open Idealize.SL Idealize.SL.RA Idealize.SL.BI Idealize.SL.Sem
open Cert.KernelIdeal Cert.KernelIdeal.Gen

/-- The values `f (n-1), …, f 0`, newest first: the list that a run of stores leaves. -/
def downTo {α : Type*} {N : ℕ} (f : Fin N → α) : (n : ℕ) → n ≤ N → List α
  | 0, _ => []
  | n + 1, h => f ⟨n, h⟩ :: downTo f n (Nat.le_of_succ_le h)

/-- What lies in that list. -/
theorem mem_downTo {α : Type*} {N : ℕ} (f : Fin N → α) (a : α) :
    ∀ (n : ℕ) (h : n ≤ N), a ∈ downTo f n h ↔ ∃ i : Fin N, i.val < n ∧ f i = a
  | 0, _ => by simp [downTo]
  | n + 1, h => by
    simp only [downTo, List.mem_cons, mem_downTo f a n]
    constructor
    · rintro (rfl | ⟨i, hi, rfl⟩)
      · exact ⟨_, Nat.lt_succ_self n, rfl⟩
      · exact ⟨i, Nat.lt_succ_of_lt hi, rfl⟩
    · rintro ⟨i, hi, rfl⟩
      rcases Nat.lt_succ_iff_lt_or_eq.mp hi with h' | h'
      · exact .inr ⟨i, h', rfl⟩
      · exact .inl (congrArg f (Fin.ext h'))

variable {F : FTy → Type} [FloatOps F] [Named F]

/-- Head `h`'s columns of a block of queries. -/
theorem colsInb (h : Fin 40) : ∀ a : Fin 3, (![0, 0, 256 * h.val] : Fin 3 → ℕ) a + S1x128x256.size a ≤ S1x128x10240.size a := by
  intro a; have := h.isLt
  match a with
  | ⟨0, _⟩ => show 0 + 1 ≤ 1; omega
  | ⟨1, _⟩ => show 0 + 128 ≤ 128; omega
  | ⟨2, _⟩ => show 256 * h.val + 256 ≤ 10240; omega

/-- Head `h`'s rows of the store of query codes. -/
theorem rowsInb (h : Fin 40) : ∀ a : Fin 3, (![h.val / 5, 128 * (h.val % 5), 0] : Fin 3 → ℕ) a + S1x128x256.size a ≤ S8x640x256.size a := by
  intro a; have := h.isLt
  match a with
  | ⟨0, _⟩ => show h.val / 5 + 1 ≤ 8; omega
  | ⟨1, _⟩ => show 128 * (h.val % 5) + 128 ≤ 640; omega
  | ⟨2, _⟩ => show 0 + 256 ≤ 256; omega

/-- Head `h`'s columns, as a rectangle of a block of queries or of codes. -/
def cols (h : Fin 40) : Rect S1x128x10240 := Rect.unit ![0, 0, 256 * h.val] S1x128x256.size (colsInb h)
/-- Head `h`'s rows, as a rectangle of the store of query codes. -/
def rows (h : Fin 40) : Rect S8x640x256 := Rect.unit ![h.val / 5, 128 * (h.val % 5), 0] S1x128x256.size (rowsInb h)

section Lists

variable (arg2 : Memref sig .tc .vmem S1x128x10240 .bf16) (X2 : BufTy.Contents (Elt F) arg2.view.ty)

/-- Head `h`'s block of queries. -/
def qblk (h : Fin 40) : Vec F S1x128x256 .bf16 := View.readAt (Elt F) arg2.view (cols h).toLoadRect X2

/-- The stores of the query codes, per head. -/
def storesQ (n : ℕ) (hn : n ≤ 40) : List (View.Piece (Elt F) S8x640x256 .fp8e4m3) :=
  downTo (fun h => ⟨rows h, k0_pay856 (k0_pay855 (qblk arg2 X2 h))⟩) n hn

/-- The largest magnitudes of the rows, head `h`'s in lane `h`. -/
def lanes : (n : ℕ) → n ≤ 40 → FVec F S128x128 .f32
  | 0, _ => broadcast S128x128 (FloatOps.ofBits .f32 0#32)
  | n + 1, h => select (cmpi .eq (iota Kind.tc S128x128 32 [1] iota_S128x128_d1_w32) (broadcast S128x128 (BitVec.ofNat 32 n)))
      (broadcastTo S128x128 (shapeCast S128x1 (k0_pay854 (qblk arg2 X2 ⟨n, h⟩)) shapeCasts_S128x1_S128x1) broadcasts_S128x1_S128x128)
      (lanes n (Nat.le_of_succ_le h))

/-- The scales of a block of queries, from the largest magnitudes. -/
def scales : FVec F S1x40x128 .f32 :=
  k0_pay858 (iota Kind.tc S128x128 32 [1] iota_S128x128_d1_w32) (lanes arg2 X2 39 (by decide)) (k0_pay854 (qblk arg2 X2 39))

/-- The score factors of a block of queries, from the largest magnitudes. -/
def factors : FVec F S40x128 .f32 :=
  k0_pay860 (k0_pay859 (iota Kind.tc S128x128 32 [1] iota_S128x128_d1_w32) (lanes arg2 X2 39 (by decide)) (k0_pay854 (qblk arg2 X2 39)))

/-- The stores of the query codes as a result, per head: each reads what the store of codes holds. -/
def storesC (arg13 : Memref sig .tc .vmem S8x640x256 .fp8e4m3) : List (View.Piece (Elt F) S1x128x10240 .fp8e4m3) :=
  downTo (fun h => ⟨cols h, k0_pay861 (arg13.view.readCov (storesQ arg2 X2 40 le_rfl) (rows h).toLoadRect)⟩) 40 le_rfl

end Lists

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- The stores of copies of the query codes that a later query block leaves. -/
theorem quantB_9 (h1 : ¬ k0_cond1 i = 1#1) (X2 : BufTy.Contents (Elt F) arg2.view.ty) :
    (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).1 = storesC arg2 X2 arg13 := by
  unfold quantB; rfl

/-- The stores of scales that a later query block leaves. -/
theorem quantB_10 (h1 : ¬ k0_cond1 i = 1#1) (X2 : BufTy.Contents (Elt F) arg2.view.ty) :
    (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.1 = [⟨Rect.unit ![0, 0, 0] S1x40x128.size inb_S1x40x128_S1x40x128_0_0_0, scales arg2 X2⟩] := by
  unfold quantB; rfl

/-- The stores of query codes that a later query block leaves. -/
theorem quantB_13 (h1 : ¬ k0_cond1 i = 1#1) (X2 : BufTy.Contents (Elt F) arg2.view.ty) :
    (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.1 = storesQ arg2 X2 40 le_rfl := by
  unfold quantB; rfl

/-- The stores of score factors that a later query block leaves. -/
theorem quantB_14 (h1 : ¬ k0_cond1 i = 1#1) (X2 : BufTy.Contents (Elt F) arg2.view.ty) :
    (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.2.1 = [⟨Rect.unit ![0, 0] S40x128.size inb_S40x128_S40x128_0_0, factors arg2 X2⟩] := by
  unfold quantB; rfl

/-- The stores of copies of the query codes that a first query block leaves. -/
theorem quantA_9 (h1 : k0_cond1 i = 1#1) (X2 : BufTy.Contents (Elt F) arg2.view.ty) (X3 : BufTy.Contents (Elt F) arg3.view.ty) (X4 : BufTy.Contents (Elt F) arg4.view.ty) (X6 : BufTy.Contents (Elt F) arg6.view.ty) :
    (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).1 = storesC arg2 X2 arg13 := by
  unfold quantA; rfl

/-- The stores of scales that a first query block leaves. -/
theorem quantA_10 (h1 : k0_cond1 i = 1#1) (X2 : BufTy.Contents (Elt F) arg2.view.ty) (X3 : BufTy.Contents (Elt F) arg3.view.ty) (X4 : BufTy.Contents (Elt F) arg4.view.ty) (X6 : BufTy.Contents (Elt F) arg6.view.ty) :
    (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.1 = [⟨Rect.unit ![0, 0, 0] S1x40x128.size inb_S1x40x128_S1x40x128_0_0_0, scales arg2 X2⟩] := by
  unfold quantA; rfl

/-- The stores of query codes that a first query block leaves. -/
theorem quantA_13 (h1 : k0_cond1 i = 1#1) (X2 : BufTy.Contents (Elt F) arg2.view.ty) (X3 : BufTy.Contents (Elt F) arg3.view.ty) (X4 : BufTy.Contents (Elt F) arg4.view.ty) (X6 : BufTy.Contents (Elt F) arg6.view.ty) :
    (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.1 = storesQ arg2 X2 40 le_rfl := by
  unfold quantA; rfl

/-- The stores of score factors that a first query block leaves. -/
theorem quantA_14 (h1 : k0_cond1 i = 1#1) (X2 : BufTy.Contents (Elt F) arg2.view.ty) (X3 : BufTy.Contents (Elt F) arg3.view.ty) (X4 : BufTy.Contents (Elt F) arg4.view.ty) (X6 : BufTy.Contents (Elt F) arg6.view.ty) :
    (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.2.1 = [⟨Rect.unit ![0, 0] S40x128.size inb_S40x128_S40x128_0_0, factors arg2 X2⟩] := by
  unfold quantA; rfl

end Cert.KernelIdeal.Body

end
-- ==== Proof.HeldValue.lean ====
module

public import proofs.«01_k».proof.Proof.HeldIdeal
public import proofs.«01_k».proof.Proof.QuantLists

/-!
# What the parts of the body do to the buffers, with the contents followed

Each part of the body takes buffers whose contents satisfy one predicate to buffers whose contents satisfy another.
-/

@[expose] public section

set_option maxRecDepth 65536
set_option maxHeartbeats 40000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- The buffers of the body: the input blocks at given contents, the output blocks and the scratch that the parts pass
on at contents of which `Q` holds, the rest at whatever it holds. -/
abbrev HeldV (c : Dev nD) (arg2 : Memref sig .tc .vmem S1x128x10240 .bf16) (arg3 : Memref sig .tc .vmem S1x640x2048 .fp8e4m3) (arg4 : Memref sig .tc .vmem S1x640x2048 .fp8e4m3) (arg5 : Memref sig .tc .smem S5x3x8 .f32) (arg6 : Memref sig .tc .smem S5x3x8 .f32) (arg7 : Memref sig .tc .vmem S1x128x10240 .fp8e4m3) (arg8 : Memref sig .tc .vmem S1x80x128 .f32) (arg9 : Memref sig .tc .vmem S1x128x10240 .fp8e4m3) (arg10 : Memref sig .tc .vmem S1x40x128 .f32) (arg11 : Memref sig .tc .vmem S8x640x256 .fp8e4m3) (arg12 : Memref sig .tc .vmem S8x256x640 .bf16) (arg13 : Memref sig .tc .vmem S8x640x256 .fp8e4m3) (arg14 : Memref sig .tc .vmem S40x128 .f32) (arg15 : Memref sig .tc .vmem S640x640 .f32) (arg16 : Memref sig .tc .vmem S640x640 .fp8e4m3)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (Q : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7 f8 f9 f10 f11 f12 f13 f14, ⌜Q f7 f8 f9 f10 f11 f12 f13 f14⌝ ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) ∗ (∃ f, (arg15.view.loc (c : Thread nD τ) ↦[arg15.view.set]{fullShare} f)) ∗ (∃ f, (arg16.view.loc (c : Thread nD τ) ↦[arg16.view.set]{fullShare} f)))

/-- A conditional followed by the rest of the body: enough that the taken branch, or its absence, leads to an assertion
that the rest runs from. -/
theorem wp_branch' {c' : Prop} [Decidable c'] {E : Set ℕ} (A : c' → Prog (TpuEff nD τ sig (Elt F) Λ₀ .tc) PUnit)
    (K : Prog (TpuEff nD τ sig (Elt F) Λ₀ .tc) PUnit) {R R' : sProp 𝕄} {Q : PUnit → sProp 𝕄}
    (h1 : ∀ h, R ⊢ wp frame (wpE (defs₀ (F := F)) 𝒱 (c : Thread nD τ) bd) E (A h) (fun _ => R'))
    (h0 : ¬ c' → (R ⊢ R'))
    (h2 : R' ⊢ wp frame (wpE (defs₀ (F := F)) 𝒱 (c : Thread nD τ) bd) E K Q) :
    R ⊢ wp frame (wpE (defs₀ (F := F)) 𝒱 (c : Thread nD τ) bd) E (if h : c' then (A h >>= fun _ => K) else K) Q := by
  by_cases h : c'
  · rw [dif_pos h, wp_bind]
    exact (h1 h).trans (wp_mono _ _ _ fun _ => h2)
  · rw [dif_neg h]
    exact (h0 h).trans h2

/-- A weaker predicate. -/
theorem heldV_mono (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (hQ : ∀ f7 f8 f9 f10 f11 f12 f13 f14, Q f7 f8 f9 f10 f11 f12 f13 f14 → Q' f7 f8 f9 f10 f11 f12 f13 f14) :
    HeldV (F := F) c arg2 arg3 arg4 arg5 arg6 arg7 arg8 arg9 arg10 arg11 arg12 arg13 arg14 arg15 arg16 X2 X3 X4 X5 X6 Q ⊢ HeldV (F := F) c arg2 arg3 arg4 arg5 arg6 arg7 arg8 arg9 arg10 arg11 arg12 arg13 arg14 arg15 arg16 X2 X3 X4 X5 X6 Q' := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  isplitl [H2]; · iexact H2
  isplitl [H3]; · iexact H3
  isplitl [H4]; · iexact H4
  isplitl [H5]; · iexact H5
  isplitl [H6]; · iexact H6
  isplitl [H7 H8 H9 H10 H11 H12 H13 H14]
  · iexists f7, f8, f9, f10, f11, f12, f13, f14
    isplitr
    · ipureintro; exact hQ _ _ _ _ _ _ _ _ hq
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  iexists _; iexact H16

/-- Branch 0 of the body stores in the blocks of the output. -/
theorem branch0_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (E : Set ℕ) (arg0 : BitVec 32) (h : k0_cond2 i = 1#1)
    (hQ : ∀ f7 f8 f9 f10 f11 f12 f13 f14 f15 f16, Q f7 f8 f9 f10 f11 f12 f13 f14 → Q' (arg7.view.writes (Elt F) f7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t2_loop.trips).1) (arg8.view.writes (Elt F) f8 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t2_loop.trips).2.1) f9 f10 f11 f12 f13 f14) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E
        (Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7 H8 H9 H10 H11 H12 H13 H14]
  · iexists _, _, f9, f10, f11, f12, f13, f14
    isplitr
    · ipureintro; exact hQ f7 f8 f9 f10 f11 f12 f13 f14 f15 f16 hq
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  iexists _; iexact H16

/-- Branch 1 of the body stores in the blocks of the output. -/
theorem branch1_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (E : Set ℕ) (arg0 : BitVec 32) (h : k0_cond3 i = 1#1)
    (hQ : ∀ f7 f8 f9 f10 f11 f12 f13 f14 f15 f16, Q f7 f8 f9 f10 f11 f12 f13 f14 → Q' (arg7.view.writes (Elt F) f7 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t3_loop.trips).1) (arg8.view.writes (Elt F) f8 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t3_loop.trips).2.1) f9 f10 f11 f12 f13 f14) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E
        (Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7 H8 H9 H10 H11 H12 H13 H14]
  · iexists _, _, f9, f10, f11, f12, f13, f14
    isplitr
    · ipureintro; exact hQ f7 f8 f9 f10 f11 f12 f13 f14 f15 f16 hq
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  iexists _; iexact H16

/-- Branch 2 of the body stores in the blocks of the output. -/
theorem branch2_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (E : Set ℕ) (arg0 : BitVec 32) (h : k0_cond4 i = 1#1)
    (hQ : ∀ f7 f8 f9 f10 f11 f12 f13 f14 f15 f16, Q f7 f8 f9 f10 f11 f12 f13 f14 → Q' (arg7.view.writes (Elt F) f7 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t4_loop.trips).1) (arg8.view.writes (Elt F) f8 (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t4_loop.trips).2.1) f9 f10 f11 f12 f13 f14) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E
        (Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7 H8 H9 H10 H11 H12 H13 H14]
  · iexists _, _, f9, f10, f11, f12, f13, f14
    isplitr
    · ipureintro; exact hQ f7 f8 f9 f10 f11 f12 f13 f14 f15 f16 hq
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  iexists _; iexact H16

/-- Branch 3 of the body stores in the blocks of the output. -/
theorem branch3_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (E : Set ℕ) (arg0 : BitVec 32) (h : k0_cond5 i = 1#1)
    (hQ : ∀ f7 f8 f9 f10 f11 f12 f13 f14 f15 f16, Q f7 f8 f9 f10 f11 f12 f13 f14 → Q' (arg7.view.writes (Elt F) f7 (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t5_loop.trips).1) (arg8.view.writes (Elt F) f8 (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t5_loop.trips).2.1) f9 f10 f11 f12 f13 f14) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E
        (Scf.Loop.for k0_t5_loop (k0_t5_ok i h) ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7 H8 H9 H10 H11 H12 H13 H14]
  · iexists _, _, f9, f10, f11, f12, f13, f14
    isplitr
    · ipureintro; exact hQ f7 f8 f9 f10 f11 f12 f13 f14 f15 f16 hq
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  iexists _; iexact H16

/-- Branch 4 of the body stores in the blocks of the output. -/
theorem branch4_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (E : Set ℕ) (arg0 : BitVec 32) (h : k0_cond6 i = 1#1)
    (hQ : ∀ f7 f8 f9 f10 f11 f12 f13 f14 f15 f16, Q f7 f8 f9 f10 f11 f12 f13 f14 → Q' (arg7.view.writes (Elt F) f7 (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t6_loop.trips).1) (arg8.view.writes (Elt F) f8 (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t6_loop.trips).2.1) f9 f10 f11 f12 f13 f14) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E
        (Scf.Loop.for k0_t6_loop (k0_t6_ok i h) ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h))
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  sl_exec
  isplitl [H2]; · iexact H2
  isplitl [H3]; · iexact H3
  isplitl [H4]; · iexact H4
  isplitl [H5]; · iexact H5
  isplitl [H6]; · iexact H6
  isplitl [H7 H8 H9 H10 H11 H12 H13 H14]
  · iexists _, _, f9, f10, f11, f12, f13, f14
    isplitr
    · ipureintro; exact hQ f7 f8 f9 f10 f11 f12 f13 f14 f15 f16 hq
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  iexists _; iexact H16

/-- The first part of the body, at a first query block of a batch. -/
theorem quant_first_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (h1 : k0_cond1 i = 1#1) (E : Set ℕ)
    (hQ : ∀ f7 f8 f9 f10 f11 f12 f13 f14, Q f7 f8 f9 f10 f11 f12 f13 f14 → Q' f7 f8 (arg9.view.writes (Elt F) f9 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).1) (arg10.view.writes (Elt F) f10 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.1) (arg11.view.writes (Elt F) f11 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.1) (arg12.view.writes (Elt F) f12 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.1) (arg13.view.writes (Elt F) f13 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.1) (arg14.view.writes (Elt F) f14 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.2.1)) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  iapply (wp_wand_r frame (wpE (defs₀ (F := F)) 𝒱 (c : Thread nD τ) bd) E)
  isplitr [H5 H7 H8 H15 H16]
  · iapply ((quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.2.2 E f9 f10 f11 f12 f13 f14)
    isplitl [H2]; · iexact H2
    isplitl [H3]; · iexact H3
    isplitl [H4]; · iexact H4
    isplitl [H6]; · iexact H6
    isplitl [H9]; · iexact H9
    isplitl [H10]; · iexact H10
    isplitl [H11]; · iexact H11
    isplitl [H12]; · iexact H12
    isplitl [H13]; · iexact H13
    iexact H14
  · iintro %_ ⟨H2, H3, H4, H6, H9, H10, H11, H12, H13, H14⟩
    isplitl [H2]; · iexact H2
    isplitl [H3]; · iexact H3
    isplitl [H4]; · iexact H4
    isplitl [H5]; · iexact H5
    isplitl [H6]; · iexact H6
    isplitl [H7 H8 H9 H10 H11 H12 H13 H14]
    · iexists f7, f8, (arg9.view.writes (Elt F) f9 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).1), (arg10.view.writes (Elt F) f10 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.1), (arg11.view.writes (Elt F) f11 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.1), (arg12.view.writes (Elt F) f12 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.1), (arg13.view.writes (Elt F) f13 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.1), (arg14.view.writes (Elt F) f14 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.2.1)
      isplitr
      · ipureintro; exact hQ f7 f8 f9 f10 f11 f12 f13 f14 hq
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    iexists _; iexact H16

/-- The first part of the body, at a later query block. -/
theorem quant_later_heldV (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) {Q Q' : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop} (h1 : ¬ k0_cond1 i = 1#1) (E : Set ℕ)
    (hQ : ∀ f7 f8 f9 f10 f11 f12 f13 f14, Q f7 f8 f9 f10 f11 f12 f13 f14 → Q' f7 f8 (arg9.view.writes (Elt F) f9 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).1) (arg10.view.writes (Elt F) f10 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.1) f11 f12 (arg13.view.writes (Elt F) f13 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.1) (arg14.view.writes (Elt F) f14 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.2.1)) :
    HeldV (F := F) c arg2 arg3 arg4 arg5 arg6 arg7 arg8 arg9 arg10 arg11 arg12 arg13 arg14 arg15 arg16 X2 X3 X4 X5 X6 Q
    ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => HeldV (F := F) c arg2 arg3 arg4 arg5 arg6 arg7 arg8 arg9 arg10 arg11 arg12 arg13 arg14 arg15 arg16 X2 X3 X4 X5 X6 Q') := by
  iintro ⟨H2, H3, H4, H5, H6, ⟨%f7, %f8, %f9, %f10, %f11, %f12, %f13, %f14, %hq, H7, H8, H9, H10, H11, H12, H13, H14⟩, ⟨%f15, H15⟩, ⟨%f16, H16⟩⟩
  iapply (wp_wand_r frame (wpE (defs₀ (F := F)) 𝒱 (c : Thread nD τ) bd) E)
  isplitr [H3 H4 H5 H6 H7 H8 H11 H12 H15 H16]
  · iapply ((quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.2.2 E f9 f10 f13 f14)
    isplitl [H2]; · iexact H2
    isplitl [H9]; · iexact H9
    isplitl [H10]; · iexact H10
    isplitl [H13]; · iexact H13
    iexact H14
  · iintro %_ ⟨H2, H9, H10, H13, H14⟩
    isplitl [H2]; · iexact H2
    isplitl [H3]; · iexact H3
    isplitl [H4]; · iexact H4
    isplitl [H5]; · iexact H5
    isplitl [H6]; · iexact H6
    isplitl [H7 H8 H9 H10 H11 H12 H13 H14]
    · iexists f7, f8, (arg9.view.writes (Elt F) f9 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).1), (arg10.view.writes (Elt F) f10 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.1), f11, f12, (arg13.view.writes (Elt F) f13 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.1), (arg14.view.writes (Elt F) f14 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.2.1)
      isplitr
      · ipureintro; exact hQ f7 f8 f9 f10 f11 f12 f13 f14 hq
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    iexists _; iexact H16

end Cert.KernelIdeal.Body

end
-- ==== Proof.AttendLists.lean ====
module

public import proofs.«01_k».proof.Proof.QuantLists
public import Idealize.ShloMosaic.Lib.MatmulPlain

/-!
# What one trip of an attention loop stores

The five attention loops of the body differ in how many blocks of keys they read. Here one trip is written once, with
`n + 1` blocks of keys as a variable, and each loop's stores are shown to be the instance of it.
-/

@[expose] public section

set_option maxRecDepth 65536
set_option maxHeartbeats 4000000

noncomputable section

namespace Cert.KernelIdeal.Body

open Idealize.ShloMosaic Idealize.ShloMosaic.TcCoe Idealize.ShloMosaic.Tactic
open Idealize.SL Idealize.SL.RA Idealize.SL.BI Idealize.SL.Sem
open Cert.KernelIdeal Cert.KernelIdeal.Gen

/-- The key head of trip `k`, as the loop counts it. -/
def trip (k : ℕ) : BitVec 32 := Scalar.addi 0#32 (Scalar.muli (Scf.iv 0#32 1#32 k) 1#32)

/-- The query head of trip `k` and member `h` of its group, as the loop counts it. -/
def headOf (k h : ℕ) : BitVec 32 := Scalar.addi (Scalar.muli (trip k) 5#32) (BitVec.ofNat 32 h)

/-- The key head of trip `k` as an offset. -/
def tripAt (k : ℕ) : ℕ := (Scalar.indexCast (trip k)).toNat
/-- The query head as an offset. -/
def headAt (k h : ℕ) : ℕ := (Scalar.indexCast (headOf k h)).toNat
/-- The row of half `g` of a query head as an offset. -/
def halfAt (k h g : ℕ) : ℕ := (Scalar.indexCast (Scalar.addi (Scalar.muli (headOf k h) 2#32) (BitVec.ofNat 32 g))).toNat
/-- The column of half `g` of a query head as an offset. -/
def colAt (k h g : ℕ) : ℕ := (Scalar.indexCast (Scalar.addi (Scalar.muli (headOf k h) 256#32) (BitVec.ofNat 32 (128 * g)))).toNat

theorem tripAt_eq {k : ℕ} (hk : k < 8) : tripAt k = k :=
  (by decide +kernel : ∀ k : Fin 8, tripAt k = k) ⟨k, hk⟩
theorem headAt_eq {k h : ℕ} (hk : k < 8) (hh : h < 5) : headAt k h = 5 * k + h :=
  (by decide +kernel : ∀ (k : Fin 8) (h : Fin 5), headAt k h = 5 * k + h) ⟨k, hk⟩ ⟨h, hh⟩
theorem halfAt_eq {k h g : ℕ} (hk : k < 8) (hh : h < 5) (hg : g < 2) : halfAt k h g = 2 * (5 * k + h) + g :=
  (by decide +kernel : ∀ (k : Fin 8) (h : Fin 5) (g : Fin 2), halfAt k h g = 2 * (5 * k + h) + g) ⟨k, hk⟩ ⟨h, hh⟩ ⟨g, hg⟩
theorem colAt_eq {k h g : ℕ} (hk : k < 8) (hh : h < 5) (hg : g < 2) : colAt k h g = 256 * (5 * k + h) + 128 * g :=
  (by decide +kernel : ∀ (k : Fin 8) (h : Fin 5) (g : Fin 2), colAt k h g = 256 * (5 * k + h) + 128 * g) ⟨k, hk⟩ ⟨h, hh⟩ ⟨g, hg⟩

/-- A box of two axes lies in an array when it does on each axis. -/
theorem inb2 {a b p q M N : ℕ} (h0 : a + p ≤ M) (h1 : b + q ≤ N) :
    ∀ x : Fin 2, (![a, b] : Fin 2 → ℕ) x + (![p, q] : Fin 2 → ℕ) x ≤ (⟨2, ![M, N]⟩ : Shape).size x := by
  intro x
  match x with
  | ⟨0, _⟩ => exact h0
  | ⟨1, _⟩ => exact h1

/-- A box of three axes lies in an array when it does on each axis. -/
theorem inb3 {a b c p q r M N K : ℕ} (h0 : a + p ≤ M) (h1 : b + q ≤ N) (h2 : c + r ≤ K) :
    ∀ x : Fin 3, (![a, b, c] : Fin 3 → ℕ) x + (![p, q, r] : Fin 3 → ℕ) x ≤ (⟨3, ![M, N, K]⟩ : Shape).size x := by
  intro x
  match x with
  | ⟨0, _⟩ => exact h0
  | ⟨1, _⟩ => exact h1
  | ⟨2, _⟩ => exact h2

/-- A leading axis of one element may be dropped. -/
theorem dropOne (p q : ℕ) : (⟨3, ![1, p, q]⟩ : Shape).ShapeCasts ⟨2, ![p, q]⟩ := by
  unfold Shape.ShapeCasts Shape.numel
  simp [Fin.prod_univ_succ]

/-- The trivial reshape. -/
theorem sameCast (s : Shape) : s.ShapeCasts s := rfl

/-- A box of an array of two axes. -/
theorem sl2 {a b M N : ℕ} (h0 : a + 128 ≤ M) (h1 : b + 128 ≤ N) : (⟨2, ![M, N]⟩ : Shape).Slices ![a, b] S128x128 := by
  refine ⟨rfl, fun x => ?_⟩
  match x with
  | ⟨0, _⟩ => exact h0
  | ⟨1, _⟩ => exact h1

/-- How many heads the products from an even member of a group cover: two, and one from the last. -/
def wide (e : ℕ) : ℕ := 2 - e / 2

theorem wide_le {e : ℕ} (he : e < 3) : 256 * e + 128 * wide e ≤ 640 := by
  unfold wide; omega

variable {F : FTy → Type} [FloatOps F] [Named F]

/-- The head of a block numbered head by head. -/
theorem divLt {n : ℕ} (e : Fin (5 * (n + 1))) : e.val / (n + 1) < 5 :=
  Nat.div_lt_of_lt_mul (lt_of_lt_of_eq e.isLt (Nat.mul_comm _ _))

section Lists

variable (n : Fin 5) (k : Fin 8)

/-- The scores of the heads from `2 e` on: keys by queries. -/
def scoreOf (arg11 : Memref sig .tc .vmem S8x640x256 .fp8e4m3) (X11 : BufTy.Contents (Elt F) arg11.view.ty)
    (arg13 : Memref sig .tc .vmem S8x640x256 .fp8e4m3) (X13 : BufTy.Contents (Elt F) arg13.view.ty) (e : Fin 3) :
    FVec F ⟨2, ![128 * (n.val + 1), 128 * wide e.val]⟩ .f32 :=
  shapeCast ⟨2, ![128 * (n.val + 1), 128 * wide e.val]⟩
    (matmul (DotDims.transposedRhs (128 * (n.val + 1)) 256 (128 * wide e.val)) none
      (shapeCast ⟨2, ![128 * (n.val + 1), 256]⟩ (View.readAt (Elt F) arg11.view
        (Rect.unit (s := S8x640x256) ![tripAt k.val, 0, 0] ![1, 128 * (n.val + 1), 256] (inb3 (by rw [tripAt_eq k.isLt]; omega) (by omega) (by omega))).toLoadRect X11) (dropOne _ _))
      (shapeCast ⟨2, ![128 * wide e.val, 256]⟩ (View.readAt (Elt F) arg13.view
        (Rect.unit (s := S8x640x256) ![tripAt k.val, 256 * e.val, 0] ![1, 128 * wide e.val, 256] (inb3 (by rw [tripAt_eq k.isLt]; omega) (wide_le e.isLt) (by omega))).toLoadRect X13) (dropOne _ _))
      (constant ⟨2, ![128 * (n.val + 1), 128 * wide e.val]⟩ .f32 0#32)) (sameCast _)

/-- The stores of scores, given each product. -/
def storesS (M : ∀ e : Fin 3, FVec F ⟨2, ![128 * (n.val + 1), 128 * wide e.val]⟩ .f32) : List (View.Piece (Elt F) S640x640 .f32) :=
  downTo (fun e : Fin 3 => ⟨Rect.unit (s := S640x640) ![0, 256 * e.val] ![128 * (n.val + 1), 128 * wide e.val] (inb2 (by omega) (wide_le e.isLt)), M e⟩) 3 le_rfl

/-- Which tokens of a diagonal block are visible to which queries. -/
def seen : IVec S128x128 1 :=
  cmpi .sle
    (addi (addi (andi (iota Kind.tc S128x128 32 [0] iota_S128x128_d0_w32) (broadcast S128x128 4294967264#32))
        (muli (broadcast S128x128 8#32) (andi (iota Kind.tc S128x128 32 [0] iota_S128x128_d0_w32) (broadcast S128x128 3#32))))
      (andi (shrsi (iota Kind.tc S128x128 32 [0] iota_S128x128_d0_w32) (broadcast S128x128 2#32)) (broadcast S128x128 7#32)))
    (iota Kind.tc S128x128 32 [1] iota_S128x128_d1_w32)

/-- The rectangle of a block of scores. -/
def sbox (h j : Fin 5) : Rect S640x640 := Rect.unit (s := S640x640) ![128 * j.val, 128 * h.val] S128x128.size (inb2 (by omega) (by omega))

/-- The scale of key block `j`. -/
def ksAt (arg5 : Memref sig .tc .smem S5x3x8 .f32) (X5 : BufTy.Contents (Elt F) arg5.view.ty) (b : Fin 3) (j : Fin 5) : F .f32 :=
  View.readAt (Elt F) arg5.view (Rect.unit (s := S5x3x8) ![j.val, (Scalar.indexCast (BitVec.ofNat 32 b.val)).toNat, tripAt k.val] S1x1x1.size
    (inb3 (by omega) (by rw [(by decide +kernel : ∀ b : Fin 3, (Scalar.indexCast (BitVec.ofNat 32 b.val)).toNat = b.val) b]; omega)
      (by rw [tripAt_eq k.isLt]; omega))).toLoadRect X5 (Shape.Idx.first (by decide : 0 < S1x1x1.numel))

/-- The score factors of a head's queries. -/
def crow (arg14 : Memref sig .tc .vmem S40x128 .f32) (X14 : BufTy.Contents (Elt F) arg14.view.ty) (h : Fin 5) : FVec F S1x128 .f32 :=
  View.readAt (Elt F) arg14.view (Rect.unit (s := S40x128) ![headAt k.val h.val, 0] S1x128.size
    (inb2 (by rw [headAt_eq k.isLt h.isLt]; omega) (by omega))).toLoadRect X14

/-- The largest of a block's rows, times the block's scale. -/
def topOf (s : FVec F S128x128 .f32) (r : F .f32) : FVec F S1x128 .f32 :=
  mulf (shapeCast S1x128 (multiReduction .maximumf [0] S128 s 4286578688#32 reduces_S128x128_S128 (.inl rfl) rfl) shapeCasts_S128_S1x128) (broadcast S1x128 r)

/-- The sum of a block's rows. -/
def sumOf (p : FVec F S128x128 .f32) : FVec F S1x128 .f32 :=
  shapeCast S1x128 (multiReduction .add [0] S128 p 0#32 reduces_S128x128_S128 (.inl rfl) rfl) shapeCasts_S128_S1x128

variable (S : ℕ → FVec F S128x128 .f32) (ks : ℕ → F .f32) (C : FVec F S1x128 .f32)

/-- The running largest score before block `j + 1`, of blocks all visible. -/
def topRun : ℕ → FVec F S1x128 .f32
  | 0 => topOf (S 0) (ks 0)
  | j + 1 => maximumf (topRun j) (topOf (S (j + 1)) (ks (j + 1)))

/-- The largest of the last block, which is visible in part. -/
def topLast (j : ℕ) : FVec F S1x128 .f32 :=
  topOf (select seen (S j) (broadcast S128x128 (FloatOps.ofBits .f32 4286578688#32))) (ks j)

/-- The largest score of a query. -/
def topAll : ℕ → FVec F S1x128 .f32
  | 0 => topLast S ks 0
  | n + 1 => maximumf (topRun S ks n) (topLast S ks (n + 1))

/-- The offset of the exponents. -/
def topC (n : ℕ) : FVec F S1x128 .f32 :=
  subf (mulf (topAll S ks n) C) (broadcast S1x128 (FloatOps.ofBits .f32 1090519040#32))

/-- The probabilities of block `j`. -/
def probs (n j : ℕ) : FVec F S128x128 .f32 :=
  bif Nat.beq j n then k0_pay121 seen (ks j) C (topC S ks C n) (S j) else k0_pay119 (ks j) C (topC S ks C n) (S j)

/-- The codes of the probabilities of block `j`. -/
def probCodes (n j : ℕ) : FVec F S128x128 .fp8e4m3 :=
  shapeCast S128x128 (truncf .fp8e4m3 (minimumf (broadcast S128x128 (FloatOps.ofBits .f32 1138753536#32))
    (maximumf (broadcast S128x128 (FloatOps.ofBits .f32 3286237184#32)) (probs S ks C n j))) bitsLt_fp8e4m3_f32) shapeCasts_S128x128_S128x128

/-- The sum of a query's probabilities over the blocks up to `j`. -/
def sumRun (n : ℕ) : ℕ → FVec F S1x128 .f32
  | 0 => sumOf (probs S ks C n 0)
  | j + 1 => addf (sumRun n j) (sumOf (probs S ks C n (j + 1)))

end Lists

section Stores

variable (n : Fin 5) (k : Fin 8)
  (S : Fin 5 → ℕ → FVec F S128x128 .f32) (ks : ℕ → F .f32) (C : Fin 5 → FVec F S1x128 .f32)

/-- The stores of the probabilities' codes. -/
def storesP : List (View.Piece (Elt F) S640x640 .fp8e4m3) :=
  downTo (fun e : Fin (5 * (n.val + 1)) =>
    ⟨sbox ⟨e.val / (n.val + 1), divLt e⟩
        ⟨e.val % (n.val + 1), lt_of_lt_of_le (Nat.mod_lt e.val (Nat.succ_pos n.val)) n.isLt⟩,
      probCodes (S ⟨e.val / (n.val + 1), divLt e⟩) ks
        (C ⟨e.val / (n.val + 1), divLt e⟩) n.val (e.val % (n.val + 1))⟩) (5 * (n.val + 1)) le_rfl

/-- The products of the values with the probabilities of the heads from `2 e` on. -/
def mixOf (arg12 : Memref sig .tc .vmem S8x256x640 .bf16) (X12 : BufTy.Contents (Elt F) arg12.view.ty)
    (arg16 : Memref sig .tc .vmem S640x640 .fp8e4m3) (L : List (View.Piece (Elt F) S640x640 .fp8e4m3)) (e : Fin 3) :
    FVec F ⟨2, ![256, 128 * wide e.val]⟩ .f32 :=
  matmul (DotDims.plain 256 (128 * (n.val + 1)) (128 * wide e.val)) none
    (shapeCast ⟨2, ![256, 128 * (n.val + 1)]⟩ (View.readAt (Elt F) arg12.view
      (Rect.unit (s := S8x256x640) ![tripAt k.val, 0, 0] ![1, 256, 128 * (n.val + 1)] (inb3 (by rw [tripAt_eq k.isLt]; omega) (by omega) (by omega))).toLoadRect X12) (dropOne _ _))
    (arg16.view.readCov L (Rect.unit (s := S640x640) ![0, 256 * e.val] ![128 * (n.val + 1), 128 * wide e.val] (inb2 (by omega) (wide_le e.isLt))).toLoadRect)
    (constant ⟨2, ![256, 128 * wide e.val]⟩ .f32 0#32)

variable (O : ∀ e : Fin 3, FVec F ⟨2, ![256, 128 * wide e.val]⟩ .f32)

/-- Half `g` of a head's sums of values. -/
def halfOf (h : Fin 5) (g : Fin 2) : FVec F S128x128 .f32 :=
  extractStridedSlice S128x128 ![128 * g.val, 128 * (h.val % 2)] (O ⟨h.val / 2, by omega⟩)
    (sl2 (by omega) (by unfold wide; show 128 * (h.val % 2) + 128 ≤ 128 * (2 - h.val / 2 / 2); omega))

/-- The largest magnitude of a half, per query. -/
def magOf (o : FVec F S128x128 .f32) : FVec F S1x128 .f32 :=
  shapeCast S1x128 (multiReduction .maximumf [0] S128 (absf o) 4286578688#32 reduces_S128x128_S128 (.inl rfl) rfl) shapeCasts_S128_S1x128

/-- The codes of a half, from it and the reciprocal of the sum of the probabilities. -/
def halfCodes (l : FVec F S1x128 .f32) (o : FVec F S128x128 .f32) : FVec F S1x128x128 .fp8e4m3 :=
  shapeCast S1x128x128 (truncf .fp8e4m3 (transpose S128x128 [1, 0] (k0_pay162 (k0_pay157 l) o (magOf o)) transposes_S128x128_p1_0_S128x128) bitsLt_fp8e4m3_f32) shapeCasts_S128x128_S1x128x128

/-- The stores of a trip's scales. -/
def storesOS : List (View.Piece (Elt F) S1x80x128 .f32) :=
  downTo (fun e : Fin 10 => ⟨Rect.unit (s := S1x80x128) ![0, halfAt k.val (e.val / 2) (e.val % 2), 0] S1x1x128.size
      (inb3 (by omega) (by rw [halfAt_eq k.isLt (by omega) (by omega)]; omega) (by omega)),
    k0_pay161 (k0_pay157 (sumRun (S ⟨e.val / 2, by omega⟩) ks (C ⟨e.val / 2, by omega⟩) n.val n.val))
      (magOf (halfOf O ⟨e.val / 2, by omega⟩ ⟨e.val % 2, by omega⟩))⟩) 10 le_rfl

/-- The stores of a trip's codes. -/
def storesOC : List (View.Piece (Elt F) S1x128x10240 .fp8e4m3) :=
  downTo (fun e : Fin 10 => ⟨Rect.unit (s := S1x128x10240) ![0, 0, colAt k.val (e.val / 2) (e.val % 2)] S1x128x128.size
      (inb3 (by omega) (by omega) (by rw [colAt_eq k.isLt (by omega) (by omega)]; omega)),
    halfCodes (sumRun (S ⟨e.val / 2, by omega⟩) ks (C ⟨e.val / 2, by omega⟩) n.val n.val)
      (halfOf O ⟨e.val / 2, by omega⟩ ⟨e.val % 2, by omega⟩)⟩) 10 le_rfl

end Stores

section Trip

variable (b : Fin 3) (n : Fin 5) (k : Fin 8)
  (arg5 : Memref sig .tc .smem S5x3x8 .f32) (X5 : BufTy.Contents (Elt F) arg5.view.ty)
  (arg11 : Memref sig .tc .vmem S8x640x256 .fp8e4m3) (X11 : BufTy.Contents (Elt F) arg11.view.ty)
  (arg12 : Memref sig .tc .vmem S8x256x640 .bf16) (X12 : BufTy.Contents (Elt F) arg12.view.ty)
  (arg13 : Memref sig .tc .vmem S8x640x256 .fp8e4m3) (X13 : BufTy.Contents (Elt F) arg13.view.ty)
  (arg14 : Memref sig .tc .vmem S40x128 .f32) (X14 : BufTy.Contents (Elt F) arg14.view.ty)
  (arg15 : Memref sig .tc .vmem S640x640 .f32) (arg16 : Memref sig .tc .vmem S640x640 .fp8e4m3)

/-- The scores of a trip, as they are read back. -/
def tripS (h : Fin 5) (j : ℕ) : FVec F S128x128 .f32 :=
  arg15.view.readCov (storesS n (scoreOf n k arg11 X11 arg13 X13)) (Rect.unit (s := S640x640) ![128 * (j % 5), 128 * h.val] S128x128.size (inb2 (by omega) (by omega))).toLoadRect

/-- The scales of a trip's key blocks. -/
def tripK (j : ℕ) : F .f32 := ksAt k arg5 X5 b ⟨j % 5, Nat.mod_lt _ (by decide)⟩

/-- The sums of values of a trip. -/
def tripO (e : Fin 3) : FVec F ⟨2, ![256, 128 * wide e.val]⟩ .f32 :=
  mixOf n k arg12 X12 arg16 (storesP n (tripS n k arg11 X11 arg13 X13 arg15) (tripK b k arg5 X5) (crow k arg14 X14)) e

/-- The stores of scales of a trip. -/
def tripOS : List (View.Piece (Elt F) S1x80x128 .f32) :=
  storesOS n k (tripS n k arg11 X11 arg13 X13 arg15) (tripK b k arg5 X5) (crow k arg14 X14)
    (tripO b n k arg5 X5 arg11 X11 arg12 X12 arg13 X13 arg14 X14 arg15 arg16)

/-- The stores of codes of a trip. -/
def tripOC : List (View.Piece (Elt F) S1x128x10240 .fp8e4m3) :=
  storesOC n k (tripS n k arg11 X11 arg13 X13 arg15) (tripK b k arg5 X5) (crow k arg14 X14)
    (tripO b n k arg5 X5 arg11 X11 arg12 X12 arg13 X13 arg14 X14 arg15 arg16)

end Trip

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)
  (arg0 : BitVec 32)
  (X5 : BufTy.Contents (Elt F) arg5.view.ty) (X11 : BufTy.Contents (Elt F) arg11.view.ty) (X12 : BufTy.Contents (Elt F) arg12.view.ty)
  (X13 : BufTy.Contents (Elt F) arg13.view.ty) (X14 : BufTy.Contents (Elt F) arg14.view.ty)

/-- The codes stored by a trip of the loop with 1 block of keys. -/
theorem tripOC_0 (h : k0_cond2 i = 1#1) (k : Fin k0_t2_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).1 f7 f8 f15 f16
      = tripOC ⟨(i 0).val, (i 0).isLt⟩ ⟨0, by decide⟩ ⟨k.val, hk⟩ arg5 X5 arg11 X11 arg12 X12 arg13 X13 arg14 X14 arg15 arg16 := by
  unfold trip_k0_t2; rfl

/-- The scales stored by a trip of the loop with 1 block of keys. -/
theorem tripOS_0 (h : k0_cond2 i = 1#1) (k : Fin k0_t2_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).2.1 f7 f8 f15 f16
      = tripOS ⟨(i 0).val, (i 0).isLt⟩ ⟨0, by decide⟩ ⟨k.val, hk⟩ arg5 X5 arg11 X11 arg12 X12 arg13 X13 arg14 X14 arg15 arg16 := by
  unfold trip_k0_t2; rfl

/-- The codes stored by a trip of the loop with 2 blocks of keys. -/
theorem tripOC_1 (h : k0_cond3 i = 1#1) (k : Fin k0_t3_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).1 f7 f8 f15 f16
      = tripOC ⟨(i 0).val, (i 0).isLt⟩ ⟨1, by decide⟩ ⟨k.val, hk⟩ arg5 X5 arg11 X11 arg12 X12 arg13 X13 arg14 X14 arg15 arg16 := by
  unfold trip_k0_t3; rfl

/-- The scales stored by a trip of the loop with 2 blocks of keys. -/
theorem tripOS_1 (h : k0_cond3 i = 1#1) (k : Fin k0_t3_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).2.1 f7 f8 f15 f16
      = tripOS ⟨(i 0).val, (i 0).isLt⟩ ⟨1, by decide⟩ ⟨k.val, hk⟩ arg5 X5 arg11 X11 arg12 X12 arg13 X13 arg14 X14 arg15 arg16 := by
  unfold trip_k0_t3; rfl

/-- The codes stored by a trip of the loop with 3 blocks of keys. -/
theorem tripOC_2 (h : k0_cond4 i = 1#1) (k : Fin k0_t4_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).1 f7 f8 f15 f16
      = tripOC ⟨(i 0).val, (i 0).isLt⟩ ⟨2, by decide⟩ ⟨k.val, hk⟩ arg5 X5 arg11 X11 arg12 X12 arg13 X13 arg14 X14 arg15 arg16 := by
  unfold trip_k0_t4; rfl

/-- The scales stored by a trip of the loop with 3 blocks of keys. -/
theorem tripOS_2 (h : k0_cond4 i = 1#1) (k : Fin k0_t4_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).2.1 f7 f8 f15 f16
      = tripOS ⟨(i 0).val, (i 0).isLt⟩ ⟨2, by decide⟩ ⟨k.val, hk⟩ arg5 X5 arg11 X11 arg12 X12 arg13 X13 arg14 X14 arg15 arg16 := by
  unfold trip_k0_t4; rfl

/-- The codes stored by a trip of the loop with 4 blocks of keys. -/
theorem tripOC_3 (h : k0_cond5 i = 1#1) (k : Fin k0_t5_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).1 f7 f8 f15 f16
      = tripOC ⟨(i 0).val, (i 0).isLt⟩ ⟨3, by decide⟩ ⟨k.val, hk⟩ arg5 X5 arg11 X11 arg12 X12 arg13 X13 arg14 X14 arg15 arg16 := by
  unfold trip_k0_t5; rfl

/-- The scales stored by a trip of the loop with 4 blocks of keys. -/
theorem tripOS_3 (h : k0_cond5 i = 1#1) (k : Fin k0_t5_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).2.1 f7 f8 f15 f16
      = tripOS ⟨(i 0).val, (i 0).isLt⟩ ⟨3, by decide⟩ ⟨k.val, hk⟩ arg5 X5 arg11 X11 arg12 X12 arg13 X13 arg14 X14 arg15 arg16 := by
  unfold trip_k0_t5; rfl

/-- The codes stored by a trip of the loop with 5 blocks of keys. -/
theorem tripOC_4 (h : k0_cond6 i = 1#1) (k : Fin k0_t6_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).1 f7 f8 f15 f16
      = tripOC ⟨(i 0).val, (i 0).isLt⟩ ⟨4, by decide⟩ ⟨k.val, hk⟩ arg5 X5 arg11 X11 arg12 X12 arg13 X13 arg14 X14 arg15 arg16 := by
  unfold trip_k0_t6; rfl

/-- The scales stored by a trip of the loop with 5 blocks of keys. -/
theorem tripOS_4 (h : k0_cond6 i = 1#1) (k : Fin k0_t6_loop.trips) (hk : k.val < 8)
    (f7 : BufTy.Contents (Elt F) arg7.view.ty) (f8 : BufTy.Contents (Elt F) arg8.view.ty) (f15 : BufTy.Contents (Elt F) arg15.view.ty) (f16 : BufTy.Contents (Elt F) arg16.view.ty) :
    (trip_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 k).2.1 f7 f8 f15 f16
      = tripOS ⟨(i 0).val, (i 0).isLt⟩ ⟨4, by decide⟩ ⟨k.val, hk⟩ arg5 X5 arg11 X11 arg12 X12 arg13 X13 arg14 X14 arg15 arg16 := by
  unfold trip_k0_t6; rfl

end Cert.KernelIdeal.Body

end
-- ==== Proof.QuantSpec.lean ====
module

public import proofs.«01_k».proof.Proof.Gen.ReferenceIdeal.Frame
public import Idealize.ShloMosaic.Lib.Pointwise

/-!
# What the quantiser computes

Both programs quantise a group of numbers the same way: the largest magnitude `a` of the group gives a scale
`scaleOf a`, a power of two, and each number is multiplied by the inverse of the scale and clipped to the largest
code. A program takes the powers of two from the bits of their exponents or as powers of two; here the two tables are
shown to hold the same numbers.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.Value

/-- The power of two that the scale table holds at place `k`: exponents from -126 to 127. -/
def twoPow (k : Fin 254) : EReal := (((2 : ℝ) ^ ((k.val : ℤ) - 126) : ℝ) : EReal)

/-- The largest power of two not above `t`, or zero (or `⊥` before any) when there is none. -/
def below (t : EReal) : EReal :=
  Finset.univ.fold max ⊥ fun k : Fin 254 => if twoPow k ≤ t then twoPow k else 0

/-- The scale of a group of numbers whose largest magnitude is `a`. -/
def scaleOf (a : EReal) : EReal :=
  if below (a * Ideal.ofBits .f32 0x3B124925#32) = 0 then 1 else below (a * Ideal.ofBits .f32 0x3B124925#32) * 2

/-- The largest of the magnitudes of a family. -/
def topMag {n : ℕ} (f : Fin n → EReal) : EReal := Finset.univ.fold max ⊥ fun k => max (f k) (-f k)

/-- A number as a code: clipped to the largest code. -/
def clip (y : EReal) : EReal := min (Ideal.ofBits .f32 0x43E00000#32) (max (Ideal.ofBits .f32 0xC3E00000#32) y)

/-- The pattern of minus infinity. -/
theorem bits_bot : Ideal.ofBits .f32 0xFF800000#32 = ⊥ := by
  simp [Ideal.ofBits, Ideal.ieee]

/-- The pattern of two. -/
theorem bits_two : Ideal.ofBits .f32 0x40000000#32 = 2 := by
  rw [show (2 : EReal) = ((2 : ℝ) : EReal) by norm_cast]
  simp [Ideal.ofBits, Ideal.ieee, -EReal.coe_mul]; norm_num

/-- A word whose bits are an exponent of the table: its fields. -/
theorem pow_fields : ∀ k : Fin 254,
    ((IntOp.shli .vector (IntOp.addi (BitVec.ofNat 32 k.val) 1#32) 23#32).extractLsb' 31 1 == 1#1) = false
    ∧ ((IntOp.shli .vector (IntOp.addi (BitVec.ofNat 32 k.val) 1#32) 23#32).extractLsb' 23 8).toNat = k.val + 1
    ∧ ((IntOp.shli .vector (IntOp.addi (BitVec.ofNat 32 k.val) 1#32) 23#32).extractLsb' 0 23).toNat = 0 := by
  decide +kernel

/-- A word with exponent field `k + 1` and nothing else denotes the `k`-th power of two. -/
theorem ofBits_of_fields (b : BitVec 32) (k : Fin 254) (h1 : (b.extractLsb' 31 1 == 1#1) = false)
    (h2 : (b.extractLsb' 23 8).toNat = k.val + 1) (h3 : (b.extractLsb' 0 23).toNat = 0) :
    Ideal.ofBits .f32 b = twoPow k := by
  have hk := k.isLt
  show Ideal.ieee 8 23 b = _
  unfold Ideal.ieee twoPow
  simp only [show 8 + 23 = 31 from rfl, h1, h2, h3]
  rw [if_neg (by omega), if_neg (by omega)]
  refine congrArg Real.toEReal ?_
  simp only [Bool.false_eq_true, if_false, one_mul, Nat.add_zero]
  rw [show (((2 : ℕ) ^ 23 : ℕ) : ℝ) = (2 : ℝ) ^ (23 : ℤ) by norm_num, ← zpow_add₀ (two_ne_zero)]
  congr 1
  push_cast; omega

/-- The kernel's table entry: the word with exponent field `k + 1` denotes the `k`-th power of two. -/
theorem bits_pow (k : Fin 254) :
    Ideal.ofBits .f32 (IntOp.shli .vector (IntOp.addi (BitVec.ofNat 32 k.val) 1#32) 23#32) = twoPow k :=
  ofBits_of_fields _ k (pow_fields k).1 (pow_fields k).2.1 (pow_fields k).2.2

/-- An exponent of the reference's table, as an integer. -/
theorem pow_exponent : ∀ k : Fin 254,
    (IntOp.addi 4294967170#32 (BitVec.ofNat 32 k.val)).toInt = (k.val : ℤ) - 126 := by decide +kernel

/-- The reference's table entry: two to the `k`-th exponent. -/
theorem exp2_pow (k : Fin 254) :
    Ideal.exp2 ((((IntOp.addi 4294967170#32 (BitVec.ofNat 32 k.val)).toInt : ℝ)) : EReal) = twoPow k := by
  rw [pow_exponent, Ideal.exp2_coe]
  unfold twoPow
  congr 1
  exact Real.rpow_intCast 2 _

/-- The scale of head `h` of the queries of token `t` of batch `b`. -/
def qScale (x : (⟨3, ![3, 640, 10240]⟩ : Shape).Idx → EReal) (b : Fin 3) (t : Fin 640) (h : Fin 40) : EReal :=
  scaleOf (topMag fun k : Fin 256 => x (ix3 b t ⟨256 * h.val + k.val, by omega⟩))

/-- The code of column `c` of head `h` of the queries of token `t` of batch `b`. -/
def qCode (x : (⟨3, ![3, 640, 10240]⟩ : Shape).Idx → EReal) (b : Fin 3) (t : Fin 640) (h : Fin 40) (c : Fin 256) : EReal :=
  clip (x (ix3 b t ⟨256 * h.val + c.val, by omega⟩) * Ideal.div 1 (qScale x b t h))

/-- The codes of the queries. -/
def qCodes (x : (⟨3, ![3, 640, 10240]⟩ : Shape).Idx → EReal) (y : (⟨3, ![3, 640, 10240]⟩ : Shape).Idx) : EReal :=
  qCode x (y 0) (y 1) ⟨(y 2).val / 256, by have : (y 2).val < 10240 := (y 2).isLt; omega⟩ ⟨(y 2).val % 256, Nat.mod_lt _ (by decide)⟩

/-- The scales of the queries. -/
def qScales (x : (⟨3, ![3, 640, 10240]⟩ : Shape).Idx → EReal) (y : (⟨3, ![3, 40, 640]⟩ : Shape).Idx) : EReal :=
  qScale x (y 0) (y 2) (y 1)

end Cert.Value

end
-- ==== Proof.QuantValue.lean ====
module

public import proofs.«01_k».proof.Proof.QuantLists
public import proofs.«01_k».proof.Proof.QuantSpec

/-!
# The quantiser of the kernel, read at an index

The kernel's scales and codes at an index are those of the group the index lies in.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

/-- A choice on the equality of two words. -/
theorem select_eq {α : Type} (a b : BitVec 32) (x y : α) :
    Scalar.select (IntOp.cmpi .eq a b) x y = if a = b then x else y := by
  by_cases h : a = b
  · subst h; simp [Scalar.select, IntOp.cmpi]
  · have e : (a == b) = false := by simpa using h
    simp [Scalar.select, IntOp.cmpi, h, e]

/-- The largest magnitude of a row of a head's queries. -/
theorem pay854_apply (x : Vec Ideal S1x128x256 .bf16) (r : Fin 128) :
    k0_pay854 x (ix2 r 0) = topMag fun k : Fin 256 => x (ix3 0 r k) := by
  pointwise [k0_pay854, k0_pay853]
  rw [bits_bot]; rfl

/-- A query code of the kernel. -/
theorem pay855_apply (x : Vec Ideal S1x128x256 .bf16) (r : Fin 128) (c : Fin 256) :
    k0_pay855 x (ix2 r c) = clip (x (ix3 0 r c) * Ideal.div 1 (scaleOf (topMag fun k : Fin 256 => x (ix3 0 r k)))) := by
  pointwise [k0_pay855, k0_pay853]
  simp only [bits_bot, bits_two, bits_pow, pay854_apply]
  rfl

/-- The table of powers of two, down the first axis. -/
def tallTab : FVec Ideal S254x1x1 .f32 :=
  bitcastToFloat .f32 (shli (addi (iota .tc S254x1x1 32 [0] iota_S254x1x1_d0_w32) (broadcast S254x1x1 1#32)) (broadcast S254x1x1 23#32))

theorem tallTab_apply (k : Fin 254) : tallTab (ix3 k 0 0) = twoPow k := by
  pointwise [tallTab]
  exact bits_pow k

/-- The choice among the powers of two, down the first axis. -/
def tallSel (a : FVec Ideal S1x40x128 .f32) : FVec Ideal S254x40x128 .f32 :=
  select (cmpf .ole (broadcastTo S254x40x128 tallTab broadcasts_S254x1x1_S254x40x128)
      (broadcastTo S254x40x128 (mulf a (broadcast S1x40x128 (Scalar.ofBits .f32 0x3B124925#32))) broadcasts_S1x40x128_S254x40x128))
    (broadcastTo S254x40x128 (shapeCast S254x1x1 tallTab shapeCasts_S254x1x1_S254x1x1) broadcasts_S254x1x1_S254x40x128)
    (broadcast S254x40x128 (Scalar.ofBits .f32 0x00000000#32))

theorem tallSel_apply (a : FVec Ideal S1x40x128 .f32) (k : Fin 254) (h : Fin 40) (r : Fin 128) :
    tallSel a (ix3 k h r) = if twoPow k ≤ a (ix3 0 h r) * Ideal.ofBits .f32 0x3B124925#32 then twoPow k else 0 := by
  pointwise [tallSel]
  rw [tallTab_apply]

/-- The largest chosen power of two. -/
def tallMax (s : FVec Ideal S254x40x128 .f32) : FVec Ideal S40x128 .f32 :=
  multiReduction .maximumf [0] S40x128 s 0xFF800000#32 reduces_S254x40x128_S40x128 (.inl rfl) rfl

theorem tallMax_apply (s : FVec Ideal S254x40x128 .f32) (h : Fin 40) (r : Fin 128) :
    tallMax s (ix2 h r) = Finset.univ.fold max ⊥ fun k : Fin 254 => s (ix3 k h r) := by
  pointwise [tallMax]
  rw [bits_bot]

/-- The scale from the largest chosen power of two. -/
def tallScale (p : FVec Ideal S40x128 .f32) : FVec Ideal S40x128 .f32 :=
  shapeCast S40x128 (select (cmpf .oeq (shapeCast S1x40x128 p shapeCasts_S40x128_S1x40x128) (broadcast S1x40x128 (Scalar.ofBits .f32 0x00000000#32)))
    (broadcast S1x40x128 (Scalar.ofBits .f32 0x3F800000#32))
    (mulf (shapeCast S1x40x128 p shapeCasts_S40x128_S1x40x128) (broadcast S1x40x128 (Scalar.ofBits .f32 0x40000000#32)))) shapeCasts_S1x40x128_S40x128

theorem tallScale_apply (p : FVec Ideal S40x128 .f32) (h : Fin 40) (r : Fin 128) :
    tallScale p (ix2 h r) = if p (ix2 h r) = 0 then 1 else p (ix2 h r) * 2 := by
  pointwise [tallScale]
  rw [bits_two]

/-- The largest magnitudes, one row per head. -/
def tallMag (v3 : IVec S128x128 32) (v1 : FVec Ideal S128x128 .f32) (v2 : FVec Ideal S128x1 .f32) : FVec Ideal S1x40x128 .f32 :=
  shapeCast S1x40x128 (extractStridedSlice S40x128 ![0, 0] (transpose S128x128 [1, 0]
    (select (cmpi .eq v3 (broadcast S128x128 39#32))
      (broadcastTo S128x128 (shapeCast S128x1 v2 shapeCasts_S128x1_S128x1) broadcasts_S128x1_S128x128) v1)
    transposes_S128x128_p1_0_S128x128) slices_S128x128_o0_0_S40x128) shapeCasts_S40x128_S1x40x128

/-- The kernel's table of scales, in steps. -/
theorem pay857_eq (v3 : IVec S128x128 32) (v1 : FVec Ideal S128x128 .f32) (v2 : FVec Ideal S128x1 .f32) :
    k0_pay857 v3 v1 v2 = tallScale (tallMax (tallSel (tallMag v3 v1 v2))) := rfl

variable (arg2 : Memref sig .tc .vmem S1x128x10240 .bf16) (X2 : BufTy.Contents (Elt Ideal) arg2.view.ty)

/-- Lane `h` of the table of largest magnitudes after `n` heads. -/
theorem lanes_apply (r l : Fin 128) : ∀ (n : ℕ) (hn : n ≤ 40) (h : Fin 40), l.val = h.val → h.val < n →
    lanes arg2 X2 n hn (ix2 r l) = topMag fun k : Fin 256 => qblk arg2 X2 h (ix3 0 r k)
  | 0, _, h, _, hlt => absurd hlt (Nat.not_lt_zero _)
  | n + 1, hn, h, hl, hlt => by
    have ih := lanes_apply r l n (Nat.le_of_succ_le hn) h hl
    unfold lanes
    generalize hg : lanes arg2 X2 n (Nat.le_of_succ_le hn) = g at ih ⊢
    pointwise
    by_cases e : l.val = n
    · rw [e, select_eq, if_pos rfl, pay854_apply]
      obtain rfl : h = ⟨n, hn⟩ := Fin.ext (hl.symm.trans e)
      rfl
    · rw [select_eq, if_neg, ih (by omega)]
      intro q
      have := congrArg BitVec.toNat q
      simp only [BitVec.toNat_ofNat] at this
      have := l.isLt
      omega

theorem tallMag_apply (h : Fin 40) (r : Fin 128) :
    tallMag (iota Kind.tc S128x128 32 [1] iota_S128x128_d1_w32) (lanes arg2 X2 39 (by decide)) (k0_pay854 (qblk arg2 X2 39)) (ix3 0 h r)
      = topMag fun k : Fin 256 => qblk arg2 X2 h (ix3 0 r k) := by
  rw [← lanes_apply arg2 X2 r ⟨h.val, by omega⟩ 40 le_rfl h rfl h.isLt]
  rw [show lanes arg2 X2 40 le_rfl = select (cmpi .eq (iota Kind.tc S128x128 32 [1] iota_S128x128_d1_w32) (broadcast S128x128 39#32))
      (broadcastTo S128x128 (shapeCast S128x1 (k0_pay854 (qblk arg2 X2 39)) shapeCasts_S128x1_S128x1) broadcasts_S128x1_S128x128)
      (lanes arg2 X2 39 (by decide)) from rfl]
  unfold tallMag
  generalize select _ _ _ = g
  pointwise

theorem pay857_apply (h : Fin 40) (r : Fin 128) :
    k0_pay857 (iota Kind.tc S128x128 32 [1] iota_S128x128_d1_w32) (lanes arg2 X2 39 (by decide)) (k0_pay854 (qblk arg2 X2 39)) (ix2 h r)
      = scaleOf (topMag fun k : Fin 256 => qblk arg2 X2 h (ix3 0 r k)) := by
  rw [pay857_eq, tallScale_apply, tallMax_apply]
  simp only [tallSel_apply]
  rw [tallMag_apply arg2 X2 h r]
  unfold scaleOf below
  rfl

/-- A table wrapped in a leading axis. -/
theorem wrap40_apply (g : FVec Ideal S40x128 .f32) (h : Fin 40) (r : Fin 128) :
    shapeCast S1x40x128 g shapeCasts_S40x128_S1x40x128 (ix3 0 h r) = g (ix2 h r) := by
  pointwise

/-- The kernel's scales of a block of queries. -/
theorem scales_apply (h : Fin 40) (r : Fin 128) :
    scales arg2 X2 (ix3 0 h r) = scaleOf (topMag fun k : Fin 256 => qblk arg2 X2 h (ix3 0 r k)) := by
  have e : scales arg2 X2 = shapeCast S1x40x128 (k0_pay857 (iota Kind.tc S128x128 32 [1] iota_S128x128_d1_w32)
    (lanes arg2 X2 39 (by decide)) (k0_pay854 (qblk arg2 X2 39))) shapeCasts_S40x128_S1x40x128 := by
    unfold scales k0_pay858; rfl
  rw [e, wrap40_apply, pay857_apply]

/-- A table times the kernel's named constant. -/
theorem timesLog_apply (g : FVec Ideal S40x128 .f32) (h : Fin 40) (r : Fin 128) :
    shapeCast S40x128 (mulf g (broadcast S40x128 (Named.named (F := Ideal) κ "log2e_16" 0x3DB8AA3B#32))) shapeCasts_S40x128_S40x128 (ix2 h r)
      = g (ix2 h r) * (((((Real.log 2) * 16)⁻¹ : ℝ)) : EReal) := by
  rw [IdealRules.named_const.ideal_named_scalar _ _ _ _ rfl]
  pointwise

/-- The kernel's score factors of a block of queries. -/
theorem factors_apply (h : Fin 40) (r : Fin 128) :
    factors arg2 X2 (ix2 h r) = scaleOf (topMag fun k : Fin 256 => qblk arg2 X2 h (ix3 0 r k)) * (((((Real.log 2) * 16)⁻¹ : ℝ)) : EReal) := by
  have e : factors arg2 X2 = shapeCast S40x128 (mulf (k0_pay857 (iota Kind.tc S128x128 32 [1] iota_S128x128_d1_w32)
    (lanes arg2 X2 39 (by decide)) (k0_pay854 (qblk arg2 X2 39)))
    (broadcast S40x128 (Named.named (F := Ideal) κ "log2e_16" 0x3DB8AA3B#32))) shapeCasts_S40x128_S40x128 := by
    unfold factors k0_pay860 k0_pay859; rfl
  rw [e, timesLog_apply, pay857_apply]

end Cert.KernelIdeal.Body

end
-- ==== Proof.QuantStores.lean ====
module

public import proofs.«01_k».proof.Proof.QuantValue
public import Idealize.ShloMosaic.Lib.VecWindow

/-!
# What the stores of the quantiser leave

The kernel stores the codes of the queries head by head, reads them back and stores them again as a result. Each
store holds the piece, under its rectangle, of one function of the whole buffer, so the buffer holds that function.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.Value

/-- A place of a rectangle of rank 3, by its coordinates. -/
theorem unit_idx3 {d : Fin 3 → ℕ} (off size : Fin 3 → ℕ) (inb : ∀ a : Fin 3, off a + size a ≤ (⟨3, d⟩ : Shape).size a)
    (j : (Rect.unit (s := ⟨3, d⟩) off size inb).shape.Idx) (p : (⟨3, d⟩ : Shape).Idx)
    (h0 : (p 0).val = off 0 + (j 0).val) (h1 : (p 1).val = off 1 + (j 1).val) (h2 : (p 2).val = off 2 + (j 2).val) :
    (Rect.unit (s := ⟨3, d⟩) off size inb).idx j = p := by
  funext a
  refine Fin.ext ?_
  show off a + 1 * (j a).val = (p a).val
  match a with
  | ⟨0, _⟩ => rw [Nat.one_mul]; exact h0.symm
  | ⟨1, _⟩ => rw [Nat.one_mul]; exact h1.symm
  | ⟨2, _⟩ => rw [Nat.one_mul]; exact h2.symm

/-- A place of a rectangle of rank 2, by its coordinates. -/
theorem unit_idx2 {d : Fin 2 → ℕ} (off size : Fin 2 → ℕ) (inb : ∀ a : Fin 2, off a + size a ≤ (⟨2, d⟩ : Shape).size a)
    (j : (Rect.unit (s := ⟨2, d⟩) off size inb).shape.Idx) (p : (⟨2, d⟩ : Shape).Idx)
    (h0 : (p 0).val = off 0 + (j 0).val) (h1 : (p 1).val = off 1 + (j 1).val) :
    (Rect.unit (s := ⟨2, d⟩) off size inb).idx j = p := by
  funext a
  refine Fin.ext ?_
  show off a + 1 * (j a).val = (p a).val
  match a with
  | ⟨0, _⟩ => rw [Nat.one_mul]; exact h0.symm
  | ⟨1, _⟩ => rw [Nat.one_mul]; exact h1.symm

/-- When a place lies in a rectangle of rank 3. -/
theorem mem_unit3 {d : Fin 3 → ℕ} (off size : Fin 3 → ℕ) (inb : ∀ a : Fin 3, off a + size a ≤ (⟨3, d⟩ : Shape).size a)
    (y : (⟨3, d⟩ : Shape).Idx) (h0 : off 0 ≤ (y 0).val ∧ (y 0).val < off 0 + size 0)
    (h1 : off 1 ≤ (y 1).val ∧ (y 1).val < off 1 + size 1) (h2 : off 2 ≤ (y 2).val ∧ (y 2).val < off 2 + size 2) :
    y ∈ (Rect.unit (s := ⟨3, d⟩) off size inb).set := by
  refine Rect.mem_set_unit.mpr fun a => ?_
  match a with
  | ⟨0, _⟩ => exact h0
  | ⟨1, _⟩ => exact h1
  | ⟨2, _⟩ => exact h2

/-- When a place lies in a rectangle of rank 2. -/
theorem mem_unit2 {d : Fin 2 → ℕ} (off size : Fin 2 → ℕ) (inb : ∀ a : Fin 2, off a + size a ≤ (⟨2, d⟩ : Shape).size a)
    (y : (⟨2, d⟩ : Shape).Idx) (h0 : off 0 ≤ (y 0).val ∧ (y 0).val < off 0 + size 0)
    (h1 : off 1 ≤ (y 1).val ∧ (y 1).val < off 1 + size 1) :
    y ∈ (Rect.unit (s := ⟨2, d⟩) off size inb).set := by
  refine Rect.mem_set_unit.mpr fun a => ?_
  match a with
  | ⟨0, _⟩ => exact h0
  | ⟨1, _⟩ => exact h1

/-- To show something at every place of a buffer of one block, show it at every row and column. -/
theorem all_block {a b : ℕ} {P : (⟨3, ![1, a, b]⟩ : Shape).Idx → Prop} (h : ∀ (r : Fin a) (c : Fin b), P (ix3 0 r c)) (x) : P x := by
  have e : x = ix3 0 (x 1) (x 2) := by
    rw [eq_ix3 x]; exact congrArg (fun a => ix3 a (x 1) (x 2)) (Subsingleton.elim (α := Fin 1) _ _)
  rw [e]; exact h _ _

end Cert.Value

namespace Cert.KernelIdeal.Body
open Cert.KernelIdeal Cert.KernelIdeal.Gen Cert.Value

/-- The scale of row `r` of head `h` in a block of queries. -/
def headScale (xb : Vec Ideal S1x128x10240 .bf16) (h : Fin 40) (r : Fin 128) : EReal :=
  scaleOf (topMag fun k : Fin 256 => xb (ix3 0 r ⟨256 * h.val + k.val, by omega⟩))

/-- The code of column `c` of row `r` of head `h` in a block of queries. -/
def headCode (xb : Vec Ideal S1x128x10240 .bf16) (h : Fin 40) (r : Fin 128) (c : Fin 256) : EReal :=
  clip (xb (ix3 0 r ⟨256 * h.val + c.val, by omega⟩) * Ideal.div 1 (headScale xb h r))

section

variable (arg2 : Memref sig .tc .vmem S1x128x10240 .bf16) (X2 : BufTy.Contents (Elt Ideal) arg2.view.ty)
  (arg13 : Memref sig .tc .vmem S8x640x256 .fp8e4m3)

/-- A head's block of queries at an index. -/
theorem qblk_apply (h : Fin 40) (r : Fin 128) (k : Fin 256) :
    qblk arg2 X2 h (ix3 0 r k) = arg2.view.read (Elt Ideal) X2 (ix3 0 r ⟨256 * h.val + k.val, by omega⟩) := by
  refine congrArg (arg2.view.read (Elt Ideal) X2) (unit_idx3 _ _ _ _ _ ?_ ?_ ?_)
  · rfl
  · show r.val = 0 + r.val; omega
  · rfl

theorem scales_read (h : Fin 40) (r : Fin 128) :
    scales arg2 X2 (ix3 0 h r) = headScale (arg2.view.read (Elt Ideal) X2) h r := by
  rw [scales_apply]; simp only [qblk_apply]; rfl

theorem factors_read (h : Fin 40) (r : Fin 128) :
    factors arg2 X2 (ix2 h r) = headScale (arg2.view.read (Elt Ideal) X2) h r * (((((Real.log 2) * 16)⁻¹ : ℝ)) : EReal) := by
  rw [factors_apply]; simp only [qblk_apply]; rfl

theorem code_read (h : Fin 40) (r : Fin 128) (c : Fin 256) :
    k0_pay856 (k0_pay855 (qblk arg2 X2 h)) (ix3 0 r c) = headCode (arg2.view.read (Elt Ideal) X2) h r c := by
  have e : k0_pay856 (k0_pay855 (qblk arg2 X2 h)) (ix3 0 r c) = k0_pay855 (qblk arg2 X2 h) (ix2 r c) := by
    generalize k0_pay855 (qblk arg2 X2 h) = g
    pointwise [k0_pay856]
  rw [e, pay855_apply]; simp only [qblk_apply]; rfl

/-- What the store of query codes holds: row `128 h + r` of group `g` is row `r` of the group's head `h`. -/
def codesG (xb : Vec Ideal S1x128x10240 .bf16) (y : S8x640x256.Idx) : EReal :=
  headCode xb ⟨(y 0).val * 5 + (y 1).val / 128, by have := (y 0).isLt; have := (y 1).isLt; change (y 0).val < 8 at *; change (y 1).val < 640 at *; omega⟩
    ⟨(y 1).val % 128, Nat.mod_lt _ (by decide)⟩ (y 2)

/-- What the copy of the query codes holds. -/
def codesC (xb : Vec Ideal S1x128x10240 .bf16) (y : S1x128x10240.Idx) : EReal :=
  headCode xb ⟨(y 2).val / 256, by have : (y 2).val < 10240 := (y 2).isLt; omega⟩ (y 1) ⟨(y 2).val % 256, Nat.mod_lt _ (by decide)⟩

/-- The stores of query codes at a place. -/
theorem storesQ_canon (y : S8x640x256.Idx) :
    View.canon (storesQ arg2 X2 40 le_rfl) y = codesG (arg2.view.read (Elt Ideal) X2) y := by
  have y0 : (y 0).val < 8 := (y 0).isLt
  have y1 : (y 1).val < 640 := (y 1).isLt
  have y2 : (y 2).val < 256 := (y 2).isLt
  refine View.canon_apply_of_pieces _ _ ?_ y ?_
  · intro p hp
    obtain ⟨h, -, rfl⟩ := (mem_downTo _ _ _ _).mp hp
    refine all_block fun r c => ?_
    refine (code_read arg2 X2 h r c).trans ?_
    have hh := h.isLt
    have hr := r.isLt
    have e : (rows h).emb (ix3 0 r c) = ix3 ⟨h.val / 5, by omega⟩ ⟨128 * (h.val % 5) + r.val, by omega⟩ c :=
      unit_idx3 _ _ _ _ _ rfl rfl (by show c.val = 0 + c.val; omega)
    show _ = codesG _ ((rows h).emb (ix3 0 r c))
    rw [e]
    unfold codesG
    congr 1
    · refine Fin.ext ?_
      show h.val = h.val / 5 * 5 + (128 * (h.val % 5) + r.val) / 128
      omega
    · refine Fin.ext ?_
      show r.val = (128 * (h.val % 5) + r.val) % 128
      omega
  · refine ⟨_, (mem_downTo _ _ _ _).mpr ⟨⟨(y 0).val * 5 + (y 1).val / 128, by omega⟩, by show (y 0).val * 5 + (y 1).val / 128 < 40; omega, rfl⟩, ?_⟩
    refine mem_unit3 _ _ (rowsInb _) _ ?_ ?_ ?_
    · show ((y 0).val * 5 + (y 1).val / 128) / 5 ≤ (y 0).val ∧ (y 0).val < ((y 0).val * 5 + (y 1).val / 128) / 5 + 1
      omega
    · show 128 * (((y 0).val * 5 + (y 1).val / 128) % 5) ≤ (y 1).val ∧ (y 1).val < 128 * (((y 0).val * 5 + (y 1).val / 128) % 5) + 128
      omega
    · show 0 ≤ (y 2).val ∧ (y 2).val < 0 + 256
      omega

/-- What is read after the stores of query codes. -/
theorem storesQ_read (v : View sig .tc .vmem S8x640x256 .fp8e4m3) (f : v.ty.Contents (Elt Ideal)) (y : S8x640x256.Idx) :
    v.read (Elt Ideal) (v.writes (Elt Ideal) f (storesQ arg2 X2 40 le_rfl)) y = codesG (arg2.view.read (Elt Ideal) X2) y := by
  have y0 : (y 0).val < 8 := (y 0).isLt
  have y1 : (y 1).val < 640 := (y 1).isLt
  have y2 : (y 2).val < 256 := (y 2).isLt
  refine View.read_writes_apply_of_pieces _ _ _ _ ?_ y ?_
  · intro p hp
    obtain ⟨h, -, rfl⟩ := (mem_downTo _ _ _ _).mp hp
    refine all_block fun r c => ?_
    refine (code_read arg2 X2 h r c).trans ?_
    have hh := h.isLt
    have hr := r.isLt
    have e : (rows h).emb (ix3 0 r c) = ix3 ⟨h.val / 5, by omega⟩ ⟨128 * (h.val % 5) + r.val, by omega⟩ c :=
      unit_idx3 _ _ _ _ _ rfl rfl (by show c.val = 0 + c.val; omega)
    show _ = codesG _ ((rows h).emb (ix3 0 r c))
    rw [e]
    unfold codesG
    congr 1
    · refine Fin.ext ?_
      show h.val = h.val / 5 * 5 + (128 * (h.val % 5) + r.val) / 128
      omega
    · refine Fin.ext ?_
      show r.val = (128 * (h.val % 5) + r.val) % 128
      omega
  · refine ⟨_, (mem_downTo _ _ _ _).mpr ⟨⟨(y 0).val * 5 + (y 1).val / 128, by omega⟩, by show (y 0).val * 5 + (y 1).val / 128 < 40; omega, rfl⟩, ?_⟩
    refine mem_unit3 _ _ (rowsInb _) _ ?_ ?_ ?_
    · show ((y 0).val * 5 + (y 1).val / 128) / 5 ≤ (y 0).val ∧ (y 0).val < ((y 0).val * 5 + (y 1).val / 128) / 5 + 1
      omega
    · show 128 * (((y 0).val * 5 + (y 1).val / 128) % 5) ≤ (y 1).val ∧ (y 1).val < 128 * (((y 0).val * 5 + (y 1).val / 128) % 5) + 128
      omega
    · show 0 ≤ (y 2).val ∧ (y 2).val < 0 + 256
      omega

/-- A block of codes read back, at an index. -/
theorem pay861_apply (v : Vec Ideal S1x128x256 .fp8e4m3) (r : Fin 128) (c : Fin 256) : k0_pay861 v (ix3 0 r c) = v (ix3 0 r c) := by
  pointwise [k0_pay861]

/-- The stores of copies of the query codes, at a place, whatever the buffer held. -/
theorem storesC_read (v : View sig .tc .vmem S1x128x10240 .fp8e4m3) (f : v.ty.Contents (Elt Ideal)) (y : S1x128x10240.Idx) :
    v.read (Elt Ideal) (v.writes (Elt Ideal) f (storesC arg2 X2 arg13)) y = codesC (arg2.view.read (Elt Ideal) X2) y := by
  have y0 : (y 0).val < 1 := (y 0).isLt
  have y1 : (y 1).val < 128 := (y 1).isLt
  have y2 : (y 2).val < 10240 := (y 2).isLt
  refine View.read_writes_apply_of_pieces v f _ _ ?_ y ?_
  · intro p hp
    obtain ⟨h, -, rfl⟩ := (mem_downTo _ _ _ _).mp hp
    refine all_block fun r c => ?_
    refine (pay861_apply (arg13.view.readCov (storesQ arg2 X2 40 le_rfl) (rows h).toLoadRect) r c).trans ?_
    rw [View.readCov_eq_canon']
    show View.canon (storesQ arg2 X2 40 le_rfl) ((rows h).idx (ix3 0 r c)) = codesC _ ((cols h).emb (ix3 0 r c))
    rw [storesQ_canon]
    have hh := h.isLt
    have hr := r.isLt
    have hc := c.isLt
    have e : (rows h).idx (ix3 0 r c) = ix3 ⟨h.val / 5, by omega⟩ ⟨128 * (h.val % 5) + r.val, by omega⟩ c :=
      unit_idx3 _ _ _ _ _ rfl rfl (by show c.val = 0 + c.val; omega)
    have e' : (cols h).emb (ix3 0 r c) = ix3 0 r ⟨256 * h.val + c.val, by omega⟩ :=
      unit_idx3 _ _ _ _ _ rfl (by show r.val = 0 + r.val; omega) rfl
    rw [e, e']
    unfold codesG codesC
    congr 1
    · refine Fin.ext ?_
      show h.val / 5 * 5 + (128 * (h.val % 5) + r.val) / 128 = (256 * h.val + c.val) / 256
      omega
    · refine Fin.ext ?_
      show (128 * (h.val % 5) + r.val) % 128 = r.val
      omega
    · refine Fin.ext ?_
      show c.val = (256 * h.val + c.val) % 256
      omega
  · refine ⟨_, (mem_downTo _ _ _ _).mpr ⟨⟨(y 2).val / 256, by omega⟩, by show (y 2).val / 256 < 40; omega, rfl⟩, ?_⟩
    refine mem_unit3 _ _ (colsInb _) _ ?_ ?_ ?_
    · show 0 ≤ (y 0).val ∧ (y 0).val < 0 + 1; omega
    · show 0 ≤ (y 1).val ∧ (y 1).val < 0 + 128; omega
    · show 256 * ((y 2).val / 256) ≤ (y 2).val ∧ (y 2).val < 256 * ((y 2).val / 256) + 256; omega

/-- The store of scales, at a place, whatever the buffer held. -/
theorem scales_store (v : View sig .tc .vmem S1x40x128 .f32) (f : v.ty.Contents (Elt Ideal)) (h : Fin 40) (r : Fin 128) :
    v.read (Elt Ideal) (v.writes (Elt Ideal) f [⟨Rect.unit ![0, 0, 0] S1x40x128.size inb_S1x40x128_S1x40x128_0_0_0, scales arg2 X2⟩]) (ix3 0 h r)
      = headScale (arg2.view.read (Elt Ideal) X2) h r := by
  rw [View.read_writes_full v f inb_S1x40x128_S1x40x128_0_0_0 (scales arg2 X2) []]
  exact scales_read arg2 X2 h r

/-- The store of the scales' factors, at a place, whatever the buffer held. -/
theorem factors_store (v : View sig .tc .vmem S40x128 .f32) (f : v.ty.Contents (Elt Ideal)) (h : Fin 40) (r : Fin 128) :
    v.read (Elt Ideal) (v.writes (Elt Ideal) f [⟨Rect.unit ![0, 0] S40x128.size inb_S40x128_S40x128_0_0, factors arg2 X2⟩]) (ix2 h r)
      = headScale (arg2.view.read (Elt Ideal) X2) h r * (((((Real.log 2) * 16)⁻¹ : ℝ)) : EReal) := by
  rw [View.read_writes_full v f inb_S40x128_S40x128_0_0 (factors arg2 X2) []]
  exact factors_read arg2 X2 h r

end

end Cert.KernelIdeal.Body

end
-- ==== Proof.SoftSpec.lean ====
module

public import proofs.«01_k».proof.Proof.QuantSpec

/-!
# The attention of one query

The attention of one query is stated over families indexed by the token of the key: the products of the query's codes
with the keys' codes, the scales of the keys, the values and their scales. The kernel takes it block by block, with
the scale of a block taken out of a maximum, in base two and with an offset of the exponents; here its form is shown to
give the same numbers.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.Value

/-- The pattern of a sixteenth. -/
theorem bits_sixteenth : Ideal.ofBits .f32 0x3D800000#32 = ((1 / 16 : ℝ) : EReal) := by
  simp [Ideal.ofBits, Ideal.ieee, -EReal.coe_mul]; norm_num

/-- The pattern of two hundred and fifty-six. -/
theorem bits_256 : Ideal.ofBits .f32 0x43800000#32 = ((256 : ℝ) : EReal) := by
  simp [Ideal.ofBits, Ideal.ieee, -EReal.coe_mul]; norm_num

/-- The pattern of eight. -/
theorem bits_eight : Ideal.ofBits .f32 1090519040#32 = ((8 : ℝ) : EReal) := by
  simp [Ideal.ofBits, Ideal.ieee, -EReal.coe_mul]; norm_num

/-! ## The reference's form -/

section Spec

variable (t : ℕ) (raw ks : ℕ → EReal) (qs : EReal)

/-- The score of key `u`. -/
def sc (u : ℕ) : EReal := if u ≤ t then raw u * (qs * Ideal.ofBits .f32 0x3D800000#32) * ks u else ⊥
/-- The largest score. -/
def top : EReal := Finset.univ.fold max ⊥ fun u : Fin 640 => sc t raw ks qs u.val
/-- The weight of key `u`, before the sum is divided out. -/
def wt (u : ℕ) : EReal := Ideal.exp (sc t raw ks qs u - top t raw ks qs)
/-- The sum of the weights. -/
def tot : EReal := ∑ u : Fin 640, wt t raw ks qs u.val
/-- The code of a weight. -/
def wcode (u : ℕ) : EReal := clip (wt t raw ks qs u * Ideal.ofBits .f32 0x43800000#32)
/-- The weighted sum of values. -/
def mixed (vs v : ℕ → EReal) : EReal := ∑ u : Fin 640, wcode t raw ks qs u.val * vs u.val * v u.val
/-- The inverse of the sum. -/
def itot : EReal := Ideal.div 1 (Ideal.ofBits .f32 0x43800000#32 * tot t raw ks qs)

end Spec

/-! ## Maxima of products -/

/-- The largest of a family is one of its members, a visible one when some member is visible. -/
theorem sup_attained {ι : Type} [Fintype ι] (vis : ι → Prop) [DecidablePred vis] (f : ι → EReal) (h : ∃ i, vis i) :
    ∃ i, vis i ∧ (Finset.univ.fold max ⊥ fun i => if vis i then f i else ⊥) = f i := by
  have hne : (Finset.univ : Finset ι).Nonempty := ⟨h.choose, Finset.mem_univ _⟩
  obtain ⟨i, -, hi⟩ := Finset.exists_mem_eq_sup Finset.univ hne (fun i => if vis i then f i else ⊥)
  have hi' : (Finset.univ.fold max ⊥ fun i => if vis i then f i else ⊥) = if vis i then f i else ⊥ := hi
  by_cases v : vis i
  · exact ⟨i, v, by rw [hi', if_pos v]⟩
  · obtain ⟨k, hk⟩ := h
    refine ⟨k, hk, ?_⟩
    rw [hi', if_neg v]
    have : (if vis k then f k else ⊥) ≤ Finset.univ.sup (fun i => if vis i then f i else ⊥) :=
      Finset.le_sup (f := fun i => if vis i then f i else ⊥) (Finset.mem_univ k)
    rw [hi, if_neg v, if_pos hk] at this
    exact (le_bot_iff.mp this).symm

/-- The largest of a family is at most a bound when all its members are. -/
theorem fold_le {ι : Type} [Fintype ι] (f : ι → EReal) (x : EReal) : (Finset.univ.fold max ⊥ f) ≤ x ↔ ∀ i, f i ≤ x := by
  have : (Finset.univ.fold max ⊥ f) = Finset.univ.sup f := rfl
  rw [this, Finset.sup_le_iff]; simp

/-- A factor that is not negative may be taken into a maximum over visible members. -/
theorem fold_mul_le {ι : Type} [Fintype ι] (vis : ι → Prop) [DecidablePred vis] (f : ι → EReal) (h : ∃ i, vis i) {k : EReal} (hk : 0 ≤ k)
    (x : EReal) : (Finset.univ.fold max ⊥ fun i => if vis i then f i else ⊥) * k ≤ x ↔ ∀ i, vis i → f i * k ≤ x := by
  obtain ⟨i, hi, e⟩ := sup_attained vis f h
  rw [e]
  constructor
  · intro hx j hj
    refine le_trans (mul_le_mul_of_nonneg_right ?_ hk) hx
    rw [← e]
    have := (fold_le (fun i => if vis i then f i else ⊥) _).mp (le_refl _) j
    simpa [hj] using this
  · intro hx; exact hx i hi

/-- The same, as an equality. -/
theorem fold_mul {ι : Type} [Fintype ι] (vis : ι → Prop) [DecidablePred vis] (f : ι → EReal) (h : ∃ i, vis i) {k : EReal} (hk : 0 ≤ k) :
    (Finset.univ.fold max ⊥ fun i => if vis i then f i else ⊥) * k = Finset.univ.fold max ⊥ fun i => if vis i then f i * k else ⊥ := by
  refine eq_of_forall_ge_iff fun x => ?_
  rw [fold_mul_le vis f h hk, fold_le]
  refine forall_congr' fun i => ?_
  by_cases v : vis i <;> simp [v]

/-! ## Scales are positive numbers -/

/-- A power of two below a bound is a power of two or zero. -/
theorem below_cases (x : EReal) : below x = 0 ∨ ∃ k, below x = twoPow k := by
  unfold below
  have hne : (Finset.univ : Finset (Fin 254)).Nonempty := ⟨0, Finset.mem_univ _⟩
  obtain ⟨k, -, hk⟩ := Finset.exists_mem_eq_sup Finset.univ hne (fun k : Fin 254 => if twoPow k ≤ x then twoPow k else 0)
  have hk' : (Finset.univ.fold max ⊥ fun k : Fin 254 => if twoPow k ≤ x then twoPow k else 0) = if twoPow k ≤ x then twoPow k else 0 := hk
  rw [hk']
  by_cases h : twoPow k ≤ x
  · exact .inr ⟨k, if_pos h⟩
  · exact .inl (if_neg h)

/-- A scale is a positive number. -/
theorem scaleOf_pos (a : EReal) : ∃ s : ℝ, 0 < s ∧ scaleOf a = (s : EReal) := by
  unfold scaleOf
  rcases below_cases (a * Ideal.ofBits .f32 0x3B124925#32) with h | ⟨k, h⟩
  · exact ⟨1, one_pos, by rw [if_pos h]; rfl⟩
  · refine ⟨(2 : ℝ) ^ ((k.val : ℤ) - 126) * 2, by positivity, ?_⟩
    have hne : twoPow k ≠ 0 := by
      unfold twoPow
      have : (2 : ℝ) ^ ((k.val : ℤ) - 126) ≠ 0 := by positivity
      exact_mod_cast this
    rw [h, if_neg hne, EReal.coe_mul]
    rfl

/-! ## The exponents -/

/-- An exponential in base two with the offset 8 is 256 times one in base e. -/
theorem exp_shift {Z M : EReal} (h : Z ≤ M) {a : ℝ} (ha : 0 < a) :
    Ideal.exp2 (Z * ((a * (Real.log 2)⁻¹ : ℝ) : EReal) - (M * ((a * (Real.log 2)⁻¹ : ℝ) : EReal) - ((8 : ℝ) : EReal)))
      = Ideal.exp (Z * (a : EReal) - M * (a : EReal)) * ((256 : ℝ) : EReal) := by
  have hl : 0 < Real.log 2 := Real.log_pos (by norm_num)
  have hc : 0 < a * (Real.log 2)⁻¹ := by positivity
  induction M with
  | bot =>
    obtain rfl : Z = ⊥ := le_bot_iff.mp h
    rw [EReal.bot_mul_coe_of_pos hc, EReal.bot_mul_coe_of_pos ha]
    simp
  | top =>
    rw [EReal.top_mul_coe_of_pos hc, EReal.top_mul_coe_of_pos ha]
    simp
  | coe M =>
    induction Z with
    | bot =>
      rw [EReal.bot_mul_coe_of_pos hc, EReal.bot_mul_coe_of_pos ha]
      simp
    | top => exact absurd h (by simp)
    | coe Z =>
      rw [← EReal.coe_mul, ← EReal.coe_mul, ← EReal.coe_mul, ← EReal.coe_mul, ← EReal.coe_sub, ← EReal.coe_sub, ← EReal.coe_sub,
        Ideal.exp2_coe, Ideal.exp_coe, ← EReal.coe_mul]
      refine congrArg Real.toEReal ?_
      show (2 : ℝ) ^ (_ : ℝ) = _
      rw [Real.rpow_def_of_pos (by norm_num)]
      rw [show (256 : ℝ) = Real.exp (Real.log 2 * 8) by
        rw [← Real.rpow_def_of_pos (by norm_num)]; norm_num]
      rw [← Real.exp_add]
      congr 1
      field_simp
      ring

/-- An exponential is not negative. -/
theorem exp_nonneg (x : EReal) : 0 ≤ Ideal.exp x := by
  induction x with
  | bot => simp
  | top => simp
  | coe x => rw [Ideal.exp_coe]; exact_mod_cast (Real.exp_pos x).le

/-- A factor may be taken into a sum of numbers that are not negative. -/
theorem sum_mul_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert i s hi ih =>
    rw [Finset.sum_insert hi, Finset.sum_insert hi, EReal.right_distrib_of_nonneg (hf i) (Finset.sum_nonneg fun j _ => hf j), ih]

end Cert.Value

end
-- ==== Proof.SoftBlocks.lean ====
module

public import proofs.«01_k».proof.Proof.SoftSpec

/-!
# The attention of one query, block by block

The kernel's form of the attention of one query: key blocks of 128 tokens, permuted within the block, the scale of a
block taken out of the maximum, exponentials in base two with an offset.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.Value

/-- The token of row `r` of a stored key block. -/
def tokN (r : ℕ) : ℕ := r / 32 * 32 + 8 * (r % 4) + r / 4 % 8

/-- The row that stores token `a` of a key block. -/
def rowN (a : ℕ) : ℕ := a / 32 * 32 + 4 * (a % 8) + a / 8 % 4

theorem tokN_lt {r : ℕ} (h : r < 128) : tokN r < 128 := by unfold tokN; omega

theorem rowN_tokN : ∀ r : Fin 128, rowN (tokN r.val) = r.val := by decide +kernel
theorem tokN_rowN : ∀ a : Fin 128, tokN (rowN a.val) = a.val := by decide +kernel

/-- Rows and tokens of a key block, one to one. -/
def tokE : Fin 128 ≃ Fin 128 where
  toFun r := ⟨tokN r.val, by unfold tokN; omega⟩
  invFun a := ⟨rowN a.val, by unfold rowN; omega⟩
  left_inv r := Fin.ext (rowN_tokN r)
  right_inv a := Fin.ext (tokN_rowN a)

/-- A sum over the stored rows of `n` key blocks is the sum over their tokens. -/
theorem sum_rows (g : ℕ → EReal) : ∀ n : ℕ, (∑ i ∈ Finset.range (128 * n), g (128 * (i / 128) + tokN (i % 128))) = ∑ u ∈ Finset.range (128 * n), g u
  | 0 => rfl
  | n + 1 => by
    rw [Nat.mul_succ, Finset.sum_range_add, Finset.sum_range_add, sum_rows g n]
    congr 1
    rw [Finset.sum_range, Finset.sum_range, ← Equiv.sum_comp tokE (fun x : Fin 128 => g (128 * n + x.val))]
    refine Finset.sum_congr rfl fun r _ => ?_
    have h1 : (128 * n + r.val) / 128 = n := by omega
    have h2 : (128 * n + r.val) % 128 = r.val := by omega
    rw [h1, h2]
    rfl

/-- A sum over all tokens is one over the first blocks when the rest is zero. -/
theorem sum_first (g : ℕ → EReal) {n : ℕ} (hn : n ≤ 5) (h0 : ∀ u, 128 * n ≤ u → g u = 0) :
    (∑ u : Fin 640, g u.val) = ∑ u ∈ Finset.range (128 * n), g u := by
  rw [← Finset.sum_range (fun u => g u) ]
  refine (Finset.sum_subset (by intro u; simp only [Finset.mem_range]; omega) fun u _ hu => h0 u ?_).symm
  simpa using hu

section Blocks

variable (c : ℕ) (raw kb : ℕ → EReal) (C : EReal)

/-- The largest score of a block in full view, times the block's scale. -/
def kTop (j : ℕ) : EReal := (Finset.univ.fold max ⊥ fun r : Fin 128 => raw (128 * j + tokN r.val)) * kb j
/-- The largest score of the block in partial view, times the block's scale. -/
def kTopLast (j : ℕ) : EReal := (Finset.univ.fold max ⊥ fun r : Fin 128 => if tokN r.val ≤ c then raw (128 * j + tokN r.val) else ⊥) * kb j
/-- The running maximum. -/
def kTopRun : ℕ → EReal
  | 0 => kTop raw kb 0
  | j + 1 => max (kTopRun j) (kTop raw kb (j + 1))
/-- The maximum over all blocks. -/
def kTopAll : ℕ → EReal
  | 0 => kTopLast c raw kb 0
  | n + 1 => max (kTopRun raw kb n) (kTopLast c raw kb (n + 1))
/-- The offset of the exponents. -/
def kOff (n : ℕ) : EReal := kTopAll c raw kb n * C - Ideal.ofBits .f32 1090519040#32
/-- The weight of row `r` of block `j`. -/
def kProb (n j r : ℕ) : EReal :=
  if j = n then Ideal.exp2 (if tokN r ≤ c then raw (128 * j + tokN r) * (C * kb j) - kOff c raw kb C n else ⊥)
  else Ideal.exp2 (raw (128 * j + tokN r) * (C * kb j) - kOff c raw kb C n)
/-- The running sum of weights. -/
def kSum (n : ℕ) : ℕ → EReal
  | 0 => ∑ r : Fin 128, kProb c raw kb C n 0 r.val
  | j + 1 => kSum n j + ∑ r : Fin 128, kProb c raw kb C n (j + 1) r.val

end Blocks

section Equal

variable {c n : ℕ} (hc : c < 128) (hn : n < 5) (raw kb : ℕ → EReal) (hk : ∀ j, 0 ≤ kb j)

include hk in
theorem kTop_le (j : ℕ) (x : EReal) : kTop raw kb j ≤ x ↔ ∀ a < 128, raw (128 * j + a) * kb j ≤ x := by
  have e : (Finset.univ.fold max ⊥ fun r : Fin 128 => raw (128 * j + tokN r.val))
      = Finset.univ.fold max ⊥ fun r : Fin 128 => if True then raw (128 * j + tokN r.val) else ⊥ := by simp
  unfold kTop
  rw [e, fold_mul_le (fun _ => True) _ ⟨0, trivial⟩ (hk j)]
  constructor
  · intro h a ha
    have := h (tokE.symm ⟨a, ha⟩) trivial
    rwa [show tokN (tokE.symm ⟨a, ha⟩).val = a from congrArg Fin.val (tokE.apply_symm_apply ⟨a, ha⟩)] at this
  · intro h r _
    exact h _ (tokE r).isLt

include hk in
theorem kTopLast_le (j : ℕ) (x : EReal) : kTopLast c raw kb j ≤ x ↔ ∀ a < 128, a ≤ c → raw (128 * j + a) * kb j ≤ x := by
  unfold kTopLast
  rw [fold_mul_le (fun r : Fin 128 => tokN r.val ≤ c) _ ⟨0, by show tokN 0 ≤ c; unfold tokN; omega⟩ (hk j)]
  constructor
  · intro h a ha hac
    have e : tokN (tokE.symm ⟨a, ha⟩).val = a := congrArg Fin.val (tokE.apply_symm_apply ⟨a, ha⟩)
    have := h (tokE.symm ⟨a, ha⟩) (by rw [e]; exact hac)
    rwa [e] at this
  · intro h r hr
    exact h _ (tokE r).isLt hr

include hk in
theorem kTopRun_le (x : EReal) : ∀ j : ℕ, kTopRun raw kb j ≤ x ↔ ∀ u < 128 * (j + 1), raw u * kb (u / 128) ≤ x
  | 0 => by
    unfold kTopRun
    rw [kTop_le raw kb hk]
    refine forall_congr' fun a => ?_
    constructor
    · intro h ha; have := h (by omega); rwa [show a / 128 = 0 by omega, ← show 128 * 0 + a = a by omega]
    · intro h ha; have := h (by omega); rwa [show a / 128 = 0 by omega, ← show 128 * 0 + a = a by omega] at this
  | j + 1 => by
    unfold kTopRun
    rw [max_le_iff, kTopRun_le x j, kTop_le raw kb hk]
    constructor
    · rintro ⟨h1, h2⟩ u hu
      rcases Nat.lt_or_ge u (128 * (j + 1)) with h | h
      · exact h1 u h
      · have := h2 (u - 128 * (j + 1)) (by omega)
        rwa [show 128 * (j + 1) + (u - 128 * (j + 1)) = u by omega, show j + 1 = u / 128 by omega] at this
    · intro h
      refine ⟨fun u hu => h u (by omega), fun a ha => ?_⟩
      have := h (128 * (j + 1) + a) (by omega)
      rwa [show (128 * (j + 1) + a) / 128 = j + 1 by omega] at this

include hc hk in
theorem kTopAll_le (x : EReal) : kTopAll c raw kb n ≤ x ↔ ∀ u ≤ 128 * n + c, raw u * kb (u / 128) ≤ x := by
  have last : kTopLast c raw kb n ≤ x ↔ ∀ u, 128 * n ≤ u → u ≤ 128 * n + c → raw u * kb (u / 128) ≤ x := by
    rw [kTopLast_le raw kb hk]
    constructor
    · intro h u h1 h2
      have := h (u - 128 * n) (by omega) (by omega)
      rwa [show 128 * n + (u - 128 * n) = u by omega, show n = u / 128 by omega] at this
    · intro h a ha hac
      have := h (128 * n + a) (by omega) (by omega)
      rwa [show (128 * n + a) / 128 = n by omega] at this
  cases n with
  | zero =>
    unfold kTopAll
    rw [last]
    exact ⟨fun h u hu => h u (by omega) hu, fun h u _ hu => h u hu⟩
  | succ n =>
    unfold kTopAll
    rw [max_le_iff, kTopRun_le raw kb hk, last]
    constructor
    · rintro ⟨h1, h2⟩ u hu
      rcases Nat.lt_or_ge u (128 * (n + 1)) with h | h
      · exact h1 u h
      · exact h2 u h hu
    · intro h
      exact ⟨fun u hu => h u (by omega), fun u _ hu => h u hu⟩

variable {q : ℝ} (hq : 0 < q)

/-- The factor of a query's scores. -/
theorem factor_eq : ((q : ℝ) : EReal) * ((1 / 16 : ℝ) : EReal) = ((q / 16 : ℝ) : EReal) := by
  rw [← EReal.coe_mul]; congr 1; ring

include hc hn hk hq in
/-- The reference's maximum is the kernel's, times the factor. -/
theorem top_eq : top (128 * n + c) raw (fun u => kb (u / 128)) (q : EReal) = kTopAll c raw kb n * ((q / 16 : ℝ) : EReal) := by
  have hq' : (0 : EReal) ≤ ((q / 16 : ℝ) : EReal) := by
    have : (0 : ℝ) ≤ q / 16 := by positivity
    exact_mod_cast this
  have e : kTopAll c raw kb n = Finset.univ.fold max ⊥ fun u : Fin 640 => if u.val ≤ 128 * n + c then raw u.val * kb (u.val / 128) else ⊥ := by
    refine eq_of_forall_ge_iff fun x => ?_
    rw [kTopAll_le hc raw kb hk, fold_le]
    constructor
    · intro h u
      by_cases v : u.val ≤ 128 * n + c
      · rw [if_pos v]; exact h _ v
      · rw [if_neg v]; exact bot_le
    · intro h u hu
      have := h ⟨u, by omega⟩
      rwa [if_pos hu] at this
  rw [e, fold_mul (fun u : Fin 640 => u.val ≤ 128 * n + c) _ ⟨0, Nat.zero_le _⟩ hq']
  unfold top sc
  rw [bits_sixteenth, factor_eq]
  refine congrArg (Finset.fold max ⊥ · Finset.univ) (funext fun u => ?_)
  by_cases v : u.val ≤ 128 * n + c
  · rw [if_pos v, if_pos v]; exact mul_right_comm _ _ _
  · rw [if_neg v, if_neg v]

/-- The kernel's factor of the exponents. -/
theorem logFactor_eq : ((q : ℝ) : EReal) * ((((Real.log 2) * 16)⁻¹ : ℝ) : EReal) = (((q / 16) * (Real.log 2)⁻¹ : ℝ) : EReal) := by
  rw [← EReal.coe_mul]; congr 1; rw [mul_inv]; ring

include hc hn hk hq in
/-- A weight of the kernel is 256 times the reference's. -/
theorem kProb_eq {j r : ℕ} (hj : j ≤ n) (hr : r < 128) :
    kProb c raw kb ((q : EReal) * ((((Real.log 2) * 16)⁻¹ : ℝ) : EReal)) n j r
      = wt (128 * n + c) raw (fun u => kb (u / 128)) (q : EReal) (128 * j + tokN r) * ((256 : ℝ) : EReal) := by
  have ht : tokN r < 128 := tokN_lt hr
  have key : 128 * j + tokN r ≤ 128 * n + c →
      Ideal.exp2 (raw (128 * j + tokN r) * (((q : EReal) * ((((Real.log 2) * 16)⁻¹ : ℝ) : EReal)) * kb j) - kOff c raw kb ((q : EReal) * ((((Real.log 2) * 16)⁻¹ : ℝ) : EReal)) n)
      = wt (128 * n + c) raw (fun u => kb (u / 128)) (q : EReal) (128 * j + tokN r) * ((256 : ℝ) : EReal) := by
    intro hv
    have hle : raw (128 * j + tokN r) * kb j ≤ kTopAll c raw kb n := by
      have := (kTopAll_le (n := n) hc raw kb hk _).mp le_rfl _ hv
      rwa [show (128 * j + tokN r) / 128 = j by omega] at this
    have := exp_shift hle (a := q / 16) (by positivity)
    unfold kOff wt sc
    rw [top_eq hc hn raw kb hk hq, if_pos hv, logFactor_eq, bits_eight, bits_sixteenth, factor_eq]
    show _ = Ideal.exp (raw (128 * j + tokN r) * ((q / 16 : ℝ) : EReal) * kb ((128 * j + tokN r) / 128) - _) * _
    rw [show (128 * j + tokN r) / 128 = j by omega]
    rw [show raw (128 * j + tokN r) * ((q / 16 : ℝ) : EReal) * kb j = raw (128 * j + tokN r) * kb j * ((q / 16 : ℝ) : EReal) from mul_right_comm _ _ _]
    rw [← this]
    congr 2
    rw [mul_comm ((q / 16 * (Real.log 2)⁻¹ : ℝ) : EReal) (kb j), mul_assoc]
  unfold kProb
  by_cases e : j = n
  · rw [if_pos e]
    by_cases v : tokN r ≤ c
    · rw [if_pos v, key (by omega)]
    · rw [if_neg v]
      unfold wt sc
      rw [if_neg (by omega)]
      simp
  · rw [if_neg e, key (by omega)]

/-- A weight of the reference beyond the query is zero. -/
theorem wt_zero {t : ℕ} (ks : ℕ → EReal) (qs : EReal) {u : ℕ} (h : ¬ u ≤ t) : wt t raw ks qs u = 0 := by
  unfold wt sc
  rw [if_neg h]
  simp

theorem clip_zero : clip 0 = 0 := by
  have h1 : Ideal.ofBits .f32 0x43E00000#32 = ((448 : ℝ) : EReal) := by simp [Ideal.ofBits, Ideal.ieee, -EReal.coe_mul]; norm_num
  have h2 : Ideal.ofBits .f32 0xC3E00000#32 = ((-448 : ℝ) : EReal) := by
    simp [Ideal.ofBits, Ideal.ieee, -EReal.coe_mul, -EReal.coe_neg]; norm_num
  unfold clip
  rw [h1, h2, max_eq_right (by exact_mod_cast (by norm_num : (-448 : ℝ) ≤ 0)), min_eq_right (by exact_mod_cast (by norm_num : (0 : ℝ) ≤ 448))]

include hc hn hk hq in
/-- The code of a weight is the reference's. -/
theorem kCode_eq {j r : ℕ} (hj : j ≤ n) (hr : r < 128) :
    clip (kProb c raw kb ((q : EReal) * ((((Real.log 2) * 16)⁻¹ : ℝ) : EReal)) n j r)
      = wcode (128 * n + c) raw (fun u => kb (u / 128)) (q : EReal) (128 * j + tokN r) := by
  unfold wcode
  rw [kProb_eq hc hn raw kb hk hq hj hr, bits_256]

/-- The running sum, as a sum over rows. -/
theorem kSum_rows (C : EReal) (n : ℕ) : ∀ j : ℕ, kSum c raw kb C n j = ∑ i ∈ Finset.range (128 * (j + 1)), kProb c raw kb C n (i / 128) (i % 128)
  | 0 => by
    unfold kSum
    rw [Finset.sum_range]
    refine Finset.sum_congr rfl fun r _ => ?_
    have := r.isLt
    rw [show r.val / 128 = 0 by omega, show r.val % 128 = r.val by omega]
  | j + 1 => by
    unfold kSum
    rw [kSum_rows C n j, Nat.mul_succ 128 (j + 1), Finset.sum_range_add]
    congr 1
    rw [Finset.sum_range]
    refine Finset.sum_congr rfl fun r _ => ?_
    have := r.isLt
    rw [show (128 * (j + 1) + r.val) / 128 = j + 1 by omega, show (128 * (j + 1) + r.val) % 128 = r.val by omega]

include hc hn hk hq in
/-- The kernel's sum of weights is 256 times the reference's. -/
theorem kSum_eq : kSum c raw kb ((q : EReal) * ((((Real.log 2) * 16)⁻¹ : ℝ) : EReal)) n n
      = Ideal.ofBits .f32 0x43800000#32 * tot (128 * n + c) raw (fun u => kb (u / 128)) (q : EReal) := by
  rw [kSum_rows, bits_256, mul_comm ((256 : ℝ) : EReal)]
  unfold tot
  rw [sum_mul_nonneg _ (fun u : Fin 640 => wt (128 * n + c) raw (fun u => kb (u / 128)) (q : EReal) u.val) (fun u => exp_nonneg _)]
  rw [sum_first (fun u => wt (128 * n + c) raw (fun u => kb (u / 128)) (q : EReal) u * ((256 : ℝ) : EReal)) (n := n + 1) (by omega)
    (fun u hu => by show wt _ _ _ _ u * _ = 0; rw [wt_zero raw _ _ (by omega), zero_mul])]
  rw [← sum_rows (fun u => wt (128 * n + c) raw (fun u => kb (u / 128)) (q : EReal) u * ((256 : ℝ) : EReal))]
  refine Finset.sum_congr rfl fun i hi => ?_
  have := Finset.mem_range.mp hi
  exact kProb_eq hc hn raw kb hk hq (by omega) (Nat.mod_lt _ (by decide))

include hc hn hk hq in
/-- The kernel's weighted sum of values is the reference's. -/
theorem kMix_eq (vb v : ℕ → EReal) :
    (∑ i : Fin (128 * (n + 1)), (v (128 * (i.val / 128) + tokN (i.val % 128)) * vb (i.val / 128))
        * clip (kProb c raw kb ((q : EReal) * ((((Real.log 2) * 16)⁻¹ : ℝ) : EReal)) n (i.val / 128) (i.val % 128)))
      = mixed (128 * n + c) raw (fun u => kb (u / 128)) (q : EReal) (fun u => vb (u / 128)) v := by
  rw [← Finset.sum_range fun i => (v (128 * (i / 128) + tokN (i % 128)) * vb (i / 128))
        * clip (kProb c raw kb ((q : EReal) * ((((Real.log 2) * 16)⁻¹ : ℝ) : EReal)) n (i / 128) (i % 128))]
  unfold mixed
  rw [sum_first (fun u => wcode (128 * n + c) raw (fun u => kb (u / 128)) (q : EReal) u * vb (u / 128) * v u) (n := n + 1) (by omega)
    (fun u hu => by
      show wcode _ _ _ _ u * _ * _ = 0
      unfold wcode
      rw [wt_zero raw _ _ (by omega), zero_mul, clip_zero, zero_mul, zero_mul])]
  rw [← sum_rows (fun u => wcode (128 * n + c) raw (fun u => kb (u / 128)) (q : EReal) u * vb (u / 128) * v u)]
  refine Finset.sum_congr rfl fun i hi => ?_
  have hi := Finset.mem_range.mp hi
  have hr : i % 128 < 128 := Nat.mod_lt _ (by decide)
  have ht : tokN (i % 128) < 128 := tokN_lt hr
  rw [kCode_eq hc hn raw kb hk hq (by omega) hr, show (128 * (i / 128) + tokN (i % 128)) / 128 = i / 128 by omega]
  rw [mul_comm (v _) _, mul_comm _ (wcode _ _ _ _ _), mul_assoc]

end Equal

/-! ## The inverse of the sum, and the last quantiser -/

/-- An inverse of a number that is not negative is not negative. -/
theorem div_one_nonneg {l : EReal} (h : 0 ≤ l) : 0 ≤ Ideal.div 1 l := by
  unfold Ideal.div
  by_cases e : l = 0
  · rw [if_pos e, if_pos one_pos]; exact le_top
  · rw [if_neg e, one_mul]; exact EReal.inv_nonneg_of_nonneg h

/-- The largest magnitude of numbers times a factor that is not negative. -/
theorem topMag_mul {n : ℕ} [NeZero n] (f : Fin n → EReal) {r : EReal} (h : 0 ≤ r) : topMag f * r = topMag fun i => f i * r := by
  unfold topMag
  have e := fold_mul (fun _ : Fin n => True) (fun i => max (f i) (-f i)) ⟨0, trivial⟩ h
  simp only [if_true] at e
  rw [e]
  refine congrArg (Finset.fold max ⊥ · Finset.univ) (funext fun i => ?_)
  rw [← EReal.neg_mul]
  rcases le_total (f i) (-f i) with g | g
  · rw [max_eq_right g, max_eq_right (mul_le_mul_of_nonneg_right g h)]
  · rw [max_eq_left g, max_eq_left (mul_le_mul_of_nonneg_right g h)]

end Cert.Value

end
-- ==== Proof.AttendSpec.lean ====
module

public import proofs.«01_k».proof.Proof.SoftBlocks

/-!
# What the attention computes

The output of the attention over the five argument arrays, and its codes and scales, stated once for both programs.
-/

@[expose] public section

set_option maxRecDepth 65536
set_option maxHeartbeats 4000000

noncomputable section

open Idealize.ShloMosaic Idealize.ShloMosaic.TcCoe Idealize.ShloMosaic.Tactic

namespace Cert.Value

/-- A comparison of two small numbers. -/
theorem select_le {α : Type} (a b : ℕ) (ha : a < 640) (hb : b < 640) (x y : α) :
    Scalar.select (IntOp.cmpi .sle (BitVec.ofNat 32 a) (BitVec.ofNat 32 b)) x y = if a ≤ b then x else y := by
  have e : (BitVec.ofNat 32 a).sle (BitVec.ofNat 32 b) = decide (a ≤ b) := by
    rw [BitVec.sle_eq_decide]
    have h1 : (BitVec.ofNat 32 a).toInt = a := by rw [BitVec.toInt_eq_toNat_of_lt] <;> rw [BitVec.toNat_ofNat, Nat.mod_eq_of_lt] <;> omega
    have h2 : (BitVec.ofNat 32 b).toInt = b := by rw [BitVec.toInt_eq_toNat_of_lt] <;> rw [BitVec.toNat_ofNat, Nat.mod_eq_of_lt] <;> omega
    rw [h1, h2]
    simp
  by_cases h : a ≤ b
  · simp [Scalar.select, IntOp.cmpi, e, h]
  · simp [Scalar.select, IntOp.cmpi, e, h]

/-- Token `u` as a place of an array. -/
def tokF (u : ℕ) : Fin 640 := ⟨u % 640, Nat.mod_lt _ (by decide)⟩

theorem tokF_val (u : Fin 640) : tokF u.val = u := Fin.ext (Nat.mod_eq_of_lt u.isLt)

/-- Key block `j` as a place of an array. -/
def blkF (j : ℕ) : Fin 5 := ⟨j % 5, Nat.mod_lt _ (by decide)⟩

section

variable (x : (⟨3, ![3, 640, 10240]⟩ : Shape).Idx → EReal) (k : (⟨4, ![3, 640, 8, 256]⟩ : Shape).Idx → EReal)
  (ks : (⟨3, ![3, 5, 8]⟩ : Shape).Idx → EReal) (v : (⟨4, ![3, 640, 8, 256]⟩ : Shape).Idx → EReal)
  (vs : (⟨3, ![3, 5, 8]⟩ : Shape).Idx → EReal)

/-- The key head that query head `h` reads. -/
def kvOf (h : Fin 40) : Fin 8 := ⟨h.val / 5, by omega⟩

/-- The product of the codes of a query and of key `u`. -/
def rawOf (b : Fin 3) (t : Fin 640) (h : Fin 40) (u : ℕ) : EReal :=
  ∑ d : Fin 256, k (ix4 b (tokF u) (kvOf h) d) * qCode x b t h d

/-- The scale of key block `j`. -/
def scaleAt (s : (⟨3, ![3, 5, 8]⟩ : Shape).Idx → EReal) (b : Fin 3) (h : Fin 40) (j : ℕ) : EReal := s (ix3 b (blkF j) (kvOf h))

/-- Column `d` of the output of head `h` for token `t` of batch `b`. -/
def outO (b : Fin 3) (t : Fin 640) (h : Fin 40) (d : Fin 256) : EReal :=
  mixed t.val (rawOf x k b t h) (fun u => scaleAt ks b h (u / 128)) (qScale x b t h) (fun u => scaleAt vs b h (u / 128))
      (fun u => v (ix4 b (tokF u) (kvOf h) d))
    * itot t.val (rawOf x k b t h) (fun u => scaleAt ks b h (u / 128)) (qScale x b t h)

/-- Column `e` of group `g` of the output. -/
def grpO (b : Fin 3) (t : Fin 640) (g : Fin 80) (e : Fin 128) : EReal :=
  outO x k ks v vs b t ⟨g.val / 2, by omega⟩ ⟨128 * (g.val % 2) + e.val, by omega⟩

/-- The scale of a group of the output. -/
def oScale (b : Fin 3) (t : Fin 640) (g : Fin 80) : EReal := scaleOf (topMag fun e : Fin 128 => grpO x k ks v vs b t g e)

/-- A code of the output. -/
def oCode (b : Fin 3) (t : Fin 640) (g : Fin 80) (e : Fin 128) : EReal :=
  clip (grpO x k ks v vs b t g e * Ideal.div 1 (oScale x k ks v vs b t g))

/-- The codes of the output. -/
def oCodes (y : (⟨3, ![3, 640, 10240]⟩ : Shape).Idx) : EReal :=
  oCode x k ks v vs (y 0) (y 1) ⟨(y 2).val / 128, by have : (y 2).val < 10240 := (y 2).isLt; omega⟩ ⟨(y 2).val % 128, Nat.mod_lt _ (by decide)⟩

/-- The scales of the output. -/
def oScales (y : (⟨3, ![3, 80, 640]⟩ : Shape).Idx) : EReal := oScale x k ks v vs (y 0) (y 2) (y 1)

end

end Cert.Value

end
-- ==== Proof.AttendOps.lean ====
module

public import proofs.«01_k».proof.Proof.AttendLists
public import proofs.«01_k».proof.Proof.QuantStores
public import proofs.«01_k».proof.Proof.AttendSpec

/-!
# The operations of an attention trip, at an index

Each step of a trip, from the scores as they are read back to the codes and scales it stores, read at an index.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

/-- The token of a stored row, as the kernel computes it. -/
theorem token_word : ∀ r : Fin 128,
    IntOp.addi (IntOp.addi (IntOp.andi (BitVec.ofNat 32 r.val) 4294967264#32) (IntOp.muli 8#32 (IntOp.andi (BitVec.ofNat 32 r.val) 3#32)))
      (IntOp.andi (IntOp.shrsi .vector (BitVec.ofNat 32 r.val) 2#32) 7#32) = BitVec.ofNat 32 (tokN r.val) := by
  decide +kernel

/-- Visible tokens of a diagonal block. -/
theorem seen_select {α : Type} (r c : Fin 128) (x y : α) : Scalar.select (seen (ix2 r c)) x y = if tokN r.val ≤ c.val then x else y := by
  rw [← select_le (tokN r.val) c.val (by have := tokN_lt r.isLt; omega) (by omega) x y, ← token_word r]
  pointwise [seen]

theorem topOf_apply (s : FVec Ideal S128x128 .f32) (k : EReal) (c : Fin 128) :
    topOf (F := Ideal) s k (ix2 0 c) = (Finset.univ.fold max ⊥ fun r : Fin 128 => s (ix2 r c)) * k := by
  pointwise [topOf]
  rw [bits_bot]

theorem sumOf_apply (p : FVec Ideal S128x128 .f32) (c : Fin 128) : sumOf (F := Ideal) p (ix2 0 c) = ∑ r : Fin 128, p (ix2 r c) := by
  pointwise [sumOf]

theorem hide_apply (s : FVec Ideal S128x128 .f32) (r c : Fin 128) :
    select seen s (broadcast S128x128 (FloatOps.ofBits (F := Ideal) .f32 4286578688#32)) (ix2 r c) = if tokN r.val ≤ c.val then s (ix2 r c) else ⊥ := by
  rw [← seen_select r c, ← bits_bot]
  rfl

theorem pay119_apply (k : EReal) (C o : FVec Ideal S1x128 .f32) (s : FVec Ideal S128x128 .f32) (r c : Fin 128) :
    k0_pay119 (F := Ideal) k C o s (ix2 r c) = Ideal.exp2 (s (ix2 r c) * (C (ix2 0 c) * k) - o (ix2 0 c)) := by
  pointwise [k0_pay119]
  rfl

theorem pay121_apply (k : EReal) (C o : FVec Ideal S1x128 .f32) (s : FVec Ideal S128x128 .f32) (r c : Fin 128) :
    k0_pay121 (F := Ideal) seen k C o s (ix2 r c) = Ideal.exp2 (if tokN r.val ≤ c.val then s (ix2 r c) * (C (ix2 0 c) * k) - o (ix2 0 c) else ⊥) := by
  rw [← seen_select r c, ← bits_bot]
  generalize seen = w
  pointwise [k0_pay121]
  rfl

section

variable {S : ℕ → FVec Ideal S128x128 .f32} {ks : ℕ → EReal} {C : FVec Ideal S1x128 .f32} {c : Fin 128} {raw : ℕ → EReal} {n : ℕ}
  (hS : ∀ j ≤ n, ∀ r : Fin 128, S j (ix2 r c) = raw (128 * j + tokN r.val))

include hS

theorem topRun_apply : ∀ j ≤ n, topRun (F := Ideal) S ks j (ix2 0 c) = kTopRun raw ks j
  | 0, h => by
    unfold topRun kTopRun kTop
    rw [topOf_apply]; simp only [hS 0 h]
  | j + 1, h => by
    unfold topRun kTopRun kTop
    show max (topRun (F := Ideal) S ks j (ix2 0 c)) (topOf (F := Ideal) (S (j + 1)) (ks (j + 1)) (ix2 0 c)) = _
    rw [topRun_apply j (by omega), topOf_apply]; simp only [hS (j + 1) h]

theorem topLast_apply : topLast (F := Ideal) S ks n (ix2 0 c) = kTopLast c.val raw ks n := by
  unfold topLast kTopLast
  rw [topOf_apply]; simp only [hide_apply, hS n le_rfl]

theorem topAll_apply : topAll (F := Ideal) S ks n (ix2 0 c) = kTopAll c.val raw ks n := by
  cases n with
  | zero => exact topLast_apply hS
  | succ n =>
    unfold topAll kTopAll
    show max (topRun (F := Ideal) S ks n (ix2 0 c)) (topLast (F := Ideal) S ks (n + 1) (ix2 0 c)) = _
    rw [topRun_apply hS n (by omega), topLast_apply hS]

theorem topC_apply : topC (F := Ideal) S ks C n (ix2 0 c) = kOff c.val raw ks (C (ix2 0 c)) n := by
  unfold kOff
  rw [← topAll_apply hS]
  rfl

theorem probs_apply {j : ℕ} (hj : j ≤ n) (r : Fin 128) :
    probs (F := Ideal) S ks C n j (ix2 r c) = kProb c.val raw ks (C (ix2 0 c)) n j r.val := by
  unfold probs kProb
  by_cases e : j = n
  · rw [if_pos e, show Nat.beq j n = true from by subst e; exact Nat.beq_refl j, cond_true, pay121_apply, topC_apply hS, hS j hj]
  · rw [if_neg e, show Nat.beq j n = false from by
      cases h : Nat.beq j n
      · rfl
      · exact absurd (Nat.eq_of_beq_eq_true h) e, cond_false, pay119_apply, topC_apply hS, hS j hj]

theorem probCodes_apply {j : ℕ} (hj : j ≤ n) (r : Fin 128) :
    probCodes (F := Ideal) S ks C n j (ix2 r c) = clip (kProb c.val raw ks (C (ix2 0 c)) n j r.val) := by
  rw [← probs_apply hS hj r]
  unfold probCodes clip
  generalize probs (F := Ideal) S ks C n j = p
  pointwise

theorem sumRun_apply : ∀ j ≤ n, sumRun (F := Ideal) S ks C n j (ix2 0 c) = kSum c.val raw ks (C (ix2 0 c)) n j
  | 0, h => by
    unfold sumRun kSum
    rw [sumOf_apply]; simp only [probs_apply hS h]
  | j + 1, h => by
    unfold sumRun kSum
    show sumRun (F := Ideal) S ks C n j (ix2 0 c) + sumOf (F := Ideal) (probs (F := Ideal) S ks C n (j + 1)) (ix2 0 c) = _
    rw [sumRun_apply j (by omega), sumOf_apply]; simp only [probs_apply hS h]

end

theorem magOf_apply (o : FVec Ideal S128x128 .f32) (c : Fin 128) : magOf (F := Ideal) o (ix2 0 c) = topMag fun e : Fin 128 => o (ix2 e c) := by
  pointwise [magOf]
  rw [bits_bot]; rfl

theorem pay157_apply (l : FVec Ideal S1x128 .f32) (c : Fin 128) : k0_pay157 (F := Ideal) l (ix2 0 c) = Ideal.div 1 (l (ix2 0 c)) := by
  pointwise [k0_pay157]

/-- The choice among the powers of two, one column per query. -/
def wideSel (a : FVec Ideal S1x128 .f32) : FVec Ideal S254x128 .f32 :=
  select (cmpf .ole (broadcastTo S254x128 (bitcastToFloat .f32 (shli (addi (iota .tc S254x1 32 [0] iota_S254x1_d0_w32) (broadcast S254x1 1#32)) (broadcast S254x1 23#32))) broadcasts_S254x1_S254x128)
      (broadcastTo S254x128 (mulf a (broadcast S1x128 (Scalar.ofBits .f32 0x3B124925#32))) broadcasts_S1x128_S254x128))
    (broadcastTo S254x128 (shapeCast S254x1 (bitcastToFloat .f32 (shli (addi (iota .tc S254x1 32 [0] iota_S254x1_d0_w32) (broadcast S254x1 1#32)) (broadcast S254x1 23#32))) shapeCasts_S254x1_S254x1) broadcasts_S254x1_S254x128)
    (broadcast S254x128 (Scalar.ofBits .f32 0x00000000#32))

theorem wideSel_apply (a : FVec Ideal S1x128 .f32) (k : Fin 254) (c : Fin 128) :
    wideSel a (ix2 k c) = if twoPow k ≤ a (ix2 0 c) * Ideal.ofBits .f32 0x3B124925#32 then twoPow k else 0 := by
  pointwise [wideSel]
  simp only [bits_pow]

/-- The largest chosen power of two, per query. -/
def wideMax (s : FVec Ideal S254x128 .f32) : FVec Ideal S1x128 .f32 :=
  shapeCast S1x128 (multiReduction .maximumf [0] S128 s 0xFF800000#32 reduces_S254x128_S128 (.inl rfl) rfl) shapeCasts_S128_S1x128

theorem wideMax_apply (s : FVec Ideal S254x128 .f32) (c : Fin 128) : wideMax s (ix2 0 c) = Finset.univ.fold max ⊥ fun k : Fin 254 => s (ix2 k c) := by
  pointwise [wideMax]
  rw [bits_bot]

/-- The scale from the largest chosen power of two. -/
def wideScale (p : FVec Ideal S1x128 .f32) : FVec Ideal S1x128 .f32 :=
  select (cmpf .oeq p (broadcast S1x128 (Scalar.ofBits .f32 0x00000000#32))) (broadcast S1x128 (Scalar.ofBits .f32 0x3F800000#32))
    (mulf p (broadcast S1x128 (Scalar.ofBits .f32 0x40000000#32)))

theorem wideScale_apply (p : FVec Ideal S1x128 .f32) (c : Fin 128) : wideScale p (ix2 0 c) = if p (ix2 0 c) = 0 then 1 else p (ix2 0 c) * 2 := by
  pointwise [wideScale]
  rw [bits_two]

theorem pay160_eq (i mg : FVec Ideal S1x128 .f32) : k0_pay160 (F := Ideal) i mg = wideScale (wideMax (wideSel (mulf mg i))) := rfl

theorem pay160_apply (i mg : FVec Ideal S1x128 .f32) (c : Fin 128) : k0_pay160 (F := Ideal) i mg (ix2 0 c) = scaleOf (mg (ix2 0 c) * i (ix2 0 c)) := by
  rw [pay160_eq, wideScale_apply, wideMax_apply]
  simp only [wideSel_apply]
  rfl

theorem pay161_apply (i mg : FVec Ideal S1x128 .f32) (c : Fin 128) : k0_pay161 (F := Ideal) i mg (ix3 0 0 c) = scaleOf (mg (ix2 0 c) * i (ix2 0 c)) := by
  rw [← pay160_apply]
  unfold k0_pay161
  generalize k0_pay160 (F := Ideal) i mg = g
  pointwise

theorem pay162_apply (i mg : FVec Ideal S1x128 .f32) (o : FVec Ideal S128x128 .f32) (e c : Fin 128) :
    k0_pay162 (F := Ideal) i o mg (ix2 e c) = clip (o (ix2 e c) * (i (ix2 0 c) * Ideal.div 1 (scaleOf (mg (ix2 0 c) * i (ix2 0 c))))) := by
  rw [← pay160_apply]
  unfold k0_pay162 clip
  generalize k0_pay160 (F := Ideal) i mg = g
  pointwise

/-- A code of a trip, from the head's sums. -/
theorem halfCodes_apply (l : FVec Ideal S1x128 .f32) (o : FVec Ideal S128x128 .f32) (c e : Fin 128) :
    halfCodes (F := Ideal) l o (ix3 0 c e) = clip (o (ix2 e c) * (Ideal.div 1 (l (ix2 0 c)) * Ideal.div 1 (scaleOf ((topMag fun e : Fin 128 => o (ix2 e c)) * Ideal.div 1 (l (ix2 0 c)))))) := by
  rw [← magOf_apply, ← pay157_apply, ← pay162_apply]
  unfold halfCodes
  generalize k0_pay162 (F := Ideal) _ _ _ = g
  pointwise

end Cert.KernelIdeal.Body

end
-- ==== Proof.AttendTrip.lean ====
module

public import proofs.«01_k».proof.Proof.AttendOps

/-!
# An attention trip, at an index

From the four buffers a trip reads, to the codes and the scales it stores.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

/-- To show something at every place of a box of two axes, show it at every row and column. -/
theorem all_box2 {a b : ℕ} {P : (⟨2, ![a, b]⟩ : Shape).Idx → Prop} (h : ∀ (r : Fin a) (c : Fin b), P (ix2 r c)) (x) : P x := by
  rw [eq_ix2 x]; exact h _ _

/-- A leading axis of one element dropped, at an index. -/
theorem dropOne_apply {p q : ℕ} {φ : FTy} (x : FVec Ideal ⟨3, ![1, p, q]⟩ φ) (r : Fin p) (c : Fin q) :
    shapeCast ⟨2, ![p, q]⟩ x (dropOne p q) (ix2 r c) = x (ix3 0 r c) := by
  refine (shapeCast_dropUnit_apply ![p, q] x (dropOne p q) (ix2 r c)).trans (congrArg x ?_)
  funext a
  match a with
  | ⟨0, _⟩ => rfl
  | ⟨1, _⟩ => rfl
  | ⟨2, _⟩ => rfl

theorem zeros_apply (s : Shape) (i : s.Idx) : constant (F := Ideal) s .f32 0#32 i = 0 := by
  show Ideal.ofBits .f32 0#32 = 0
  simp [Ideal.ofBits, Ideal.ieee]

section

variable (n : Fin 5) (k : Fin 8)
  (arg11 : Memref sig .tc .vmem S8x640x256 .fp8e4m3) (X11 : BufTy.Contents (Elt Ideal) arg11.view.ty)
  (arg12 : Memref sig .tc .vmem S8x256x640 .bf16) (X12 : BufTy.Contents (Elt Ideal) arg12.view.ty)
  (arg13 : Memref sig .tc .vmem S8x640x256 .fp8e4m3) (X13 : BufTy.Contents (Elt Ideal) arg13.view.ty)
  (arg15 : Memref sig .tc .vmem S640x640 .f32) (arg16 : Memref sig .tc .vmem S640x640 .fp8e4m3)

/-- What the stores of scores hold. -/
def scoreG (y : S640x640.Idx) : EReal :=
  ∑ d : Fin 256, arg11.view.read (Elt Ideal) X11 (ix3 k (y 0) d) * arg13.view.read (Elt Ideal) X13 (ix3 k (y 1) d)

theorem scoreOf_apply (e : Fin 3) (r : Fin (128 * (n.val + 1))) (c : Fin (128 * wide e.val)) :
    scoreOf (F := Ideal) n k arg11 X11 arg13 X13 e (ix2 r c)
      = scoreG k arg11 X11 arg13 X13 (ix2 ⟨r.val, by omega⟩ ⟨256 * e.val + c.val, by have := wide_le e.isLt; omega⟩) := by
  unfold scoreOf scoreG
  rw [shapeCast_self]
  refine (Ideal.matmul_transposedRhs_apply _ _ _ _ r c).trans ?_
  rw [zeros_apply, zero_add]
  refine Finset.sum_congr rfl fun d _ => ?_
  refine congrArg₂ (· * ·) ((dropOne_apply _ _ _).trans (congrArg (arg11.view.read (Elt Ideal) X11) (unit_idx3 _ _ _ _ _ ?_ ?_ ?_)))
    ((dropOne_apply _ _ _).trans (congrArg (arg13.view.read (Elt Ideal) X13) (unit_idx3 _ _ _ _ _ ?_ ?_ ?_)))
  · show k.val = tripAt k.val + 0; rw [tripAt_eq k.isLt]; rfl
  · show r.val = 0 + r.val; omega
  · show d.val = 0 + d.val; omega
  · show k.val = tripAt k.val + 0; rw [tripAt_eq k.isLt]; rfl
  · show 256 * e.val + c.val = 256 * e.val + c.val; rfl
  · show d.val = 0 + d.val; omega

/-- The stores of scores, at a place. -/
theorem storesS_canon (y : S640x640.Idx) (hy : (y 0).val < 128 * (n.val + 1)) :
    View.canon (storesS n (scoreOf (F := Ideal) n k arg11 X11 arg13 X13)) y = scoreG k arg11 X11 arg13 X13 y := by
  have y1 : (y 1).val < 640 := (y 1).isLt
  refine View.canon_apply_of_pieces _ _ ?_ y ?_
  · intro p hp
    obtain ⟨e, -, rfl⟩ := (mem_downTo _ _ _ _).mp hp
    refine all_box2 fun r c => ?_
    refine (scoreOf_apply n k arg11 X11 arg13 X13 e r c).trans (congrArg (scoreG k arg11 X11 arg13 X13) ?_)
    exact (unit_idx2 _ _ (inb2 (by omega) (wide_le e.isLt)) _ _ (by show r.val = 0 + r.val; omega) rfl).symm
  · refine ⟨_, (mem_downTo _ _ _ _).mpr ⟨⟨(y 1).val / 256, by omega⟩, by show (y 1).val / 256 < 3; omega, rfl⟩, ?_⟩
    refine mem_unit2 _ _ (inb2 (by omega) (wide_le (e := (y 1).val / 256) (by omega))) _ ?_ ?_
    · show 0 ≤ (y 0).val ∧ (y 0).val < 0 + 128 * (n.val + 1); omega
    · show 256 * ((y 1).val / 256) ≤ (y 1).val ∧ (y 1).val < 256 * ((y 1).val / 256) + 128 * wide ((y 1).val / 256)
      unfold wide; omega

variable {kc : ℕ → Fin 256 → EReal} {vc : ℕ → Fin 256 → EReal} {vb : ℕ → EReal} {qc : Fin 5 → Fin 128 → Fin 256 → EReal}

/-- The products of the codes of a query and of token `u`. -/
def rawK (kc : ℕ → Fin 256 → EReal) (qc : Fin 5 → Fin 128 → Fin 256 → EReal) (h : Fin 5) (c : Fin 128) (u : ℕ) : EReal :=
  ∑ d : Fin 256, kc u d * qc h c d

section

variable (hK : ∀ (r : Fin 640) (d : Fin 256), r.val < 128 * (n.val + 1) →
    arg11.view.read (Elt Ideal) X11 (ix3 k r d) = kc (128 * (r.val / 128) + tokN (r.val % 128)) d)
  (hQ : ∀ (h : Fin 5) (c : Fin 128) (d : Fin 256) (w : 128 * h.val + c.val < 640),
    arg13.view.read (Elt Ideal) X13 (ix3 k ⟨128 * h.val + c.val, w⟩ d) = qc h c d)

include hK hQ

/-- The scores of a trip, as they are read back. -/
theorem tripS_apply (h : Fin 5) {j : ℕ} (hj : j ≤ n.val) (r c : Fin 128) :
    tripS (F := Ideal) n k arg11 X11 arg13 X13 arg15 h j (ix2 r c) = rawK kc qc h c (128 * j + tokN r.val) := by
  have hn := n.isLt
  have hj5 : j % 5 = j := Nat.mod_eq_of_lt (by omega)
  unfold tripS
  rw [View.readCov_eq_canon']
  have e : (Rect.unit (s := S640x640) ![128 * (j % 5), 128 * h.val] S128x128.size (inb2 (by omega) (by omega))).idx (ix2 r c)
      = ix2 ⟨128 * j + r.val, by omega⟩ ⟨128 * h.val + c.val, by omega⟩ :=
    unit_idx2 _ _ _ _ _ (by show 128 * j + r.val = 128 * (j % 5) + r.val; rw [hj5]) rfl
  refine (congrArg (View.canon _) e).trans ?_
  rw [storesS_canon n k arg11 X11 arg13 X13 _ (by show 128 * j + r.val < 128 * (n.val + 1); omega)]
  unfold scoreG rawK
  refine Finset.sum_congr rfl fun d _ => ?_
  show arg11.view.read (Elt Ideal) X11 (ix3 k ⟨128 * j + r.val, _⟩ d) * arg13.view.read (Elt Ideal) X13 (ix3 k ⟨128 * h.val + c.val, _⟩ d) = _
  rw [hK _ d (by show 128 * j + r.val < 128 * (n.val + 1); omega), hQ h c d (by omega)]
  have h1 : (128 * j + r.val) / 128 = j := by omega
  have h2 : (128 * j + r.val) % 128 = r.val := by omega
  rw [h1, h2]

end

section

variable {S : Fin 5 → ℕ → FVec Ideal S128x128 .f32} {ks : ℕ → EReal} {C : Fin 5 → FVec Ideal S1x128 .f32} {raw : Fin 5 → Fin 128 → ℕ → EReal}
  (hS : ∀ (h : Fin 5), ∀ j ≤ n.val, ∀ r c : Fin 128, S h j (ix2 r c) = raw h c (128 * j + tokN r.val))
  (hV : ∀ (d : Fin 256) (r : Fin 640), r.val < 128 * (n.val + 1) →
    arg12.view.read (Elt Ideal) X12 (ix3 k d r) = vc (128 * (r.val / 128) + tokN (r.val % 128)) d * vb (r.val / 128))

/-- What the stores of the probabilities' codes hold. -/
def codeG (ks : ℕ → EReal) (C : Fin 5 → FVec Ideal S1x128 .f32) (raw : Fin 5 → Fin 128 → ℕ → EReal) (y : S640x640.Idx) : EReal :=
  clip (kProb ((y 1).val % 128) (raw ⟨(y 1).val / 128, by have : (y 1).val < 640 := (y 1).isLt; omega⟩ ⟨(y 1).val % 128, Nat.mod_lt _ (by decide)⟩) ks
    (C ⟨(y 1).val / 128, by have : (y 1).val < 640 := (y 1).isLt; omega⟩ (ix2 0 ⟨(y 1).val % 128, Nat.mod_lt _ (by decide)⟩)) n.val ((y 0).val / 128) ((y 0).val % 128))

theorem codeG_apply (h : Fin 5) (c : Fin 128) (r : Fin 640) :
    codeG n ks C raw (ix2 r ⟨128 * h.val + c.val, by omega⟩) = clip (kProb c.val (raw h c) ks (C h (ix2 0 c)) n.val (r.val / 128) (r.val % 128)) := by
  unfold codeG
  have e1 : (⟨(128 * h.val + c.val) / 128, by omega⟩ : Fin 5) = h := Fin.ext (by show (128 * h.val + c.val) / 128 = h.val; omega)
  have e2 : (⟨(128 * h.val + c.val) % 128, Nat.mod_lt _ (by decide)⟩ : Fin 128) = c := Fin.ext (by show (128 * h.val + c.val) % 128 = c.val; omega)
  show clip (kProb ((128 * h.val + c.val) % 128) (raw ⟨(128 * h.val + c.val) / 128, _⟩ ⟨(128 * h.val + c.val) % 128, _⟩) ks
    (C ⟨(128 * h.val + c.val) / 128, _⟩ (ix2 0 ⟨(128 * h.val + c.val) % 128, _⟩)) n.val (r.val / 128) (r.val % 128)) = _
  rw [e1, e2, show (128 * h.val + c.val) % 128 = c.val by omega]

include hS

/-- The stores of the probabilities' codes, at a place. -/
theorem storesP_canon (y : S640x640.Idx) (hy : (y 0).val < 128 * (n.val + 1)) :
    View.canon (storesP (F := Ideal) n S ks C) y = codeG n ks C raw y := by
  have y1 : (y 1).val < 640 := (y 1).isLt
  have hn := n.isLt
  refine View.canon_apply_of_pieces _ _ ?_ y ?_
  · intro p hp
    obtain ⟨e, -, rfl⟩ := (mem_downTo _ _ _ _).mp hp
    have hm : e.val % (n.val + 1) < n.val + 1 := Nat.mod_lt _ (Nat.succ_pos _)
    have hd := divLt e
    refine all_box2 fun r c => ?_
    refine (probCodes_apply (hS := fun j hj r => hS ⟨e.val / (n.val + 1), hd⟩ j hj r c) (by omega : e.val % (n.val + 1) ≤ n.val) r).trans ?_
    have ee : (sbox ⟨e.val / (n.val + 1), hd⟩ ⟨e.val % (n.val + 1), by omega⟩).emb (ix2 r c)
        = ix2 ⟨128 * (e.val % (n.val + 1)) + r.val, by omega⟩ ⟨128 * (e.val / (n.val + 1)) + c.val, by omega⟩ := unit_idx2 _ _ _ _ _ rfl rfl
    refine Eq.trans ?_ (congrArg (codeG n ks C raw) ee).symm
    rw [codeG_apply n ⟨e.val / (n.val + 1), hd⟩ c]
    show _ = clip (kProb _ _ _ _ _ ((128 * (e.val % (n.val + 1)) + r.val) / 128) ((128 * (e.val % (n.val + 1)) + r.val) % 128))
    rw [show (128 * (e.val % (n.val + 1)) + r.val) / 128 = e.val % (n.val + 1) by omega,
      show (128 * (e.val % (n.val + 1)) + r.val) % 128 = r.val by omega]
  · have hq : (y 0).val / 128 < n.val + 1 := by omega
    have hp : (y 1).val / 128 < 5 := by omega
    have d1 : ((y 1).val / 128 * (n.val + 1) + (y 0).val / 128) / (n.val + 1) = (y 1).val / 128 := by
      rw [Nat.mul_comm, Nat.mul_add_div (Nat.succ_pos _), Nat.div_eq_of_lt hq, Nat.add_zero]
    have d2 : ((y 1).val / 128 * (n.val + 1) + (y 0).val / 128) % (n.val + 1) = (y 0).val / 128 := by
      rw [Nat.mul_comm, Nat.mul_add_mod, Nat.mod_eq_of_lt hq]
    have hlt : (y 1).val / 128 * (n.val + 1) + (y 0).val / 128 < 5 * (n.val + 1) := by
      have : (y 1).val / 128 * (n.val + 1) ≤ 4 * (n.val + 1) := Nat.mul_le_mul_right _ (by omega)
      omega
    refine ⟨_, (mem_downTo _ _ _ _).mpr ⟨⟨(y 1).val / 128 * (n.val + 1) + (y 0).val / 128, hlt⟩, hlt, rfl⟩, ?_⟩
    refine mem_unit2 _ _ (inb2 (by show 128 * (_ % _) + 128 ≤ 640; rw [d2]; omega) (by show 128 * (_ / _) + 128 ≤ 640; rw [d1]; omega)) _ ?_ ?_
    · show 128 * (((y 1).val / 128 * (n.val + 1) + (y 0).val / 128) % (n.val + 1)) ≤ (y 0).val
        ∧ (y 0).val < 128 * (((y 1).val / 128 * (n.val + 1) + (y 0).val / 128) % (n.val + 1)) + 128
      rw [d2]; omega
    · show 128 * (((y 1).val / 128 * (n.val + 1) + (y 0).val / 128) / (n.val + 1)) ≤ (y 1).val
        ∧ (y 1).val < 128 * (((y 1).val / 128 * (n.val + 1) + (y 0).val / 128) / (n.val + 1)) + 128
      rw [d1]; omega

include hV

/-- Half `g` of a head's sums of values. -/
theorem halfOf_apply (h : Fin 5) (g : Fin 2) (e c : Fin 128) :
    halfOf (F := Ideal) (mixOf (F := Ideal) n k arg12 X12 arg16 (storesP (F := Ideal) n S ks C)) h g (ix2 e c)
      = ∑ i : Fin (128 * (n.val + 1)), (vc (128 * (i.val / 128) + tokN (i.val % 128)) ⟨128 * g.val + e.val, by omega⟩ * vb (i.val / 128))
          * clip (kProb c.val (raw h c) ks (C h (ix2 0 c)) n.val (i.val / 128) (i.val % 128)) := by
  have hh := h.isLt
  have hw : 128 * (h.val % 2) + c.val < 128 * wide (h.val / 2) := by unfold wide; omega
  unfold halfOf
  have e1 : extractStridedSlice S128x128 ![128 * g.val, 128 * (h.val % 2)] (mixOf (F := Ideal) n k arg12 X12 arg16 (storesP (F := Ideal) n S ks C) ⟨h.val / 2, by omega⟩)
      (sl2 (by omega) (by unfold wide; show 128 * (h.val % 2) + 128 ≤ 128 * (2 - h.val / 2 / 2); omega)) (ix2 e c)
      = mixOf (F := Ideal) n k arg12 X12 arg16 (storesP (F := Ideal) n S ks C) ⟨h.val / 2, by omega⟩
          (ix2 ⟨128 * g.val + e.val, by omega⟩ ⟨128 * (h.val % 2) + c.val, hw⟩) := by
    refine congrArg (mixOf (F := Ideal) n k arg12 X12 arg16 (storesP (F := Ideal) n S ks C) ⟨h.val / 2, by omega⟩) ?_
    funext a
    match a with
    | ⟨0, _⟩ => rfl
    | ⟨1, _⟩ => rfl
  refine e1.trans ?_
  unfold mixOf
  refine (Ideal.matmul_plain_apply _ _ _ _ _ _).trans ?_
  rw [zeros_apply, zero_add]
  refine Finset.sum_congr rfl fun i _ => ?_
  have hi := i.isLt
  have hn := n.isLt
  rw [View.readCov_eq_canon']
  refine congrArg₂ (· * ·) ((dropOne_apply _ _ _).trans ?_) ?_
  · refine (congrArg (arg12.view.read (Elt Ideal) X12) (unit_idx3 _ _ _ _ (ix3 k ⟨128 * g.val + e.val, by omega⟩ ⟨i.val, by omega⟩) ?_ ?_ ?_)).trans ?_
    · show k.val = tripAt k.val + 0; rw [tripAt_eq k.isLt]; rfl
    · show 128 * g.val + e.val = 0 + (128 * g.val + e.val); omega
    · show i.val = 0 + i.val; omega
    · exact hV _ ⟨i.val, by omega⟩ hi
  · refine (congrArg (View.canon (storesP (F := Ideal) n S ks C)) (unit_idx2 _ _ _ _ (ix2 ⟨i.val, by omega⟩ ⟨128 * h.val + c.val, by omega⟩) ?_ ?_)).trans ?_
    · show i.val = 0 + i.val; omega
    · show 128 * h.val + c.val = 256 * (h.val / 2) + (128 * (h.val % 2) + c.val); omega
    · rw [storesP_canon n hS _ hi]
      exact codeG_apply n h c ⟨i.val, by omega⟩

end

end

end Cert.KernelIdeal.Body

end
-- ==== Proof.AttendValue.lean ====
module

public import proofs.«01_k».proof.Proof.AttendTrip

/-!
# The codes and scales an attention trip stores

When the buffers a trip reads hold the keys, values and query codes of a block, its stores hold the codes and scales of
the attention's output.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

/-- Row `c` of query block `n`, as a token. -/
def tokenOf (n : Fin 5) (c : Fin 128) : Fin 640 := ⟨128 * n.val + c.val, by omega⟩

/-- The token whose key row `r` of the stored keys holds. -/
def storedTok (r : ℕ) : ℕ := 128 * (r / 128) + tokN (r % 128)

section

variable (x : S3x640x10240.Idx → EReal) (k : (⟨4, ![3, 640, 8, 256]⟩ : Shape).Idx → EReal) (ks : S3x5x8.Idx → EReal)
  (v : (⟨4, ![3, 640, 8, 256]⟩ : Shape).Idx → EReal) (vs : S3x5x8.Idx → EReal) (b : Fin 3) (n : Fin 5)

/-- The stored keys of batch `b`. -/
def keysB (y : S8x640x256.Idx) : EReal := k (ix4 b (tokF (storedTok (y 1).val)) (y 0) (y 2))
/-- The stored values of batch `b`. -/
def valsB (y : S8x256x640.Idx) : EReal := v (ix4 b (tokF (storedTok (y 2).val)) (y 0) (y 1)) * vs (ix3 b (blkF ((y 2).val / 128)) (y 0))

/-- What an attention trip finds in the buffers it reads. -/
structure Reads (a5 : S5x3x8.Idx → EReal) (a11 : S8x640x256.Idx → EReal) (a12 : S8x256x640.Idx → EReal) (a13 : S8x640x256.Idx → EReal)
    (a14 : S40x128.Idx → EReal) : Prop where
  scales : ∀ (j : Fin 5) (kv : Fin 8), a5 (ix3 j b kv) = ks (ix3 b j kv)
  keys : a11 = keysB k b
  vals : a12 = valsB v vs b
  codes : ∀ (kv : Fin 8) (h : Fin 5) (c : Fin 128) (d : Fin 256) (w : 128 * h.val + c.val < 640) (w' : 5 * kv.val + h.val < 40),
    a13 (ix3 kv ⟨128 * h.val + c.val, w⟩ d) = qCode x b (tokenOf n c) ⟨5 * kv.val + h.val, w'⟩ d
  factors : ∀ (h : Fin 40) (c : Fin 128), a14 (ix2 h c) = qScale x b (tokenOf n c) h * (((((Real.log 2) * 16)⁻¹ : ℝ)) : EReal)

/-- The block of output codes of query block `n` of batch `b`. -/
def outC (y : S1x128x10240.Idx) : EReal :=
  oCode x k ks v vs b (tokenOf n (y 1)) ⟨(y 2).val / 128, by have : (y 2).val < 10240 := (y 2).isLt; omega⟩ ⟨(y 2).val % 128, Nat.mod_lt _ (by decide)⟩
/-- The block of output scales. -/
def outS (y : S1x80x128.Idx) : EReal := oScale x k ks v vs b (tokenOf n (y 2)) (y 1)

/-- The query head of trip `kv` and member `h` of its group. -/
def qh (kv : Fin 8) (h : Fin 5) : Fin 40 := ⟨5 * kv.val + h.val, by omega⟩

theorem kvOf_qh (kv : Fin 8) (h : Fin 5) : kvOf (qh kv h) = kv := Fin.ext (by show (5 * kv.val + h.val) / 5 = kv.val; omega)

/-- The group of half `g` of a query head. -/
def gh (kv : Fin 8) (h : Fin 5) (g : Fin 2) : Fin 80 := ⟨2 * (5 * kv.val + h.val) + g.val, by omega⟩

theorem grpO_gh (kv : Fin 8) (h : Fin 5) (g : Fin 2) (t : Fin 640) (e : Fin 128) :
    grpO x k ks v vs b t (gh kv h g) e = outO x k ks v vs b t (qh kv h) ⟨128 * g.val + e.val, by omega⟩ := by
  unfold grpO
  congr 1
  · exact Fin.ext (by show (2 * (5 * kv.val + h.val) + g.val) / 2 = 5 * kv.val + h.val; omega)
  · exact Fin.ext (by show 128 * ((2 * (5 * kv.val + h.val) + g.val) % 2) + e.val = 128 * g.val + e.val; omega)

end

section

variable {x : S3x640x10240.Idx → EReal} {k : (⟨4, ![3, 640, 8, 256]⟩ : Shape).Idx → EReal} {ks : S3x5x8.Idx → EReal}
  {v : (⟨4, ![3, 640, 8, 256]⟩ : Shape).Idx → EReal} {vs : S3x5x8.Idx → EReal} {b : Fin 3} {n : Fin 5} (hks : ∀ i, 0 ≤ ks i)
  (kv : Fin 8)
  (arg5 : Memref sig .tc .smem S5x3x8 .f32) (X5 : BufTy.Contents (Elt Ideal) arg5.view.ty)
  (arg11 : Memref sig .tc .vmem S8x640x256 .fp8e4m3) (X11 : BufTy.Contents (Elt Ideal) arg11.view.ty)
  (arg12 : Memref sig .tc .vmem S8x256x640 .bf16) (X12 : BufTy.Contents (Elt Ideal) arg12.view.ty)
  (arg13 : Memref sig .tc .vmem S8x640x256 .fp8e4m3) (X13 : BufTy.Contents (Elt Ideal) arg13.view.ty)
  (arg14 : Memref sig .tc .vmem S40x128 .f32) (X14 : BufTy.Contents (Elt Ideal) arg14.view.ty)
  (arg15 : Memref sig .tc .vmem S640x640 .f32) (arg16 : Memref sig .tc .vmem S640x640 .fp8e4m3)
  (R : Reads x k ks v vs b n (arg5.view.read (Elt Ideal) X5) (arg11.view.read (Elt Ideal) X11) (arg12.view.read (Elt Ideal) X12)
    (arg13.view.read (Elt Ideal) X13) (arg14.view.read (Elt Ideal) X14))

include R

theorem crow_apply (h : Fin 5) (c : Fin 128) :
    crow (F := Ideal) kv arg14 X14 h (ix2 0 c) = qScale x b (tokenOf n c) (qh kv h) * (((((Real.log 2) * 16)⁻¹ : ℝ)) : EReal) := by
  rw [← R.factors]
  refine congrArg (arg14.view.read (Elt Ideal) X14) (unit_idx2 _ _ _ _ _ ?_ ?_)
  · show 5 * kv.val + h.val = headAt kv.val h.val + 0; rw [headAt_eq kv.isLt h.isLt]; rfl
  · show c.val = 0 + c.val; omega

theorem tripK_eq : tripK (F := Ideal) b kv arg5 X5 = fun j => ks (ix3 b (blkF j) kv) := by
  funext j
  rw [← R.scales]
  unfold tripK ksAt
  refine congrArg (arg5.view.read (Elt Ideal) X5) (unit_idx3 _ _ _ _ _ ?_ ?_ ?_)
  · rfl
  · show b.val = (Scalar.indexCast (BitVec.ofNat 32 b.val)).toNat + 0
    rw [(by decide +kernel : ∀ b : Fin 3, (Scalar.indexCast (BitVec.ofNat 32 b.val)).toNat = b.val) b]; rfl
  · show kv.val = tripAt kv.val + 0; rw [tripAt_eq kv.isLt]; rfl

/-- The scores of a trip are the products of the codes. -/
theorem tripS_raw (h : Fin 5) (j : ℕ) (hj : j ≤ n.val) (r c : Fin 128) :
    tripS (F := Ideal) n kv arg11 X11 arg13 X13 arg15 h j (ix2 r c) = rawOf x k b (tokenOf n c) (qh kv h) (128 * j + tokN r.val) := by
  rw [tripS_apply n kv arg11 X11 arg13 X13 arg15 (kc := fun u d => k (ix4 b (tokF u) kv d)) (qc := fun h c d => qCode x b (tokenOf n c) (qh kv h) d)
    (fun r d _ => by rw [R.keys]; rfl) (fun h c d w => R.codes kv h c d w (qh kv h).isLt) h hj r c]
  unfold rawK rawOf
  rw [kvOf_qh]

include hks

/-- The reciprocal of the sum of a query's weights. -/
theorem tripL_apply (h : Fin 5) (c : Fin 128) :
    Ideal.div 1 (sumRun (F := Ideal) (tripS (F := Ideal) n kv arg11 X11 arg13 X13 arg15 h) (tripK (F := Ideal) b kv arg5 X5) (crow (F := Ideal) kv arg14 X14 h) n.val n.val (ix2 0 c))
      = itot (tokenOf n c).val (rawOf x k b (tokenOf n c) (qh kv h)) (fun u => scaleAt ks b (qh kv h) (u / 128)) (qScale x b (tokenOf n c) (qh kv h)) := by
  obtain ⟨q, hq, eq⟩ := scaleOf_pos (topMag fun d : Fin 256 => x (ix3 b (tokenOf n c) ⟨256 * (qh kv h).val + d.val, by omega⟩))
  have eq' : qScale x b (tokenOf n c) (qh kv h) = (q : EReal) := eq
  rw [sumRun_apply (hS := fun j hj r => tripS_raw kv arg5 X5 arg11 X11 arg12 X12 arg13 X13 arg14 X14 arg15 R h j hj r c) n.val le_rfl,
    crow_apply kv arg5 X5 arg11 X11 arg12 X12 arg13 X13 arg14 X14 R, tripK_eq kv arg5 X5 arg11 X11 arg12 X12 arg13 X13 arg14 X14 R, eq',
    kSum_eq c.isLt n.isLt _ _ (fun j => hks _) hq]
  unfold itot scaleAt
  rw [kvOf_qh]
  rfl

/-- A head's sums of values. -/
theorem tripO_apply (h : Fin 5) (g : Fin 2) (e c : Fin 128) :
    halfOf (F := Ideal) (tripO (F := Ideal) b n kv arg5 X5 arg11 X11 arg12 X12 arg13 X13 arg14 X14 arg15 arg16) h g (ix2 e c)
      = mixed (tokenOf n c).val (rawOf x k b (tokenOf n c) (qh kv h)) (fun u => scaleAt ks b (qh kv h) (u / 128)) (qScale x b (tokenOf n c) (qh kv h))
          (fun u => scaleAt vs b (qh kv h) (u / 128)) (fun u => v (ix4 b (tokF u) (kvOf (qh kv h)) ⟨128 * g.val + e.val, by omega⟩)) := by
  obtain ⟨q, hq, eq⟩ := scaleOf_pos (topMag fun d : Fin 256 => x (ix3 b (tokenOf n c) ⟨256 * (qh kv h).val + d.val, by omega⟩))
  have eq' : qScale x b (tokenOf n c) (qh kv h) = (q : EReal) := eq
  refine (halfOf_apply n kv arg12 X12 arg16 (vc := fun u d => v (ix4 b (tokF u) kv d)) (vb := fun j => vs (ix3 b (blkF j) kv))
    (raw := fun h c => rawOf x k b (tokenOf n c) (qh kv h))
    (fun h j hj r c => tripS_raw kv arg5 X5 arg11 X11 arg12 X12 arg13 X13 arg14 X14 arg15 R h j hj r c)
    (fun d r _ => by rw [R.vals]; rfl) h g e c).trans ?_
  rw [crow_apply kv arg5 X5 arg11 X11 arg12 X12 arg13 X13 arg14 X14 R, tripK_eq kv arg5 X5 arg11 X11 arg12 X12 arg13 X13 arg14 X14 R, eq']
  refine (kMix_eq c.isLt n.isLt (rawOf x k b (tokenOf n c) (qh kv h)) (fun j => ks (ix3 b (blkF j) kv)) (fun j => hks _) hq
    (fun j => vs (ix3 b (blkF j) kv)) (fun u => v (ix4 b (tokF u) kv ⟨128 * g.val + e.val, by omega⟩))).trans ?_
  unfold scaleAt
  rw [kvOf_qh]
  rfl

/-- The largest magnitude of a half, times the reciprocal. -/
theorem tripMag (h : Fin 5) (g : Fin 2) (c : Fin 128) :
    (topMag fun e : Fin 128 => halfOf (F := Ideal) (tripO (F := Ideal) b n kv arg5 X5 arg11 X11 arg12 X12 arg13 X13 arg14 X14 arg15 arg16) h g (ix2 e c))
        * Ideal.div 1 (sumRun (F := Ideal) (tripS (F := Ideal) n kv arg11 X11 arg13 X13 arg15 h) (tripK (F := Ideal) b kv arg5 X5) (crow (F := Ideal) kv arg14 X14 h) n.val n.val (ix2 0 c))
      = topMag fun e : Fin 128 => grpO x k ks v vs b (tokenOf n c) (gh kv h g) e := by
  rw [tripL_apply hks kv arg5 X5 arg11 X11 arg12 X12 arg13 X13 arg14 X14 arg15 R, topMag_mul]
  · simp only [tripO_apply hks kv arg5 X5 arg11 X11 arg12 X12 arg13 X13 arg14 X14 arg15 arg16 R, grpO_gh]
    rfl
  · refine div_one_nonneg (mul_nonneg ?_ (Finset.sum_nonneg fun u _ => exp_nonneg _))
    rw [bits_256]; exact_mod_cast (by norm_num : (0 : ℝ) ≤ 256)

/-- Each store of scales of a trip holds the output's scales. -/
theorem tripOS_piece (p) (hp : p ∈ tripOS (F := Ideal) b n kv arg5 X5 arg11 X11 arg12 X12 arg13 X13 arg14 X14 arg15 arg16) (y : p.1.shape.Idx) :
    p.2 y = outS x k ks v vs b n (p.1.emb y) := by
  obtain ⟨⟨e, he⟩, -, rfl⟩ := (mem_downTo _ _ _ _).mp hp
  revert y
  refine all_block fun z c => ?_
  obtain rfl : z = 0 := Subsingleton.elim _ _
  refine (pay161_apply _ _ c).trans ?_
  rw [pay157_apply, magOf_apply, tripMag hks kv arg5 X5 arg11 X11 arg12 X12 arg13 X13 arg14 X14 arg15 arg16 R]
  refine congrArg (outS x k ks v vs b n) (a₁ := ix3 0 (gh kv ⟨e / 2, by omega⟩ ⟨e % 2, by omega⟩) c) (unit_idx3 _ _ (inb3 (by omega) (by rw [halfAt_eq kv.isLt (by omega) (by omega)]; omega) (by omega)) _ _ ?_ ?_ ?_).symm
  · rfl
  · show 2 * (5 * kv.val + e / 2) + e % 2 = halfAt kv.val (e / 2) (e % 2) + 0
    rw [halfAt_eq kv.isLt (by omega) (by omega)]
    rfl
  · show c.val = 0 + c.val; omega

/-- Each store of codes of a trip holds the output's codes. -/
theorem tripOC_piece (p) (hp : p ∈ tripOC (F := Ideal) b n kv arg5 X5 arg11 X11 arg12 X12 arg13 X13 arg14 X14 arg15 arg16) (y : p.1.shape.Idx) :
    p.2 y = outC x k ks v vs b n (p.1.emb y) := by
  obtain ⟨⟨e, he⟩, -, rfl⟩ := (mem_downTo _ _ _ _).mp hp
  revert y
  refine all_block fun c d => ?_
  refine (halfCodes_apply _ _ c d).trans ?_
  rw [tripMag hks kv arg5 X5 arg11 X11 arg12 X12 arg13 X13 arg14 X14 arg15 arg16 R, ← mul_assoc,
    tripO_apply hks kv arg5 X5 arg11 X11 arg12 X12 arg13 X13 arg14 X14 arg15 arg16 R,
    tripL_apply hks kv arg5 X5 arg11 X11 arg12 X12 arg13 X13 arg14 X14 arg15 R]
  refine Eq.trans ?_ (congrArg (outC x k ks v vs b n) (a₁ := ix3 0 c ⟨128 * (gh kv ⟨e / 2, by omega⟩ ⟨e % 2, by omega⟩).val + d.val, by omega⟩) (unit_idx3 _ _ (inb3 (by omega) (by omega) (by rw [colAt_eq kv.isLt (by omega) (by omega)]; omega)) _ _ ?_ ?_ ?_).symm)
  · unfold outC oCode
    have e1 : (⟨(128 * (gh kv ⟨e / 2, by omega⟩ ⟨e % 2, by omega⟩).val + d.val) / 128, by omega⟩ : Fin 80) = gh kv ⟨e / 2, by omega⟩ ⟨e % 2, by omega⟩ := Fin.ext (by show (128 * _ + d.val) / 128 = _; omega)
    have e2 : (⟨(128 * (gh kv ⟨e / 2, by omega⟩ ⟨e % 2, by omega⟩).val + d.val) % 128, Nat.mod_lt _ (by decide)⟩ : Fin 128) = d := Fin.ext (by show (128 * _ + d.val) % 128 = d.val; omega)
    refine Eq.trans ?_ (congrArg₂ (fun g d => clip (grpO x k ks v vs b (tokenOf n c) g d * Ideal.div 1 (oScale x k ks v vs b (tokenOf n c) g))) e1 e2).symm
    rw [grpO_gh]
    rfl
  · rfl
  · show c.val = 0 + c.val; omega
  · show 128 * (2 * (5 * kv.val + e / 2) + e % 2) + d.val = colAt kv.val (e / 2) (e % 2) + d.val
    rw [colAt_eq kv.isLt (by omega) (by omega)]
    omega

omit R hks

/-- The stores of scales of a trip reach the rows of its heads. -/
theorem tripOS_covers (y : S1x80x128.Idx) (hy : (y 1).val / 10 = kv.val) :
    ∃ p ∈ tripOS (F := Ideal) b n kv arg5 X5 arg11 X11 arg12 X12 arg13 X13 arg14 X14 arg15 arg16, y ∈ p.1.set := by
  have y0 : (y 0).val < 1 := (y 0).isLt
  have y2 : (y 2).val < 128 := (y 2).isLt
  refine ⟨_, (mem_downTo _ _ _ _).mpr ⟨⟨(y 1).val % 10, by omega⟩, by show (y 1).val % 10 < 10; omega, rfl⟩, ?_⟩
  have e := halfAt_eq kv.isLt (h := (y 1).val % 10 / 2) (g := (y 1).val % 10 % 2) (by omega) (by omega)
  refine mem_unit3 _ _ (inb3 (by omega) (by rw [e]; omega) (by omega)) _ ?_ ?_ ?_
  · show 0 ≤ (y 0).val ∧ (y 0).val < 0 + 1; omega
  · show halfAt kv.val ((y 1).val % 10 / 2) ((y 1).val % 10 % 2) ≤ (y 1).val ∧ (y 1).val < halfAt kv.val ((y 1).val % 10 / 2) ((y 1).val % 10 % 2) + 1
    rw [e]; omega
  · show 0 ≤ (y 2).val ∧ (y 2).val < 0 + 128; omega

/-- The stores of codes of a trip reach the columns of its heads. -/
theorem tripOC_covers (y : S1x128x10240.Idx) (hy : (y 2).val / 1280 = kv.val) :
    ∃ p ∈ tripOC (F := Ideal) b n kv arg5 X5 arg11 X11 arg12 X12 arg13 X13 arg14 X14 arg15 arg16, y ∈ p.1.set := by
  have y0 : (y 0).val < 1 := (y 0).isLt
  have y1 : (y 1).val < 128 := (y 1).isLt
  refine ⟨_, (mem_downTo _ _ _ _).mpr ⟨⟨(y 2).val % 1280 / 128, by omega⟩, by show (y 2).val % 1280 / 128 < 10; omega, rfl⟩, ?_⟩
  have e := colAt_eq kv.isLt (h := (y 2).val % 1280 / 128 / 2) (g := (y 2).val % 1280 / 128 % 2) (by omega) (by omega)
  refine mem_unit3 _ _ (inb3 (by omega) (by omega) (by rw [e]; omega)) _ ?_ ?_ ?_
  · show 0 ≤ (y 0).val ∧ (y 0).val < 0 + 1; omega
  · show 0 ≤ (y 1).val ∧ (y 1).val < 0 + 128; omega
  · show colAt kv.val ((y 2).val % 1280 / 128 / 2) ((y 2).val % 1280 / 128 % 2) ≤ (y 2).val ∧ (y 2).val < colAt kv.val ((y 2).val % 1280 / 128 / 2) ((y 2).val % 1280 / 128 % 2) + 128
    rw [e]; omega

end

end Cert.KernelIdeal.Body

end
-- ==== Proof.BranchLists.lean ====
module

public import proofs.«01_k».proof.Proof.AttendValue

/-!
# What an attention loop leaves in the blocks of the output

The stores of a loop are the stores of its eight trips, one for each head of keys.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

section
variable {F : FTy → Type} [FloatOps F] [Named F]

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)
  (X5 : BufTy.Contents (Elt F) arg5.view.ty) (X11 : BufTy.Contents (Elt F) arg11.view.ty) (X12 : BufTy.Contents (Elt F) arg12.view.ty)
  (X13 : BufTy.Contents (Elt F) arg13.view.ty) (X14 : BufTy.Contents (Elt F) arg14.view.ty)
  (G7 : BufTy.Contents (Elt F) arg7.view.ty) (G8 : BufTy.Contents (Elt F) arg8.view.ty) (G15 : BufTy.Contents (Elt F) arg15.view.ty) (G16 : BufTy.Contents (Elt F) arg16.view.ty)

/-- A list that a trip's list is put before. -/
theorem mem_trips {α : Type} {L : Fin 8 → List α} {m : ℕ} (hm : m < 8) {T A B : List α} (e : B = T ++ A) (hT : T = L ⟨m, hm⟩)
    (ih : ∀ p, p ∈ A ↔ ∃ k : Fin 8, k.val < m ∧ p ∈ L k) (p : α) : p ∈ B ↔ ∃ k : Fin 8, k.val < m + 1 ∧ p ∈ L k := by
  rw [e, hT, List.mem_append, ih]
  constructor
  · rintro (hp | ⟨k, hk, hp⟩)
    · exact ⟨_, Nat.lt_succ_self m, hp⟩
    · exact ⟨k, Nat.lt_succ_of_lt hk, hp⟩
  · rintro ⟨k, hk, hp⟩
    rcases Nat.lt_succ_iff_lt_or_eq.mp hk with h' | h'
    · exact .inr ⟨k, h', hp⟩
    · exact .inl ((Fin.ext h' : k = ⟨m, hm⟩) ▸ hp)

/-- The stores of codes of the first trips of the loop with 1 block of keys. -/
theorem tripsOC_0 (arg0 : BitVec 32) (h : k0_cond2 i = 1#1) : ∀ m : ℕ, m ≤ 8 → ∀ p,
    p ∈ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).1
      ↔ ∃ k : Fin 8, k.val < m ∧ p ∈ tripOC (F := F) ⟨(i 0).val, (i 0).isLt⟩ ⟨0, by decide⟩ k arg5 X5 arg11 X11 arg12 X12 arg13 X13 arg14 X14 arg15 arg16 := by
  intro m
  induction m with
  | zero => intro _ p; simp [pb_k0_t2]
  | succ m ih =>
    intro hm
    have hm' : m < k0_t2_loop.trips := lt_of_lt_of_le hm (by decide)
    exact mem_trips (L := fun k => tripOC (F := F) ⟨(i 0).val, (i 0).isLt⟩ ⟨0, by decide⟩ k arg5 X5 arg11 X11 arg12 X12 arg13 X13 arg14 X14 arg15 arg16) hm
      (congrArg Prod.fst (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOC_0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of scales of the first trips of the loop with 1 block of keys. -/
theorem tripsOS_0 (arg0 : BitVec 32) (h : k0_cond2 i = 1#1) : ∀ m : ℕ, m ≤ 8 → ∀ p,
    p ∈ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).2.1
      ↔ ∃ k : Fin 8, k.val < m ∧ p ∈ tripOS (F := F) ⟨(i 0).val, (i 0).isLt⟩ ⟨0, by decide⟩ k arg5 X5 arg11 X11 arg12 X12 arg13 X13 arg14 X14 arg15 arg16 := by
  intro m
  induction m with
  | zero => intro _ p; simp [pb_k0_t2]
  | succ m ih =>
    intro hm
    have hm' : m < k0_t2_loop.trips := lt_of_lt_of_le hm (by decide)
    exact mem_trips (L := fun k => tripOS (F := F) ⟨(i 0).val, (i 0).isLt⟩ ⟨0, by decide⟩ k arg5 X5 arg11 X11 arg12 X12 arg13 X13 arg14 X14 arg15 arg16) hm
      (congrArg (fun q => q.2.1) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOS_0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of codes of the first trips of the loop with 2 blocks of keys. -/
theorem tripsOC_1 (arg0 : BitVec 32) (h : k0_cond3 i = 1#1) : ∀ m : ℕ, m ≤ 8 → ∀ p,
    p ∈ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).1
      ↔ ∃ k : Fin 8, k.val < m ∧ p ∈ tripOC (F := F) ⟨(i 0).val, (i 0).isLt⟩ ⟨1, by decide⟩ k arg5 X5 arg11 X11 arg12 X12 arg13 X13 arg14 X14 arg15 arg16 := by
  intro m
  induction m with
  | zero => intro _ p; simp [pb_k0_t3]
  | succ m ih =>
    intro hm
    have hm' : m < k0_t3_loop.trips := lt_of_lt_of_le hm (by decide)
    exact mem_trips (L := fun k => tripOC (F := F) ⟨(i 0).val, (i 0).isLt⟩ ⟨1, by decide⟩ k arg5 X5 arg11 X11 arg12 X12 arg13 X13 arg14 X14 arg15 arg16) hm
      (congrArg Prod.fst (pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOC_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of scales of the first trips of the loop with 2 blocks of keys. -/
theorem tripsOS_1 (arg0 : BitVec 32) (h : k0_cond3 i = 1#1) : ∀ m : ℕ, m ≤ 8 → ∀ p,
    p ∈ (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).2.1
      ↔ ∃ k : Fin 8, k.val < m ∧ p ∈ tripOS (F := F) ⟨(i 0).val, (i 0).isLt⟩ ⟨1, by decide⟩ k arg5 X5 arg11 X11 arg12 X12 arg13 X13 arg14 X14 arg15 arg16 := by
  intro m
  induction m with
  | zero => intro _ p; simp [pb_k0_t3]
  | succ m ih =>
    intro hm
    have hm' : m < k0_t3_loop.trips := lt_of_lt_of_le hm (by decide)
    exact mem_trips (L := fun k => tripOS (F := F) ⟨(i 0).val, (i 0).isLt⟩ ⟨1, by decide⟩ k arg5 X5 arg11 X11 arg12 X12 arg13 X13 arg14 X14 arg15 arg16) hm
      (congrArg (fun q => q.2.1) (pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOS_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of codes of the first trips of the loop with 3 blocks of keys. -/
theorem tripsOC_2 (arg0 : BitVec 32) (h : k0_cond4 i = 1#1) : ∀ m : ℕ, m ≤ 8 → ∀ p,
    p ∈ (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).1
      ↔ ∃ k : Fin 8, k.val < m ∧ p ∈ tripOC (F := F) ⟨(i 0).val, (i 0).isLt⟩ ⟨2, by decide⟩ k arg5 X5 arg11 X11 arg12 X12 arg13 X13 arg14 X14 arg15 arg16 := by
  intro m
  induction m with
  | zero => intro _ p; simp [pb_k0_t4]
  | succ m ih =>
    intro hm
    have hm' : m < k0_t4_loop.trips := lt_of_lt_of_le hm (by decide)
    exact mem_trips (L := fun k => tripOC (F := F) ⟨(i 0).val, (i 0).isLt⟩ ⟨2, by decide⟩ k arg5 X5 arg11 X11 arg12 X12 arg13 X13 arg14 X14 arg15 arg16) hm
      (congrArg Prod.fst (pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOC_2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of scales of the first trips of the loop with 3 blocks of keys. -/
theorem tripsOS_2 (arg0 : BitVec 32) (h : k0_cond4 i = 1#1) : ∀ m : ℕ, m ≤ 8 → ∀ p,
    p ∈ (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).2.1
      ↔ ∃ k : Fin 8, k.val < m ∧ p ∈ tripOS (F := F) ⟨(i 0).val, (i 0).isLt⟩ ⟨2, by decide⟩ k arg5 X5 arg11 X11 arg12 X12 arg13 X13 arg14 X14 arg15 arg16 := by
  intro m
  induction m with
  | zero => intro _ p; simp [pb_k0_t4]
  | succ m ih =>
    intro hm
    have hm' : m < k0_t4_loop.trips := lt_of_lt_of_le hm (by decide)
    exact mem_trips (L := fun k => tripOS (F := F) ⟨(i 0).val, (i 0).isLt⟩ ⟨2, by decide⟩ k arg5 X5 arg11 X11 arg12 X12 arg13 X13 arg14 X14 arg15 arg16) hm
      (congrArg (fun q => q.2.1) (pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOS_2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of codes of the first trips of the loop with 4 blocks of keys. -/
theorem tripsOC_3 (arg0 : BitVec 32) (h : k0_cond5 i = 1#1) : ∀ m : ℕ, m ≤ 8 → ∀ p,
    p ∈ (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).1
      ↔ ∃ k : Fin 8, k.val < m ∧ p ∈ tripOC (F := F) ⟨(i 0).val, (i 0).isLt⟩ ⟨3, by decide⟩ k arg5 X5 arg11 X11 arg12 X12 arg13 X13 arg14 X14 arg15 arg16 := by
  intro m
  induction m with
  | zero => intro _ p; simp [pb_k0_t5]
  | succ m ih =>
    intro hm
    have hm' : m < k0_t5_loop.trips := lt_of_lt_of_le hm (by decide)
    exact mem_trips (L := fun k => tripOC (F := F) ⟨(i 0).val, (i 0).isLt⟩ ⟨3, by decide⟩ k arg5 X5 arg11 X11 arg12 X12 arg13 X13 arg14 X14 arg15 arg16) hm
      (congrArg Prod.fst (pb_k0_t5_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOC_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of scales of the first trips of the loop with 4 blocks of keys. -/
theorem tripsOS_3 (arg0 : BitVec 32) (h : k0_cond5 i = 1#1) : ∀ m : ℕ, m ≤ 8 → ∀ p,
    p ∈ (pb_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).2.1
      ↔ ∃ k : Fin 8, k.val < m ∧ p ∈ tripOS (F := F) ⟨(i 0).val, (i 0).isLt⟩ ⟨3, by decide⟩ k arg5 X5 arg11 X11 arg12 X12 arg13 X13 arg14 X14 arg15 arg16 := by
  intro m
  induction m with
  | zero => intro _ p; simp [pb_k0_t5]
  | succ m ih =>
    intro hm
    have hm' : m < k0_t5_loop.trips := lt_of_lt_of_le hm (by decide)
    exact mem_trips (L := fun k => tripOS (F := F) ⟨(i 0).val, (i 0).isLt⟩ ⟨3, by decide⟩ k arg5 X5 arg11 X11 arg12 X12 arg13 X13 arg14 X14 arg15 arg16) hm
      (congrArg (fun q => q.2.1) (pb_k0_t5_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOS_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of codes of the first trips of the loop with 5 blocks of keys. -/
theorem tripsOC_4 (arg0 : BitVec 32) (h : k0_cond6 i = 1#1) : ∀ m : ℕ, m ≤ 8 → ∀ p,
    p ∈ (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).1
      ↔ ∃ k : Fin 8, k.val < m ∧ p ∈ tripOC (F := F) ⟨(i 0).val, (i 0).isLt⟩ ⟨4, by decide⟩ k arg5 X5 arg11 X11 arg12 X12 arg13 X13 arg14 X14 arg15 arg16 := by
  intro m
  induction m with
  | zero => intro _ p; simp [pb_k0_t6]
  | succ m ih =>
    intro hm
    have hm' : m < k0_t6_loop.trips := lt_of_lt_of_le hm (by decide)
    exact mem_trips (L := fun k => tripOC (F := F) ⟨(i 0).val, (i 0).isLt⟩ ⟨4, by decide⟩ k arg5 X5 arg11 X11 arg12 X12 arg13 X13 arg14 X14 arg15 arg16) hm
      (congrArg Prod.fst (pb_k0_t6_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOC_4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

/-- The stores of scales of the first trips of the loop with 5 blocks of keys. -/
theorem tripsOS_4 (arg0 : BitVec 32) (h : k0_cond6 i = 1#1) : ∀ m : ℕ, m ≤ 8 → ∀ p,
    p ∈ (pb_k0_t6 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 m).2.1
      ↔ ∃ k : Fin 8, k.val < m ∧ p ∈ tripOS (F := F) ⟨(i 0).val, (i 0).isLt⟩ ⟨4, by decide⟩ k arg5 X5 arg11 X11 arg12 X12 arg13 X13 arg14 X14 arg15 arg16 := by
  intro m
  induction m with
  | zero => intro _ p; simp [pb_k0_t6]
  | succ m ih =>
    intro hm
    have hm' : m < k0_t6_loop.trips := lt_of_lt_of_le hm (by decide)
    exact mem_trips (L := fun k => tripOS (F := F) ⟨(i 0).val, (i 0).isLt⟩ ⟨4, by decide⟩ k arg5 X5 arg11 X11 arg12 X12 arg13 X13 arg14 X14 arg15 arg16) hm
      (congrArg (fun q => q.2.1) (pb_k0_t6_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 X11 X12 X13 X14 G7 G8 G15 G16 ⟨m, hm'⟩))
      (tripOS_4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X5 X11 X12 X13 X14 h ⟨m, hm'⟩ hm _ _ _ _) (ih (by omega))

end

section

variable {x : S3x640x10240.Idx → EReal} {k : (⟨4, ![3, 640, 8, 256]⟩ : Shape).Idx → EReal} {ks : S3x5x8.Idx → EReal}
  {v : (⟨4, ![3, 640, 8, 256]⟩ : Shape).Idx → EReal} {vs : S3x5x8.Idx → EReal} {b : Fin 3} {n : Fin 5} (hks : ∀ i, 0 ≤ ks i)
  (arg5 : Memref sig .tc .smem S5x3x8 .f32) (X5 : BufTy.Contents (Elt Ideal) arg5.view.ty)
  (arg11 : Memref sig .tc .vmem S8x640x256 .fp8e4m3) (X11 : BufTy.Contents (Elt Ideal) arg11.view.ty)
  (arg12 : Memref sig .tc .vmem S8x256x640 .bf16) (X12 : BufTy.Contents (Elt Ideal) arg12.view.ty)
  (arg13 : Memref sig .tc .vmem S8x640x256 .fp8e4m3) (X13 : BufTy.Contents (Elt Ideal) arg13.view.ty)
  (arg14 : Memref sig .tc .vmem S40x128 .f32) (X14 : BufTy.Contents (Elt Ideal) arg14.view.ty)
  (arg15 : Memref sig .tc .vmem S640x640 .f32) (arg16 : Memref sig .tc .vmem S640x640 .fp8e4m3)
  (R : Reads x k ks v vs b n (arg5.view.read (Elt Ideal) X5) (arg11.view.read (Elt Ideal) X11) (arg12.view.read (Elt Ideal) X12)
    (arg13.view.read (Elt Ideal) X13) (arg14.view.read (Elt Ideal) X14))

include R hks

/-- The block of output codes after all the stores of a loop. -/
theorem outC_read (w : View sig .tc .vmem S1x128x10240 .fp8e4m3) (f : w.ty.Contents (Elt Ideal)) (L)
    (hL : ∀ p, p ∈ L ↔ ∃ kv : Fin 8, kv.val < 8 ∧ p ∈ tripOC (F := Ideal) b n kv arg5 X5 arg11 X11 arg12 X12 arg13 X13 arg14 X14 arg15 arg16) :
    w.read (Elt Ideal) (w.writes (Elt Ideal) f L) = outC x k ks v vs b n := by
  funext y
  refine View.read_writes_apply_of_pieces _ _ _ L (fun p hp z => ?_) y ?_
  · obtain ⟨kv, -, hp⟩ := (hL p).mp hp
    exact tripOC_piece hks kv arg5 X5 arg11 X11 arg12 X12 arg13 X13 arg14 X14 arg15 arg16 R p hp z
  · have y2 : (y 2).val < 10240 := (y 2).isLt
    obtain ⟨p, hp, hy⟩ := tripOC_covers (b := b) (n := n) ⟨(y 2).val / 1280, by omega⟩ arg5 X5 arg11 X11 arg12 X12 arg13 X13 arg14 X14 arg15 arg16 y rfl
    exact ⟨p, (hL p).mpr ⟨_, by show (y 2).val / 1280 < 8; omega, hp⟩, hy⟩

/-- The block of output scales after all the stores of a loop. -/
theorem outS_read (w : View sig .tc .vmem S1x80x128 .f32) (f : w.ty.Contents (Elt Ideal)) (L)
    (hL : ∀ p, p ∈ L ↔ ∃ kv : Fin 8, kv.val < 8 ∧ p ∈ tripOS (F := Ideal) b n kv arg5 X5 arg11 X11 arg12 X12 arg13 X13 arg14 X14 arg15 arg16) :
    w.read (Elt Ideal) (w.writes (Elt Ideal) f L) = outS x k ks v vs b n := by
  funext y
  refine View.read_writes_apply_of_pieces _ _ _ L (fun p hp z => ?_) y ?_
  · obtain ⟨kv, -, hp⟩ := (hL p).mp hp
    exact tripOS_piece hks kv arg5 X5 arg11 X11 arg12 X12 arg13 X13 arg14 X14 arg15 arg16 R p hp z
  · have y1 : (y 1).val < 80 := (y 1).isLt
    obtain ⟨p, hp, hy⟩ := tripOS_covers (b := b) (n := n) ⟨(y 1).val / 10, by omega⟩ arg5 X5 arg11 X11 arg12 X12 arg13 X13 arg14 X14 arg15 arg16 y rfl
    exact ⟨p, (hL p).mpr ⟨_, by show (y 1).val / 10 < 8; omega, hp⟩, hy⟩

end

end Cert.KernelIdeal.Body

end
-- ==== Proof.LoadLists.lean ====
module

public import proofs.«01_k».proof.Proof.AttendValue

/-!
# What the loop over the blocks of keys and values stores

Each trip stores a block of every key head's keys, and the block of its values scaled and transposed.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

/-- The first row of the block of trip `k` as an offset. -/
def rowAt (k : ℕ) : ℕ := (Scalar.indexCast (Scalar.muli (trip k) 128#32)).toNat

theorem rowAt_eq {k : ℕ} (hk : k < 5) : rowAt k = 128 * k :=
  (by decide +kernel : ∀ k : Fin 5, rowAt k = 128 * k) ⟨k, hk⟩
theorem tripAt_eq' {k : ℕ} (hk : k < 5) : tripAt k = k := tripAt_eq (by omega)
/-- The batch of a point as an offset. -/
def batchAt (b : ℕ) : ℕ := (Scalar.indexCast (BitVec.ofNat 32 b)).toNat
theorem batchAt_eq (b : Fin 3) : batchAt b.val = b.val := (by decide +kernel : ∀ b : Fin 3, batchAt b.val = b.val) b

section
variable {F : FTy → Type} [FloatOps F] [Named F]

/-- A head's columns of a block of keys or of values. -/
def kvblk (nb : Fin 5) (h : Fin 8) (arg : Memref sig .tc .vmem S1x640x2048 .fp8e4m3) (X : BufTy.Contents (Elt F) arg.view.ty) : Vec F S1x128x256 .fp8e4m3 :=
  View.readAt (Elt F) arg.view (Rect.unit (s := S1x640x2048) ![0, rowAt nb.val, 256 * h.val] S1x128x256.size
    (inb3 (by omega) (by rw [rowAt_eq nb.isLt]; omega) (by omega))).toLoadRect X

/-- The scale of a block of a head's values. -/
def vscale (b : Fin 3) (nb : Fin 5) (h : Fin 8) (arg6 : Memref sig .tc .smem S5x3x8 .f32) (X6 : BufTy.Contents (Elt F) arg6.view.ty) : F .f32 :=
  View.readAt (Elt F) arg6.view (Rect.unit (s := S5x3x8) ![tripAt nb.val, batchAt b.val, h.val] S1x1x1.size
    (inb3 (by rw [tripAt_eq' nb.isLt]; omega) (by rw [batchAt_eq]; omega) (by omega))).toLoadRect X6 (Shape.Idx.first (by decide : 0 < S1x1x1.numel))

/-- The stores of keys of a trip. -/
def load11 (nb : Fin 5) (arg3 : Memref sig .tc .vmem S1x640x2048 .fp8e4m3) (X3 : BufTy.Contents (Elt F) arg3.view.ty) : List (View.Piece (Elt F) S8x640x256 .fp8e4m3) :=
  downTo (fun h : Fin 8 => ⟨Rect.unit (s := S8x640x256) ![h.val, rowAt nb.val, 0] S1x128x256.size (inb3 (by omega) (by rw [rowAt_eq nb.isLt]; omega) (by omega)),
    k0_pay8 (kvblk nb h arg3 X3)⟩) 8 le_rfl

/-- The stores of values of a trip. -/
def load12 (b : Fin 3) (nb : Fin 5) (arg4 : Memref sig .tc .vmem S1x640x2048 .fp8e4m3) (X4 : BufTy.Contents (Elt F) arg4.view.ty)
    (arg6 : Memref sig .tc .smem S5x3x8 .f32) (X6 : BufTy.Contents (Elt F) arg6.view.ty) : List (View.Piece (Elt F) S8x256x640 .bf16) :=
  downTo (fun h : Fin 8 => ⟨Rect.unit (s := S8x256x640) ![h.val, 0, rowAt nb.val] S1x256x128.size (inb3 (by omega) (by omega) (by rw [rowAt_eq nb.isLt]; omega)),
    k0_pay9 (kvblk nb h arg4 X4) (vscale b nb h arg6 X6)⟩) 8 le_rfl

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)
  (X3 : BufTy.Contents (Elt F) arg3.view.ty) (X4 : BufTy.Contents (Elt F) arg4.view.ty) (X6 : BufTy.Contents (Elt F) arg6.view.ty)

theorem load11_eq (arg0 : BitVec 32) (h : k0_cond1 i = 1#1) (k : Fin k0_t1_loop.trips) (hk : k.val < 5) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X3 X4 X6 k).1
      = load11 ⟨k.val, hk⟩ arg3 X3 := by
  unfold trip_k0_t1; rfl

theorem load12_eq (h : k0_cond1 i = 1#1) (k : Fin k0_t1_loop.trips) (hk : k.val < 5) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) h X3 X4 X6 k).2.1
      = load12 ⟨(i 0).val, (i 0).isLt⟩ ⟨k.val, hk⟩ arg4 X4 arg6 X6 := by
  unfold trip_k0_t1; rfl

/-- The stores of the first `n` trips. -/
theorem load_all (arg0 : BitVec 32) (h : k0_cond1 i = 1#1) : ∀ n : ℕ, n ≤ 5 →
    (∀ p, p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X3 X4 X6 n).1
      ↔ ∃ k : Fin 5, k.val < n ∧ p ∈ load11 k arg3 X3) := by
  intro n
  induction n with
  | zero => intro _ p; simp [pb_k0_t1]
  | succ n ih =>
    intro hn p
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X3 X4 X6 ⟨n, lt_of_lt_of_le hn (by decide)⟩
    have e1 := congrArg Prod.fst e
    dsimp only at e1
    rw [e1, List.mem_append, ih (by omega), load11_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 arg0 h ⟨n, lt_of_lt_of_le hn (by decide)⟩ (by show n < 5; omega)]
    constructor
    · rintro (hp | ⟨k, hk, hp⟩)
      · exact ⟨_, Nat.lt_succ_self n, hp⟩
      · exact ⟨k, Nat.lt_succ_of_lt hk, hp⟩
    · rintro ⟨k, hk, hp⟩
      rcases Nat.lt_succ_iff_lt_or_eq.mp hk with h' | h'
      · exact .inr ⟨k, h', hp⟩
      · exact .inl ((Fin.ext h' : k = ⟨n, hn⟩) ▸ hp)

theorem load_all' (h : k0_cond1 i = 1#1) : ∀ n : ℕ, n ≤ 5 →
    (∀ p, p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) h X3 X4 X6 n).2
      ↔ ∃ k : Fin 5, k.val < n ∧ p ∈ load12 ⟨(i 0).val, (i 0).isLt⟩ k arg4 X4 arg6 X6) := by
  intro n
  induction n with
  | zero => intro _ p; simp [pb_k0_t1]
  | succ n ih =>
    intro hn p
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) h X3 X4 X6 ⟨n, lt_of_lt_of_le hn (by decide)⟩
    have e1 := congrArg Prod.snd e
    dsimp only at e1
    rw [e1, List.mem_append, ih (by omega), load12_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 h ⟨n, lt_of_lt_of_le hn (by decide)⟩ (by show n < 5; omega)]
    constructor
    · rintro (hp | ⟨k, hk, hp⟩)
      · exact ⟨_, Nat.lt_succ_self n, hp⟩
      · exact ⟨k, Nat.lt_succ_of_lt hk, hp⟩
    · rintro ⟨k, hk, hp⟩
      rcases Nat.lt_succ_iff_lt_or_eq.mp hk with h' | h'
      · exact .inr ⟨k, h', hp⟩
      · exact .inl ((Fin.ext h' : k = ⟨n, hn⟩) ▸ hp)

/-- The stores of keys that a first query block leaves. -/
theorem quantA_11 (h1 : k0_cond1 i = 1#1) (X2 : BufTy.Contents (Elt F) arg2.view.ty) (p) :
    p ∈ (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.1
      ↔ ∃ k : Fin 5, p ∈ load11 k arg3 X3 := by
  have e := load_all (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 (BitVec.ofNat 32 (i 0).val) h1 5 le_rfl p
  refine Iff.trans ?_ (e.trans ⟨fun ⟨k, _, h⟩ => ⟨k, h⟩, fun ⟨k, h⟩ => ⟨k, k.isLt, h⟩⟩)
  refine iff_of_eq (congrArg (p ∈ ·) ?_)
  unfold quantA; rfl

/-- The stores of values that a first query block leaves. -/
theorem quantA_12 (h1 : k0_cond1 i = 1#1) (X2 : BufTy.Contents (Elt F) arg2.view.ty) (p) :
    p ∈ (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.1
      ↔ ∃ k : Fin 5, p ∈ load12 ⟨(i 0).val, (i 0).isLt⟩ k arg4 X4 arg6 X6 := by
  have e := load_all' (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 h1 5 le_rfl p
  refine Iff.trans ?_ (e.trans ⟨fun ⟨k, _, h⟩ => ⟨k, h⟩, fun ⟨k, h⟩ => ⟨k, k.isLt, h⟩⟩)
  refine iff_of_eq (congrArg (p ∈ ·) ?_)
  unfold quantA; rfl

end

end Cert.KernelIdeal.Body

end
-- ==== Proof.LoadValue.lean ====
module

public import proofs.«01_k».proof.Proof.AttendValue
public import proofs.«01_k».proof.Proof.LoadLists

/-!
# What the stores of keys and values hold
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem

namespace Cert.KernelIdeal.Body
open Cert.KernelIdeal Cert.KernelIdeal.Gen Cert.Value

/-- The rows of a block of keys in the order they are stored. -/
theorem pay8_apply (v : Vec Ideal S1x128x256 .fp8e4m3) (r : Fin 128) (d : Fin 256) :
    k0_pay8 v (ix3 0 r d) = v (ix3 0 ⟨tokN r.val, tokN_lt r.isLt⟩ d) := by
  pointwise [k0_pay8]
  exact congrArg (fun u => v (ix3 0 u d)) (Fin.ext (by show _ = tokN r.val; unfold tokN; show r.val / 32 * 32 + r.val % 4 * 8 + r.val / 4 % 8 = _; omega))

/-- The rows of a block of values in the order they are stored, scaled and transposed. -/
theorem pay9_apply (v : Vec Ideal S1x128x256 .fp8e4m3) (s : EReal) (d : Fin 256) (r : Fin 128) :
    k0_pay9 v s (ix3 0 d r) = v (ix3 0 ⟨tokN r.val, tokN_lt r.isLt⟩ d) * s := by
  pointwise [k0_pay9]
  exact congrArg (fun u => v (ix3 0 u d) * s) (Fin.ext (by show _ = tokN r.val; unfold tokN; show r.val / 32 * 32 + r.val % 4 * 8 + r.val / 4 % 8 = _; omega))

/-- A batch's block of the array of keys or values, its heads side by side. -/
def KvIs (a : S1x640x2048.Idx → EReal) (k : (⟨4, ![3, 640, 8, 256]⟩ : Shape).Idx → EReal) (b : Fin 3) : Prop :=
  ∀ (u : Fin 640) (h : Fin 8) (d : Fin 256) (w : 256 * h.val + d.val < 2048), a (ix3 0 u ⟨256 * h.val + d.val, w⟩) = k (ix4 b u h d)

section
variable {k : (⟨4, ![3, 640, 8, 256]⟩ : Shape).Idx → EReal} {v : (⟨4, ![3, 640, 8, 256]⟩ : Shape).Idx → EReal} {vs : S3x5x8.Idx → EReal} {b : Fin 3}

/-- A head's columns of a block of the array of keys or values. -/
theorem kvblk_apply (nb : Fin 5) (h : Fin 8) (arg : Memref sig .tc .vmem S1x640x2048 .fp8e4m3) (X : BufTy.Contents (Elt Ideal) arg.view.ty)
    (eX : KvIs (arg.view.read (Elt Ideal) X) k b)
    (r : Fin 128) (d : Fin 256) : kvblk nb h arg X (ix3 0 r d) = k (ix4 b (tokF (128 * nb.val + r.val)) h d) := by
  have e : tokF (128 * nb.val + r.val) = ⟨128 * nb.val + r.val, by omega⟩ := Fin.ext (Nat.mod_eq_of_lt (by omega))
  rw [e, ← eX _ _ _ (by omega)]
  refine congrArg (arg.view.read (Elt Ideal) X) (unit_idx3 _ _ (inb3 (by omega) (by rw [rowAt_eq nb.isLt]; omega) (by omega)) _ _ ?_ ?_ ?_)
  · rfl
  · show 128 * nb.val + r.val = rowAt nb.val + r.val; rw [rowAt_eq nb.isLt]
  · rfl

theorem vscale_apply (nb : Fin 5) (h : Fin 8) (arg6 : Memref sig .tc .smem S5x3x8 .f32) (X6 : BufTy.Contents (Elt Ideal) arg6.view.ty)
    (eX : ∀ (j : Fin 5) (h : Fin 8), arg6.view.read (Elt Ideal) X6 (ix3 j b h) = vs (ix3 b j h)) :
    vscale b nb h arg6 X6 = vs (ix3 b nb h) := by
  rw [← eX]
  unfold vscale
  refine congrArg (arg6.view.read (Elt Ideal) X6) (unit_idx3 _ _ _ _ _ ?_ ?_ ?_)
  · show nb.val = tripAt nb.val + 0; rw [tripAt_eq' nb.isLt]; rfl
  · show b.val = batchAt b.val + 0; rw [batchAt_eq]; rfl
  · rfl

/-- Each store of keys holds the stored keys. -/
theorem load11_piece (nb : Fin 5) (arg3 : Memref sig .tc .vmem S1x640x2048 .fp8e4m3) (X3 : BufTy.Contents (Elt Ideal) arg3.view.ty)
    (e3 : KvIs (arg3.view.read (Elt Ideal) X3) k b)
    (p) (hp : p ∈ load11 (F := Ideal) nb arg3 X3) (y : p.1.shape.Idx) : p.2 y = keysB k b (p.1.emb y) := by
  obtain ⟨h, -, rfl⟩ := (mem_downTo _ _ _ _).mp hp
  revert y
  refine all_block fun r d => ?_
  refine (pay8_apply (kvblk nb h arg3 X3) r d).trans ?_
  rw [kvblk_apply nb h arg3 X3 e3]
  have hr := r.isLt
  have hn := nb.isLt
  refine Eq.trans ?_ (congrArg (keysB k b) (a₁ := ix3 h ⟨128 * nb.val + r.val, by omega⟩ d) (unit_idx3 _ _ (inb3 (by omega) (by rw [rowAt_eq nb.isLt]; omega) (by omega)) _ _ ?_ ?_ ?_).symm)
  · unfold keysB
    refine congrArg (fun u => k (ix4 b (tokF u) h d)) ?_
    show 128 * nb.val + tokN r.val = storedTok (128 * nb.val + r.val)
    unfold storedTok
    rw [show (128 * nb.val + r.val) / 128 = nb.val by omega, show (128 * nb.val + r.val) % 128 = r.val by omega]
  · rfl
  · show 128 * nb.val + r.val = rowAt nb.val + r.val; rw [rowAt_eq nb.isLt]
  · show d.val = 0 + d.val; omega

/-- Each store of values holds the stored values. -/
theorem load12_piece (nb : Fin 5) (arg4 : Memref sig .tc .vmem S1x640x2048 .fp8e4m3) (X4 : BufTy.Contents (Elt Ideal) arg4.view.ty)
    (arg6 : Memref sig .tc .smem S5x3x8 .f32) (X6 : BufTy.Contents (Elt Ideal) arg6.view.ty)
    (e4 : KvIs (arg4.view.read (Elt Ideal) X4) v b)
    (e6 : ∀ (j : Fin 5) (h : Fin 8), arg6.view.read (Elt Ideal) X6 (ix3 j b h) = vs (ix3 b j h))
    (p) (hp : p ∈ load12 (F := Ideal) b nb arg4 X4 arg6 X6) (y : p.1.shape.Idx) : p.2 y = valsB v vs b (p.1.emb y) := by
  obtain ⟨h, -, rfl⟩ := (mem_downTo _ _ _ _).mp hp
  revert y
  refine all_block fun d r => ?_
  refine (pay9_apply (kvblk nb h arg4 X4) (vscale b nb h arg6 X6) d r).trans ?_
  rw [kvblk_apply nb h arg4 X4 e4, vscale_apply nb h arg6 X6 e6]
  have hr := r.isLt
  have hn := nb.isLt
  refine Eq.trans ?_ (congrArg (valsB v vs b) (a₁ := ix3 h d ⟨128 * nb.val + r.val, by omega⟩) (unit_idx3 _ _ (inb3 (by omega) (by omega) (by rw [rowAt_eq nb.isLt]; omega)) _ _ ?_ ?_ ?_).symm)
  · unfold valsB
    have e1 : storedTok (128 * nb.val + r.val) = 128 * nb.val + tokN r.val := by
      unfold storedTok
      rw [show (128 * nb.val + r.val) / 128 = nb.val by omega, show (128 * nb.val + r.val) % 128 = r.val by omega]
    have e2 : blkF ((128 * nb.val + r.val) / 128) = nb := Fin.ext (by show (128 * nb.val + r.val) / 128 % 5 = nb.val; omega)
    exact congrArg₂ (fun u j => v (ix4 b (tokF u) h d) * vs (ix3 b j h)) e1.symm e2.symm
  · rfl
  · show d.val = 0 + d.val; omega
  · show 128 * nb.val + r.val = rowAt nb.val + r.val; rw [rowAt_eq nb.isLt]

/-- The keys after the loop's stores. -/
theorem load11_read (arg3 : Memref sig .tc .vmem S1x640x2048 .fp8e4m3) (X3 : BufTy.Contents (Elt Ideal) arg3.view.ty)
    (e3 : KvIs (arg3.view.read (Elt Ideal) X3) k b)
    (arg11 : Memref sig .tc .vmem S8x640x256 .fp8e4m3) (f) (L) (hL : ∀ p, p ∈ L ↔ ∃ nb : Fin 5, p ∈ load11 (F := Ideal) nb arg3 X3) :
    arg11.view.read (Elt Ideal) (arg11.view.writes (Elt Ideal) f L) = keysB k b := by
  funext y
  refine View.read_writes_apply_of_pieces _ _ _ L (fun p hp x => ?_) y ?_
  · obtain ⟨nb, hp⟩ := (hL p).mp hp
    exact load11_piece nb arg3 X3 e3 p hp x
  · have y0 : (y 0).val < 8 := (y 0).isLt
    have y1 : (y 1).val < 640 := (y 1).isLt
    have y2 : (y 2).val < 256 := (y 2).isLt
    have e := rowAt_eq (k := (y 1).val / 128) (by omega)
    refine ⟨_, (hL _).mpr ⟨⟨(y 1).val / 128, by omega⟩, (mem_downTo _ _ _ _).mpr ⟨y 0, y0, rfl⟩⟩, ?_⟩
    refine mem_unit3 _ _ (inb3 (by omega) (by rw [e]; omega) (by omega)) _ ?_ ?_ ?_
    · show (y 0).val ≤ (y 0).val ∧ (y 0).val < (y 0).val + 1; omega
    · show rowAt ((y 1).val / 128) ≤ (y 1).val ∧ (y 1).val < rowAt ((y 1).val / 128) + 128; rw [e]; omega
    · show 0 ≤ (y 2).val ∧ (y 2).val < 0 + 256; omega

/-- The values after the loop's stores. -/
theorem load12_read (arg4 : Memref sig .tc .vmem S1x640x2048 .fp8e4m3) (X4 : BufTy.Contents (Elt Ideal) arg4.view.ty)
    (arg6 : Memref sig .tc .smem S5x3x8 .f32) (X6 : BufTy.Contents (Elt Ideal) arg6.view.ty)
    (e4 : KvIs (arg4.view.read (Elt Ideal) X4) v b)
    (e6 : ∀ (j : Fin 5) (h : Fin 8), arg6.view.read (Elt Ideal) X6 (ix3 j b h) = vs (ix3 b j h))
    (arg12 : Memref sig .tc .vmem S8x256x640 .bf16) (f) (L) (hL : ∀ p, p ∈ L ↔ ∃ nb : Fin 5, p ∈ load12 (F := Ideal) b nb arg4 X4 arg6 X6) :
    arg12.view.read (Elt Ideal) (arg12.view.writes (Elt Ideal) f L) = valsB v vs b := by
  funext y
  refine View.read_writes_apply_of_pieces _ _ _ L (fun p hp x => ?_) y ?_
  · obtain ⟨nb, hp⟩ := (hL p).mp hp
    exact load12_piece nb arg4 X4 arg6 X6 e4 e6 p hp x
  · have y0 : (y 0).val < 8 := (y 0).isLt
    have y1 : (y 1).val < 256 := (y 1).isLt
    have y2 : (y 2).val < 640 := (y 2).isLt
    have e := rowAt_eq (k := (y 2).val / 128) (by omega)
    refine ⟨_, (hL _).mpr ⟨⟨(y 2).val / 128, by omega⟩, (mem_downTo _ _ _ _).mpr ⟨y 0, y0, rfl⟩⟩, ?_⟩
    refine mem_unit3 _ _ (inb3 (by omega) (by omega) (by rw [e]; omega)) _ ?_ ?_ ?_
    · show (y 0).val ≤ (y 0).val ∧ (y 0).val < (y 0).val + 1; omega
    · show 0 ≤ (y 1).val ∧ (y 1).val < 0 + 256; omega
    · show rowAt ((y 2).val / 128) ≤ (y 2).val ∧ (y 2).val < rowAt ((y 2).val / 128) + 128; rw [e]; omega

end

end Cert.KernelIdeal.Body

end
-- ==== Proof.BodyParts.lean ====
module

public import proofs.«01_k».proof.Proof.HeldValue
public import proofs.«01_k».proof.Proof.BranchLists
public import proofs.«01_k».proof.Proof.LoadValue

/-!
# What the parts of the body leave at a point

The first part leaves the codes and scales of the queries and what an attention trip needs; each branch leaves the
output of its query block.
-/

@[expose] public section

set_option maxRecDepth 65536
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Value

/-- The block of scales that a block of queries gives. -/
def scalesB (xb : Vec Ideal S1x128x10240 .bf16) (y : S1x40x128.Idx) : EReal := headScale xb (y 1) (y 2)

section

variable (x : S3x640x10240.Idx → EReal) (k : (⟨4, ![3, 640, 8, 256]⟩ : Shape).Idx → EReal) (ks : S3x5x8.Idx → EReal)
  (v : (⟨4, ![3, 640, 8, 256]⟩ : Shape).Idx → EReal) (vs : S3x5x8.Idx → EReal) (b : Fin 3) (n : Fin 5) (xb : Vec Ideal S1x128x10240 .bf16)

/-- What holds before the body: at a later query block, the batch's keys and values. -/
def PreQ (n : Fin 5) (arg11 : Memref sig .tc .vmem S8x640x256 .fp8e4m3) (arg12 : Memref sig .tc .vmem S8x256x640 .bf16) (f11 : BufTy.Contents (Elt Ideal) arg11.view.ty) (f12 : BufTy.Contents (Elt Ideal) arg12.view.ty) : Prop :=
  n.val ≠ 0 → arg11.view.read (Elt Ideal) f11 = keysB k b ∧ arg12.view.read (Elt Ideal) f12 = valsB v vs b

/-- What holds after the first `j` branches. -/
structure KQ (arg5 : Memref sig .tc .smem S5x3x8 .f32) (arg7 : Memref sig .tc .vmem S1x128x10240 .fp8e4m3) (arg8 : Memref sig .tc .vmem S1x80x128 .f32) (arg9 : Memref sig .tc .vmem S1x128x10240 .fp8e4m3) (arg10 : Memref sig .tc .vmem S1x40x128 .f32) (arg11 : Memref sig .tc .vmem S8x640x256 .fp8e4m3) (arg12 : Memref sig .tc .vmem S8x256x640 .bf16) (arg13 : Memref sig .tc .vmem S8x640x256 .fp8e4m3) (arg14 : Memref sig .tc .vmem S40x128 .f32) (X5 : BufTy.Contents (Elt Ideal) arg5.view.ty) (j : ℕ)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) : Prop where
  codes : arg9.view.read (Elt Ideal) f9 = codesC xb
  scales : arg10.view.read (Elt Ideal) f10 = scalesB xb
  reads : Reads x k ks v vs b n (arg5.view.read (Elt Ideal) X5) (arg11.view.read (Elt Ideal) f11) (arg12.view.read (Elt Ideal) f12) (arg13.view.read (Elt Ideal) f13) (arg14.view.read (Elt Ideal) f14)
  outs : n.val < j → arg7.view.read (Elt Ideal) f7 = outC x k ks v vs b n ∧ arg8.view.read (Elt Ideal) f8 = outS x k ks v vs b n

/-- The block of queries of a point. -/
def XbIs (xb : Vec Ideal S1x128x10240 .bf16) : Prop := ∀ (r : Fin 128) (c : Fin 10240), xb (ix3 0 r c) = x (ix3 b (tokenOf n r) c)

end

section

variable {x : S3x640x10240.Idx → EReal} {k : (⟨4, ![3, 640, 8, 256]⟩ : Shape).Idx → EReal} {ks : S3x5x8.Idx → EReal}
  {v : (⟨4, ![3, 640, 8, 256]⟩ : Shape).Idx → EReal} {vs : S3x5x8.Idx → EReal} {b : Fin 3} {n : Fin 5} {xb : Vec Ideal S1x128x10240 .bf16}

theorem headScale_of (hx : XbIs x b n xb) (h : Fin 40) (r : Fin 128) : headScale xb h r = qScale x b (tokenOf n r) h := by
  unfold headScale qScale
  simp only [hx r]

theorem headCode_of (hx : XbIs x b n xb) (h : Fin 40) (r : Fin 128) (d : Fin 256) : headCode xb h r d = qCode x b (tokenOf n r) h d := by
  unfold headCode qCode
  rw [headScale_of hx, hx r]

/-- What the first part leaves is what an attention trip needs. -/
theorem reads_of (hx : XbIs x b n xb) (a5 : S5x3x8.Idx → EReal) (a11 a13 : S8x640x256.Idx → EReal) (a12 : S8x256x640.Idx → EReal) (a14 : S40x128.Idx → EReal)
    (h5 : ∀ (j : Fin 5) (kv : Fin 8), a5 (ix3 j b kv) = ks (ix3 b j kv)) (h11 : a11 = keysB k b) (h12 : a12 = valsB v vs b)
    (h13 : ∀ y, a13 y = codesG xb y) (h14 : ∀ (h : Fin 40) (r : Fin 128), a14 (ix2 h r) = headScale xb h r * (((((Real.log 2) * 16)⁻¹ : ℝ)) : EReal)) :
    Reads x k ks v vs b n a5 a11 a12 a13 a14 where
  scales := h5
  keys := h11
  vals := h12
  codes kv h c d w w' := by
    rw [h13, ← headCode_of hx]
    unfold codesG
    have hc := c.isLt
    have e1 : (⟨kv.val * 5 + (128 * h.val + c.val) / 128, by omega⟩ : Fin 40) = ⟨5 * kv.val + h.val, w'⟩ := Fin.ext (by show kv.val * 5 + (128 * h.val + c.val) / 128 = 5 * kv.val + h.val; omega)
    have e2 : (⟨(128 * h.val + c.val) % 128, Nat.mod_lt _ (by decide)⟩ : Fin 128) = c := Fin.ext (by show (128 * h.val + c.val) % 128 = c.val; omega)
    exact congrArg₂ (fun h r => headCode xb h r d) e1 e2
  factors h c := by rw [h14, headScale_of hx]

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- What is read after the store of scales. -/
theorem scalesB_read (X2 : BufTy.Contents (Elt Ideal) arg2.view.ty) (f10 : BufTy.Contents (Elt Ideal) arg10.view.ty) :
    arg10.view.read (Elt Ideal) (arg10.view.writes (Elt Ideal) f10 [⟨Rect.unit ![0, 0, 0] S1x40x128.size inb_S1x40x128_S1x40x128_0_0_0, scales arg2 X2⟩]) = scalesB (arg2.view.read (Elt Ideal) X2) :=
  funext fun y => all_block (P := fun y => arg10.view.read (Elt Ideal) (arg10.view.writes (Elt Ideal) f10 [⟨Rect.unit ![0, 0, 0] S1x40x128.size inb_S1x40x128_S1x40x128_0_0_0, scales arg2 X2⟩]) y = scalesB (arg2.view.read (Elt Ideal) X2) y)
      (fun h r => scales_store arg2 X2 arg10.view f10 h r) y

/-- The first part of the body at a first query block. -/
theorem first_part (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (hx : XbIs x (⟨(i 0).val, (i 0).isLt⟩ : Fin 3) n (arg2.view.read (Elt Ideal) X2))
    (e5 : ∀ (j : Fin 5) (kv : Fin 8), arg5.view.read (Elt Ideal) X5 (ix3 j (⟨(i 0).val, (i 0).isLt⟩ : Fin 3) kv) = ks (ix3 (⟨(i 0).val, (i 0).isLt⟩ : Fin 3) j kv)) (e3 : KvIs (arg3.view.read (Elt Ideal) X3) k (⟨(i 0).val, (i 0).isLt⟩ : Fin 3)) (e4 : KvIs (arg4.view.read (Elt Ideal) X4) v (⟨(i 0).val, (i 0).isLt⟩ : Fin 3))
    (e6 : ∀ (j : Fin 5) (kv : Fin 8), arg6.view.read (Elt Ideal) X6 (ix3 j (⟨(i 0).val, (i 0).isLt⟩ : Fin 3) kv) = vs (ix3 (⟨(i 0).val, (i 0).isLt⟩ : Fin 3) j kv)) (h1 : k0_cond1 i = 1#1)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) : KQ x k ks v vs (⟨(i 0).val, (i 0).isLt⟩ : Fin 3) n (arg2.view.read (Elt Ideal) X2) arg5 arg7 arg8 arg9 arg10 arg11 arg12 arg13 arg14 X5 0 f7 f8 (arg9.view.writes (Elt Ideal) f9 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).1) (arg10.view.writes (Elt Ideal) f10 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.1) (arg11.view.writes (Elt Ideal) f11 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.1) (arg12.view.writes (Elt Ideal) f12 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.1) (arg13.view.writes (Elt Ideal) f13 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.1) (arg14.view.writes (Elt Ideal) f14 (quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.2.1) := by
  refine ⟨(congrArg (fun L => arg9.view.read (Elt Ideal) (arg9.view.writes (Elt Ideal) f9 L)) (quantA_9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6)).trans (funext fun y => storesC_read arg2 X2 arg13 arg9.view f9 y),
    (congrArg (fun L => arg10.view.read (Elt Ideal) (arg10.view.writes (Elt Ideal) f10 L)) (quantA_10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6)).trans (scalesB_read arg2 arg10 X2 f10),
    reads_of hx _ _ _ _ _ e5 (load11_read arg3 X3 e3 arg11 f11 _ (quantA_11 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 h1 X2)) (load12_read arg4 X4 arg6 X6 e4 e6 arg12 f12 _ (quantA_12 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X6 h1 X2))
      (fun y => (congrFun (congrArg (fun L => arg13.view.read (Elt Ideal) (arg13.view.writes (Elt Ideal) f13 L)) (quantA_13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6)) y).trans (storesQ_read arg2 X2 arg13.view f13 y))
      (fun h r => (congrFun (congrArg (fun L => arg14.view.read (Elt Ideal) (arg14.view.writes (Elt Ideal) f14 L)) (quantA_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6)) (ix2 h r)).trans (factors_store arg2 X2 arg14.view f14 h r)), fun hn => absurd hn (Nat.not_lt_zero _)⟩

/-- The first part of the body at a later query block. -/
theorem later_part (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (hx : XbIs x (⟨(i 0).val, (i 0).isLt⟩ : Fin 3) n (arg2.view.read (Elt Ideal) X2))
    (e5 : ∀ (j : Fin 5) (kv : Fin 8), arg5.view.read (Elt Ideal) X5 (ix3 j (⟨(i 0).val, (i 0).isLt⟩ : Fin 3) kv) = ks (ix3 (⟨(i 0).val, (i 0).isLt⟩ : Fin 3) j kv)) (h1 : ¬ k0_cond1 i = 1#1)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (h11 : arg11.view.read (Elt Ideal) f11 = keysB k (⟨(i 0).val, (i 0).isLt⟩ : Fin 3)) (h12 : arg12.view.read (Elt Ideal) f12 = valsB v vs (⟨(i 0).val, (i 0).isLt⟩ : Fin 3)) :
    KQ x k ks v vs (⟨(i 0).val, (i 0).isLt⟩ : Fin 3) n (arg2.view.read (Elt Ideal) X2) arg5 arg7 arg8 arg9 arg10 arg11 arg12 arg13 arg14 X5 0 f7 f8 (arg9.view.writes (Elt Ideal) f9 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).1) (arg10.view.writes (Elt Ideal) f10 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.1) f11 f12 (arg13.view.writes (Elt Ideal) f13 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.1) (arg14.view.writes (Elt Ideal) f14 (quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.2.1) := by
  refine ⟨(congrArg (fun L => arg9.view.read (Elt Ideal) (arg9.view.writes (Elt Ideal) f9 L)) (quantB_9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2)).trans (funext fun y => storesC_read arg2 X2 arg13 arg9.view f9 y),
    (congrArg (fun L => arg10.view.read (Elt Ideal) (arg10.view.writes (Elt Ideal) f10 L)) (quantB_10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2)).trans (scalesB_read arg2 arg10 X2 f10),
    reads_of hx _ _ _ _ _ e5 h11 h12
      (fun y => (congrFun (congrArg (fun L => arg13.view.read (Elt Ideal) (arg13.view.writes (Elt Ideal) f13 L)) (quantB_13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2)) y).trans (storesQ_read arg2 X2 arg13.view f13 y))
      (fun h r => (congrFun (congrArg (fun L => arg14.view.read (Elt Ideal) (arg14.view.writes (Elt Ideal) f14 L)) (quantB_14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2)) (ix2 h r)).trans (factors_store arg2 X2 arg14.view f14 h r)), fun hn => absurd hn (Nat.not_lt_zero _)⟩

/-- Branch 0 of the body. -/
theorem branch0_part (hks : ∀ i, 0 ≤ ks i) (X2 : BufTy.Contents (Elt Ideal) arg2.view.ty) (X5 : BufTy.Contents (Elt Ideal) arg5.view.ty) (arg0 : BitVec 32) (h : k0_cond2 i = 1#1) (hn : n.val = 0)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (hq : KQ x k ks v vs (⟨(i 0).val, (i 0).isLt⟩ : Fin 3) n (arg2.view.read (Elt Ideal) X2) arg5 arg7 arg8 arg9 arg10 arg11 arg12 arg13 arg14 X5 0 f7 f8 f9 f10 f11 f12 f13 f14) :
    KQ x k ks v vs (⟨(i 0).val, (i 0).isLt⟩ : Fin 3) n (arg2.view.read (Elt Ideal) X2) arg5 arg7 arg8 arg9 arg10 arg11 arg12 arg13 arg14 X5 1 (arg7.view.writes (Elt Ideal) f7 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t2_loop.trips).1) (arg8.view.writes (Elt Ideal) f8 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t2_loop.trips).2.1) f9 f10 f11 f12 f13 f14 := by
  obtain rfl : n = ⟨0, by decide⟩ := Fin.ext hn
  exact ⟨hq.codes, hq.scales, hq.reads, fun _ =>
    ⟨outC_read hks arg5 X5 arg11 f11 arg12 f12 arg13 f13 arg14 f14 arg15 arg16 hq.reads arg7.view f7 _
      (tripsOC_0 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl),
     outS_read hks arg5 X5 arg11 f11 arg12 f12 arg13 f13 arg14 f14 arg15 arg16 hq.reads arg8.view f8 _
      (tripsOS_0 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl)⟩⟩

/-- Branch 1 of the body. -/
theorem branch1_part (hks : ∀ i, 0 ≤ ks i) (X2 : BufTy.Contents (Elt Ideal) arg2.view.ty) (X5 : BufTy.Contents (Elt Ideal) arg5.view.ty) (arg0 : BitVec 32) (h : k0_cond3 i = 1#1) (hn : n.val = 1)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (hq : KQ x k ks v vs (⟨(i 0).val, (i 0).isLt⟩ : Fin 3) n (arg2.view.read (Elt Ideal) X2) arg5 arg7 arg8 arg9 arg10 arg11 arg12 arg13 arg14 X5 1 f7 f8 f9 f10 f11 f12 f13 f14) :
    KQ x k ks v vs (⟨(i 0).val, (i 0).isLt⟩ : Fin 3) n (arg2.view.read (Elt Ideal) X2) arg5 arg7 arg8 arg9 arg10 arg11 arg12 arg13 arg14 X5 2 (arg7.view.writes (Elt Ideal) f7 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t3_loop.trips).1) (arg8.view.writes (Elt Ideal) f8 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t3_loop.trips).2.1) f9 f10 f11 f12 f13 f14 := by
  obtain rfl : n = ⟨1, by decide⟩ := Fin.ext hn
  exact ⟨hq.codes, hq.scales, hq.reads, fun _ =>
    ⟨outC_read hks arg5 X5 arg11 f11 arg12 f12 arg13 f13 arg14 f14 arg15 arg16 hq.reads arg7.view f7 _
      (tripsOC_1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl),
     outS_read hks arg5 X5 arg11 f11 arg12 f12 arg13 f13 arg14 f14 arg15 arg16 hq.reads arg8.view f8 _
      (tripsOS_1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl)⟩⟩

/-- Branch 2 of the body. -/
theorem branch2_part (hks : ∀ i, 0 ≤ ks i) (X2 : BufTy.Contents (Elt Ideal) arg2.view.ty) (X5 : BufTy.Contents (Elt Ideal) arg5.view.ty) (arg0 : BitVec 32) (h : k0_cond4 i = 1#1) (hn : n.val = 2)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (hq : KQ x k ks v vs (⟨(i 0).val, (i 0).isLt⟩ : Fin 3) n (arg2.view.read (Elt Ideal) X2) arg5 arg7 arg8 arg9 arg10 arg11 arg12 arg13 arg14 X5 2 f7 f8 f9 f10 f11 f12 f13 f14) :
    KQ x k ks v vs (⟨(i 0).val, (i 0).isLt⟩ : Fin 3) n (arg2.view.read (Elt Ideal) X2) arg5 arg7 arg8 arg9 arg10 arg11 arg12 arg13 arg14 X5 3 (arg7.view.writes (Elt Ideal) f7 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t4_loop.trips).1) (arg8.view.writes (Elt Ideal) f8 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t4_loop.trips).2.1) f9 f10 f11 f12 f13 f14 := by
  obtain rfl : n = ⟨2, by decide⟩ := Fin.ext hn
  exact ⟨hq.codes, hq.scales, hq.reads, fun _ =>
    ⟨outC_read hks arg5 X5 arg11 f11 arg12 f12 arg13 f13 arg14 f14 arg15 arg16 hq.reads arg7.view f7 _
      (tripsOC_2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl),
     outS_read hks arg5 X5 arg11 f11 arg12 f12 arg13 f13 arg14 f14 arg15 arg16 hq.reads arg8.view f8 _
      (tripsOS_2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl)⟩⟩

/-- Branch 3 of the body. -/
theorem branch3_part (hks : ∀ i, 0 ≤ ks i) (X2 : BufTy.Contents (Elt Ideal) arg2.view.ty) (X5 : BufTy.Contents (Elt Ideal) arg5.view.ty) (arg0 : BitVec 32) (h : k0_cond5 i = 1#1) (hn : n.val = 3)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (hq : KQ x k ks v vs (⟨(i 0).val, (i 0).isLt⟩ : Fin 3) n (arg2.view.read (Elt Ideal) X2) arg5 arg7 arg8 arg9 arg10 arg11 arg12 arg13 arg14 X5 3 f7 f8 f9 f10 f11 f12 f13 f14) :
    KQ x k ks v vs (⟨(i 0).val, (i 0).isLt⟩ : Fin 3) n (arg2.view.read (Elt Ideal) X2) arg5 arg7 arg8 arg9 arg10 arg11 arg12 arg13 arg14 X5 4 (arg7.view.writes (Elt Ideal) f7 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t5_loop.trips).1) (arg8.view.writes (Elt Ideal) f8 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t5_loop.trips).2.1) f9 f10 f11 f12 f13 f14 := by
  obtain rfl : n = ⟨3, by decide⟩ := Fin.ext hn
  exact ⟨hq.codes, hq.scales, hq.reads, fun _ =>
    ⟨outC_read hks arg5 X5 arg11 f11 arg12 f12 arg13 f13 arg14 f14 arg15 arg16 hq.reads arg7.view f7 _
      (tripsOC_3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl),
     outS_read hks arg5 X5 arg11 f11 arg12 f12 arg13 f13 arg14 f14 arg15 arg16 hq.reads arg8.view f8 _
      (tripsOS_3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl)⟩⟩

/-- Branch 4 of the body. -/
theorem branch4_part (hks : ∀ i, 0 ≤ ks i) (X2 : BufTy.Contents (Elt Ideal) arg2.view.ty) (X5 : BufTy.Contents (Elt Ideal) arg5.view.ty) (arg0 : BitVec 32) (h : k0_cond6 i = 1#1) (hn : n.val = 4)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (hq : KQ x k ks v vs (⟨(i 0).val, (i 0).isLt⟩ : Fin 3) n (arg2.view.read (Elt Ideal) X2) arg5 arg7 arg8 arg9 arg10 arg11 arg12 arg13 arg14 X5 4 f7 f8 f9 f10 f11 f12 f13 f14) :
    KQ x k ks v vs (⟨(i 0).val, (i 0).isLt⟩ : Fin 3) n (arg2.view.read (Elt Ideal) X2) arg5 arg7 arg8 arg9 arg10 arg11 arg12 arg13 arg14 X5 5 (arg7.view.writes (Elt Ideal) f7 (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t6_loop.trips).1) (arg8.view.writes (Elt Ideal) f8 (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 h X5 f11 f12 f13 f14 f7 f8 f15 f16 k0_t6_loop.trips).2.1) f9 f10 f11 f12 f13 f14 := by
  obtain rfl : n = ⟨4, by decide⟩ := Fin.ext hn
  exact ⟨hq.codes, hq.scales, hq.reads, fun _ =>
    ⟨outC_read hks arg5 X5 arg11 f11 arg12 f12 arg13 f13 arg14 f14 arg15 arg16 hq.reads arg7.view f7 _
      (tripsOC_4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl),
     outS_read hks arg5 X5 arg11 f11 arg12 f12 arg13 f13 arg14 f14 arg15 arg16 hq.reads arg8.view f8 _
      (tripsOS_4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X5 f11 f12 f13 f14 f7 f8 f15 f16 arg0 h 8 le_rfl)⟩⟩

end

end Cert.KernelIdeal.Body

end
-- ==== Proof.BodyValue.lean ====
module

public import proofs.«01_k».proof.Proof.BodyParts

/-!
# What the body leaves at a point

From the keys and values of the batch, loaded at the batch's first point, the body leaves the codes and scales of the
queries and of the output of its query block.
-/

@[expose] public section

set_option maxRecDepth 65536
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Value

variable {x : S3x640x10240.Idx → EReal} {k : (⟨4, ![3, 640, 8, 256]⟩ : Shape).Idx → EReal} {ks : S3x5x8.Idx → EReal}
  {v : (⟨4, ![3, 640, 8, 256]⟩ : Shape).Idx → EReal} {vs : S3x5x8.Idx → EReal} {n : Fin 5}

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- A branch not taken. -/
theorem KQ.keep {b : Fin 3} {xb} {X5 : BufTy.Contents (Elt Ideal) arg5.view.ty} {j : ℕ} (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (hj : n.val ≠ j)
    (h : KQ x k ks v vs b n xb arg5 arg7 arg8 arg9 arg10 arg11 arg12 arg13 arg14 X5 j f7 f8 f9 f10 f11 f12 f13 f14) :
    KQ x k ks v vs b n xb arg5 arg7 arg8 arg9 arg10 arg11 arg12 arg13 arg14 X5 (j + 1) f7 f8 f9 f10 f11 f12 f13 f14 :=
  ⟨h.codes, h.scales, h.reads, fun hn => h.outs (by omega)⟩

/-- THE BODY at a point: the codes and scales of the queries and of the output, and the batch's keys and values kept. -/
theorem body_heldV (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (hx : XbIs x (⟨(i 0).val, (i 0).isLt⟩ : Fin 3) n (arg2.view.read (Elt Ideal) X2))
    (e5 : ∀ (j : Fin 5) (kv : Fin 8), arg5.view.read (Elt Ideal) X5 (ix3 j (⟨(i 0).val, (i 0).isLt⟩ : Fin 3) kv) = ks (ix3 (⟨(i 0).val, (i 0).isLt⟩ : Fin 3) j kv)) (e3 : KvIs (arg3.view.read (Elt Ideal) X3) k (⟨(i 0).val, (i 0).isLt⟩ : Fin 3)) (e4 : KvIs (arg4.view.read (Elt Ideal) X4) v (⟨(i 0).val, (i 0).isLt⟩ : Fin 3))
    (e6 : ∀ (j : Fin 5) (kv : Fin 8), arg6.view.read (Elt Ideal) X6 (ix3 j (⟨(i 0).val, (i 0).isLt⟩ : Fin 3) kv) = vs (ix3 (⟨(i 0).val, (i 0).isLt⟩ : Fin 3) j kv)) (hks : ∀ i, 0 ≤ ks i)
    (c1 : k0_cond1 i = 1#1 ↔ n.val = 0) (c2 : k0_cond2 i = 1#1 ↔ n.val = 0) (c3 : k0_cond3 i = 1#1 ↔ n.val = 1) (c4 : k0_cond4 i = 1#1 ↔ n.val = 2) (c5 : k0_cond5 i = 1#1 ↔ n.val = 3) (c6 : k0_cond6 i = 1#1 ↔ n.val = 4) (E : Set ℕ) :
    HeldV (F := Ideal) c arg2 arg3 arg4 arg5 arg6 arg7 arg8 arg9 arg10 arg11 arg12 arg13 arg14 arg15 arg16 X2 X3 X4 X5 X6 (fun _ _ _ _ f11 f12 _ _ => PreQ k v vs (⟨(i 0).val, (i 0).isLt⟩ : Fin 3) n arg11 arg12 f11 f12)
    ⊢ wp frame (wpE (defs₀ (F := Ideal)) 𝒱 (c : Thread nD τ) bd) E (cc0_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => HeldV (F := Ideal) c arg2 arg3 arg4 arg5 arg6 arg7 arg8 arg9 arg10 arg11 arg12 arg13 arg14 arg15 arg16 X2 X3 X4 X5 X6 (KQ x k ks v vs (⟨(i 0).val, (i 0).isLt⟩ : Fin 3) n (arg2.view.read (Elt Ideal) X2) arg5 arg7 arg8 arg9 arg10 arg11 arg12 arg13 arg14 X5 5)) := by
  rw [cc0_attn_eq_skeleton]
  unfold cc0_attn_skel
  rw [wp_bind]
  refine ((em (k0_cond1 i = 1#1)).elim
    (fun h => quant_first_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 (Q' := (KQ x k ks v vs (⟨(i 0).val, (i 0).isLt⟩ : Fin 3) n (arg2.view.read (Elt Ideal) X2) arg5 arg7 arg8 arg9 arg10 arg11 arg12 arg13 arg14 X5 0)) h E
      fun f7 f8 f9 f10 f11 f12 f13 f14 _ => first_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 hx e5 e3 e4 e6 h f7 f8 f9 f10 f11 f12 f13 f14)
    fun h => quant_later_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 (Q' := (KQ x k ks v vs (⟨(i 0).val, (i 0).isLt⟩ : Fin 3) n (arg2.view.read (Elt Ideal) X2) arg5 arg7 arg8 arg9 arg10 arg11 arg12 arg13 arg14 X5 0)) h E
      fun f7 f8 f9 f10 f11 f12 f13 f14 hq => later_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 hx e5 h f7 f8 f9 f10 f11 f12 f13 f14 (hq fun e => h (c1.mpr e)).1 (hq fun e => h (c1.mpr e)).2).trans (wp_mono _ _ _ fun r => ?_)
  obtain ⟨arg0, arg1⟩ := r
  refine wp_branch' (F := Ideal) 𝒱 c bd _ _ (R' := HeldV (F := Ideal) c arg2 arg3 arg4 arg5 arg6 arg7 arg8 arg9 arg10 arg11 arg12 arg13 arg14 arg15 arg16 X2 X3 X4 X5 X6 (KQ x k ks v vs (⟨(i 0).val, (i 0).isLt⟩ : Fin 3) n (arg2.view.read (Elt Ideal) X2) arg5 arg7 arg8 arg9 arg10 arg11 arg12 arg13 arg14 X5 1))
    (fun h => branch0_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h
      fun f7 f8 f9 f10 f11 f12 f13 f14 f15 f16 hq => branch0_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hks X2 X5 arg0 h (c2.mp h) f7 f8 f9 f10 f11 f12 f13 f14 f15 f16 hq)
    (fun h => heldV_mono (F := Ideal) c arg2 arg3 arg4 arg5 arg6 arg7 arg8 arg9 arg10 arg11 arg12 arg13 arg14 arg15 arg16 X2 X3 X4 X5 X6
      fun _ _ _ _ _ _ _ _ hq => KQ.keep _ _ _ _ _ _ _ _ _ _ _ _ _ _ _ _ _ (hj := fun e => h (c2.mpr e)) (h := hq)) ?_
  refine wp_branch' (F := Ideal) 𝒱 c bd _ _ (R' := HeldV (F := Ideal) c arg2 arg3 arg4 arg5 arg6 arg7 arg8 arg9 arg10 arg11 arg12 arg13 arg14 arg15 arg16 X2 X3 X4 X5 X6 (KQ x k ks v vs (⟨(i 0).val, (i 0).isLt⟩ : Fin 3) n (arg2.view.read (Elt Ideal) X2) arg5 arg7 arg8 arg9 arg10 arg11 arg12 arg13 arg14 X5 2))
    (fun h => branch1_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h
      fun f7 f8 f9 f10 f11 f12 f13 f14 f15 f16 hq => branch1_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hks X2 X5 arg0 h (c3.mp h) f7 f8 f9 f10 f11 f12 f13 f14 f15 f16 hq)
    (fun h => heldV_mono (F := Ideal) c arg2 arg3 arg4 arg5 arg6 arg7 arg8 arg9 arg10 arg11 arg12 arg13 arg14 arg15 arg16 X2 X3 X4 X5 X6
      fun _ _ _ _ _ _ _ _ hq => KQ.keep _ _ _ _ _ _ _ _ _ _ _ _ _ _ _ _ _ (hj := fun e => h (c3.mpr e)) (h := hq)) ?_
  refine wp_branch' (F := Ideal) 𝒱 c bd _ _ (R' := HeldV (F := Ideal) c arg2 arg3 arg4 arg5 arg6 arg7 arg8 arg9 arg10 arg11 arg12 arg13 arg14 arg15 arg16 X2 X3 X4 X5 X6 (KQ x k ks v vs (⟨(i 0).val, (i 0).isLt⟩ : Fin 3) n (arg2.view.read (Elt Ideal) X2) arg5 arg7 arg8 arg9 arg10 arg11 arg12 arg13 arg14 X5 3))
    (fun h => branch2_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h
      fun f7 f8 f9 f10 f11 f12 f13 f14 f15 f16 hq => branch2_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hks X2 X5 arg0 h (c4.mp h) f7 f8 f9 f10 f11 f12 f13 f14 f15 f16 hq)
    (fun h => heldV_mono (F := Ideal) c arg2 arg3 arg4 arg5 arg6 arg7 arg8 arg9 arg10 arg11 arg12 arg13 arg14 arg15 arg16 X2 X3 X4 X5 X6
      fun _ _ _ _ _ _ _ _ hq => KQ.keep _ _ _ _ _ _ _ _ _ _ _ _ _ _ _ _ _ (hj := fun e => h (c4.mpr e)) (h := hq)) ?_
  refine wp_branch' (F := Ideal) 𝒱 c bd _ _ (R' := HeldV (F := Ideal) c arg2 arg3 arg4 arg5 arg6 arg7 arg8 arg9 arg10 arg11 arg12 arg13 arg14 arg15 arg16 X2 X3 X4 X5 X6 (KQ x k ks v vs (⟨(i 0).val, (i 0).isLt⟩ : Fin 3) n (arg2.view.read (Elt Ideal) X2) arg5 arg7 arg8 arg9 arg10 arg11 arg12 arg13 arg14 X5 4))
    (fun h => branch3_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h
      fun f7 f8 f9 f10 f11 f12 f13 f14 f15 f16 hq => branch3_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hks X2 X5 arg0 h (c5.mp h) f7 f8 f9 f10 f11 f12 f13 f14 f15 f16 hq)
    (fun h => heldV_mono (F := Ideal) c arg2 arg3 arg4 arg5 arg6 arg7 arg8 arg9 arg10 arg11 arg12 arg13 arg14 arg15 arg16 X2 X3 X4 X5 X6
      fun _ _ _ _ _ _ _ _ hq => KQ.keep _ _ _ _ _ _ _ _ _ _ _ _ _ _ _ _ _ (hj := fun e => h (c5.mpr e)) (h := hq)) ?_
  refine wp_branch' (F := Ideal) 𝒱 c bd _ _ (R' := HeldV (F := Ideal) c arg2 arg3 arg4 arg5 arg6 arg7 arg8 arg9 arg10 arg11 arg12 arg13 arg14 arg15 arg16 X2 X3 X4 X5 X6 (KQ x k ks v vs (⟨(i 0).val, (i 0).isLt⟩ : Fin 3) n (arg2.view.read (Elt Ideal) X2) arg5 arg7 arg8 arg9 arg10 arg11 arg12 arg13 arg14 X5 5))
    (fun h => branch4_heldV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 E arg0 h
      fun f7 f8 f9 f10 f11 f12 f13 f14 f15 f16 hq => branch4_part 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 hks X2 X5 arg0 h (c6.mp h) f7 f8 f9 f10 f11 f12 f13 f14 f15 f16 hq)
    (fun h => heldV_mono (F := Ideal) c arg2 arg3 arg4 arg5 arg6 arg7 arg8 arg9 arg10 arg11 arg12 arg13 arg14 arg15 arg16 X2 X3 X4 X5 X6
      fun _ _ _ _ _ _ _ _ hq => KQ.keep _ _ _ _ _ _ _ _ _ _ _ _ _ _ _ _ _ (hj := fun e => h (c6.mpr e)) (h := hq)) ?_
  iintro H
  sl_step
  iexact H

end Cert.KernelIdeal.Body

end
-- ==== Proof.BodyIdeal.lean ====
module

public import proofs.«01_k».proof.Proof.HeldIdeal
public import proofs.«01_k».proof.Proof.QuantLists

@[expose] public section

set_option maxRecDepth 65536
set_option maxHeartbeats 40000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (i : grid0.Coords)
  (arg2 : Memref sig .tc .vmem S1x128x10240 .bf16) (harg2 : arg2.IsWhole)
  (arg3 : Memref sig .tc .vmem S1x640x2048 .fp8e4m3) (harg3 : arg3.IsWhole)
  (arg4 : Memref sig .tc .vmem S1x640x2048 .fp8e4m3) (harg4 : arg4.IsWhole)
  (arg5 : Memref sig .tc .smem S5x3x8 .f32) (harg5 : arg5.IsWhole)
  (arg6 : Memref sig .tc .smem S5x3x8 .f32) (harg6 : arg6.IsWhole)
  (arg7 : Memref sig .tc .vmem S1x128x10240 .fp8e4m3) (harg7 : arg7.IsWhole)
  (arg8 : Memref sig .tc .vmem S1x80x128 .f32) (harg8 : arg8.IsWhole)
  (arg9 : Memref sig .tc .vmem S1x128x10240 .fp8e4m3) (harg9 : arg9.IsWhole)
  (arg10 : Memref sig .tc .vmem S1x40x128 .f32) (harg10 : arg10.IsWhole)
  (arg11 : Memref sig .tc .vmem S8x640x256 .fp8e4m3) (harg11 : arg11.IsWhole)
  (arg12 : Memref sig .tc .vmem S8x256x640 .bf16) (harg12 : arg12.IsWhole)
  (arg13 : Memref sig .tc .vmem S8x640x256 .fp8e4m3) (harg13 : arg13.IsWhole)
  (arg14 : Memref sig .tc .vmem S40x128 .f32) (harg14 : arg14.IsWhole)
  (arg15 : Memref sig .tc .vmem S640x640 .f32) (harg15 : arg15.IsWhole)
  (arg16 : Memref sig .tc .vmem S640x640 .fp8e4m3) (harg16 : arg16.IsWhole)

/-- The first part of the body, at a first query block of a batch, leaves the codes and scales of the queries. -/
theorem quant_first_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop)
    (hP : ∀ f9 f10, P (arg9.view.writes (Elt F) f9 (storesC arg2 X2 arg13)) (arg10.view.writes (Elt F) f10 [⟨Rect.unit ![0, 0, 0] S1x40x128.size inb_S1x40x128_S1x40x128_0_0_0, scales arg2 X2⟩])) (h1 : k0_cond1 i = 1#1) (E : Set ℕ) :
    Held (F := F) c arg2 arg3 arg4 arg5 arg6 arg7 arg8 arg9 arg10 arg11 arg12 arg13 arg14 arg15 arg16 X2 X3 X4 X5 X6 (fun _ _ => True)
    ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, -, H9, H10⟩, ⟨%f11, H11⟩, ⟨%f12, H12⟩, ⟨%f13, H13⟩, ⟨%f14, H14⟩, ⟨%f15, H15⟩, ⟨%f16, H16⟩⟩
  iapply (wp_wand_r frame (wpE (defs₀ (F := F)) 𝒱 (c : Thread nD τ) bd) E)
  isplitr [H5 H7 H8 H15 H16]
  · iapply ((quantA 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6).2.2.2.2.2.2 E f9 f10 f11 f12 f13 f14)
    isplitl [H2]; · iexact H2
    isplitl [H3]; · iexact H3
    isplitl [H4]; · iexact H4
    isplitl [H6]; · iexact H6
    isplitl [H9]; · iexact H9
    isplitl [H10]; · iexact H10
    isplitl [H11]; · iexact H11
    isplitl [H12]; · iexact H12
    isplitl [H13]; · iexact H13
    iexact H14
  · iintro %_ ⟨H2, H3, H4, H6, H9, H10, H11, H12, H13, H14⟩
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9 H10]
    · iexists _, _
      isplitr [H9 H10]; swap
      · isplitl [H9]; · iexact H9
        iexact H10
      ipureintro
      exact (congrArg₂ (fun a b => P (arg9.view.writes (Elt F) f9 a) (arg10.view.writes (Elt F) f10 b))
        (quantA_9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6)
        (quantA_10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2 X3 X4 X6)).mpr (hP f9 f10)
    isplitl [H11]; · iexists _; iexact H11
    isplitl [H12]; · iexists _; iexact H12
    isplitl [H13]; · iexists _; iexact H13
    isplitl [H14]; · iexists _; iexact H14
    isplitl [H15]; · iexists _; iexact H15
    iexists _; iexact H16

/-- The first part of the body, at a later query block, leaves the codes and scales of the queries. -/
theorem quant_later_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop)
    (hP : ∀ f9 f10, P (arg9.view.writes (Elt F) f9 (storesC arg2 X2 arg13)) (arg10.view.writes (Elt F) f10 [⟨Rect.unit ![0, 0, 0] S1x40x128.size inb_S1x40x128_S1x40x128_0_0_0, scales arg2 X2⟩])) (h1 : ¬ k0_cond1 i = 1#1) (E : Set ℕ) :
    Held (F := F) c arg2 arg3 arg4 arg5 arg6 arg7 arg8 arg9 arg10 arg11 arg12 arg13 arg14 arg15 arg16 X2 X3 X4 X5 X6 (fun _ _ => True)
    ⊢ wp frame (wpE (defs₀ (F := F)) 𝒱 (c : Thread nD τ) bd) E (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => Held (F := F) c arg2 arg3 arg4 arg5 arg6 arg7 arg8 arg9 arg10 arg11 arg12 arg13 arg14 arg15 arg16 X2 X3 X4 X5 X6 P) := by
  iintro ⟨H2, H3, H4, H5, H6, ⟨%f7, H7⟩, ⟨%f8, H8⟩, ⟨%f9, %f10, -, H9, H10⟩, ⟨%f11, H11⟩, ⟨%f12, H12⟩, ⟨%f13, H13⟩, ⟨%f14, H14⟩, ⟨%f15, H15⟩, ⟨%f16, H16⟩⟩
  iapply (wp_wand_r frame (wpE (defs₀ (F := F)) 𝒱 (c : Thread nD τ) bd) E)
  isplitr [H3 H4 H5 H6 H7 H8 H11 H12 H15 H16]
  · iapply ((quantB 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2).2.2.2.2 E f9 f10 f13 f14)
    isplitl [H2]; · iexact H2
    isplitl [H9]; · iexact H9
    isplitl [H10]; · iexact H10
    isplitl [H13]; · iexact H13
    iexact H14
  · iintro %_ ⟨H2, H9, H10, H13, H14⟩
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9 H10]
    · iexists _, _
      isplitr [H9 H10]; swap
      · isplitl [H9]; · iexact H9
        iexact H10
      ipureintro
      exact (congrArg₂ (fun a b => P (arg9.view.writes (Elt F) f9 a) (arg10.view.writes (Elt F) f10 b))
        (quantB_9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2)
        (quantB_10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 h1 X2)).mpr (hP f9 f10)
    isplitl [H11]; · iexists _; iexact H11
    isplitl [H12]; · iexists _; iexact H12
    isplitl [H13]; · iexists _; iexact H13
    isplitl [H14]; · iexists _; iexact H14
    isplitl [H15]; · iexists _; iexact H15
    iexists _; iexact H16

/-- The whole body, at any point, leaves the codes and scales of the queries, and the other buffers held. -/
theorem body_held (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (P : BufTy.Contents (Elt F) arg9.view.ty → BufTy.Contents (Elt F) arg10.view.ty → Prop)
    (hP : ∀ f9 f10, P (arg9.view.writes (Elt F) f9 (storesC arg2 X2 arg13)) (arg10.view.writes (Elt F) f10 [⟨Rect.unit ![0, 0, 0] S1x40x128.size inb_S1x40x128_S1x40x128_0_0_0, scales arg2 X2⟩])) (E : Set ℕ) :
    Held (F := F) c arg2 arg3 arg4 arg5 arg6 arg7 arg8 arg9 arg10 arg11 arg12 arg13 arg14 arg15 arg16 X2 X3 X4 X5 X6 (fun _ _ => True)
    ⊢ wp frame (wpE (defs₀ (F := F)) 𝒱 (c : Thread nD τ) bd) E (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => Held (F := F) c arg2 arg3 arg4 arg5 arg6 arg7 arg8 arg9 arg10 arg11 arg12 arg13 arg14 arg15 arg16 X2 X3 X4 X5 X6 P) := by
  rw [cc0_attn_eq_skeleton]
  unfold cc0_attn_skel
  rw [wp_bind]
  refine ((em (k0_cond1 i = 1#1)).elim (fun h => quant_first_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P hP h E)
    fun h => quant_later_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P hP h E).trans (wp_mono _ _ _ fun r => ?_)
  obtain ⟨arg0, arg1⟩ := r
  refine wp_branch (F := F) 𝒱 c bd _ _ (fun h => branch0_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P E arg0 h) ?_
  refine wp_branch (F := F) 𝒱 c bd _ _ (fun h => branch1_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P E arg0 h) ?_
  refine wp_branch (F := F) 𝒱 c bd _ _ (fun h => branch2_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P E arg0 h) ?_
  refine wp_branch (F := F) 𝒱 c bd _ _ (fun h => branch3_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P E arg0 h) ?_
  refine wp_branch (F := F) 𝒱 c bd _ _ (fun h => branch4_held (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 P E arg0 h) ?_
  iintro H
  sl_step
  iexact H

end Cert.KernelIdeal.Body

end
-- ==== Proof.FrameIdeal.lean ====
module

public import proofs.«01_k».proof.Proof.BodyIdeal
public import proofs.«01_k».proof.Proof.QuantStores

/-!
# The run of the kernel, over the extended reals

The body at any point leaves the codes and the scales of its block of queries, and leaves the other buffers it was
given. From this the launch's own theorem gives that every run terminates, leaves the arguments unchanged and every
counter at zero, and that the arrays of codes and scales end as the blocks written back to them make them.
-/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.Value

namespace Frame

local notation "𝕄" => MT nD τ sig Unit (Elt Ideal) ℕ (UR sig nD τ) ℕ

variable (m : (ℓ : Loc nD τ sig) → Buf (Elt Ideal) ℓ) (ρ : Dev nD → PrngReg)

/-- The outputs of the attention, whose contents are not described here. -/
def fgt (w : Fin cfg0.W) : Bool := decide (5 ≤ w.val) && decide (w.val ≤ 6)

/-- The block of scales that a block of queries gives. -/
def scalesC (xb : Vec Ideal S1x128x10240 .bf16) (y : S1x40x128.Idx) : EReal := headScale xb (y 1) (y 2)

/-- The block of queries at a point. -/
abbrev xblk (c : Dev nD) (t : Fin cfg0.N) : Vec Ideal S1x128x10240 .bf16 := iblk m c 0 t

/-- The proof data of the frame: . -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => codesC (xblk m c t)
    | ⟨8, _⟩ => scalesC (xblk m c t)
  Φ _ := Pipeline.ΦA spec0 c
  q _ := fullShare
  owed _ := 0

/-- The arrays of the proof data are what the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem after7 (c : Dev nD) (t : Fin cfg0.N) : (dats m 0 c).after 7 t = codesC (xblk m c t) := by dsimp only [dats]
theorem after8 (c : Dev nD) (t : Fin cfg0.N) : (dats m 0 c).after 8 t = scalesC (xblk m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the stores of the first part leave, read back: the codes and scales of the block of queries. -/
theorem left_of (arg2 : Memref sig .tc .vmem S1x128x10240 .bf16) (X2 : BufTy.Contents (Elt Ideal) arg2.view.ty)
    (xb : Vec Ideal S1x128x10240 .bf16) (e : arg2.view.read (Elt Ideal) X2 = xb) (v : View sig .tc .vmem S1x128x10240 .fp8e4m3)
    (v' : View sig .tc .vmem S1x40x128 .f32) (arg13 : Memref sig .tc .vmem S8x640x256 .fp8e4m3)
    (f9 : v.ty.Contents (Elt Ideal)) (f10 : v'.ty.Contents (Elt Ideal)) :
    v.read (Elt Ideal) (v.writes (Elt Ideal) f9 (storesC arg2 X2 arg13)) = codesC xb
    ∧ v'.read (Elt Ideal) (v'.writes (Elt Ideal) f10 [⟨Rect.unit ![0, 0, 0] S1x40x128.size inb_S1x40x128_S1x40x128_0_0_0, scales arg2 X2⟩]) = scalesC xb := by
  subst e
  exact ⟨funext fun y => storesC_read arg2 X2 arg13 v f9 y,
    funext fun y => all_block (P := fun y => v'.read (Elt Ideal) (v'.writes (Elt Ideal) f10 [⟨Rect.unit ![0, 0, 0] S1x40x128.size inb_S1x40x128_S1x40x128_0_0_0, scales arg2 X2⟩]) y = scalesC (arg2.view.read (Elt Ideal) X2) y)
      (fun h r => scales_store arg2 X2 v' f10 h r) y⟩

/-- What the body is given at point `t`. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ d, owns (c : Thread nD τ) (st0_7 t) fullShare ((dats m 0 c).before 7 t d))
    ∗ (∃ d, owns (c : Thread nD τ) (st0_8 t) fullShare ((dats m 0 c).before 8 t d)))

/-- What the body leaves at point `t`. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ owns (c : Thread nD τ) (st0_7 t) fullShare ((dats m 0 c).after 7 t)
    ∗ owns (c : Thread nD τ) (st0_8 t) fullShare ((dats m 0 c).after 8 t))

/-- The body at any point, between the two. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after7, after8]
  unfold Pipeline.ΦA owns
  rw [scopedRest0_eq]
  simp only [← owns_whole]
  unfold owns
  iintro ⟨⟨⟨⟨%s0, %z0, %y0, S0⟩, ⟨%s1, %z1, %y1, S1⟩, ⟨%s2, %z2, %y2, S2⟩, ⟨%s3, %z3, %y3, S3⟩, ⟨%s4, %z4, %y4, S4⟩, ⟨%s5, %z5, %y5, S5⟩⟩, HP⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩⟩
  iapply (wp_wand_r frame (wpE (defs₀ (F := Ideal)) Variants.none (c : Thread nD τ) none) Set.univ)
  isplitr [HP Ho]
  · iapply (body_held (F := Ideal) Variants.none c none (grid0.coords t) _ _ _ _ _ _ _ _ _ _ _ _ _ _ _ _ _ _ _ _ _ _ _ _ _ _ _ _ _ _ g0 g1 g2 g3 g4
      (fun f9 f10 => (st0_7 t).view.read (Elt Ideal) f9 = codesC (xblk m c t) ∧ (st0_8 t).view.read (Elt Ideal) f10 = scalesC (xblk m c t))
      (left_of (st0_0 t) g0 (xblk m c t) e0 (st0_7 t).view (st0_8 t).view _) Set.univ)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7 H8]
    · iexists g7, g8
      isplitr; · ipureintro; trivial
      isplitl [H7]; · iexact H7
      iexact H8
    isplitl [S0]; · iexists _; iexact S0
    isplitl [S1]; · iexists _; iexact S1
    isplitl [S2]; · iexists _; iexact S2
    isplitl [S3]; · iexists _; iexact S3
    isplitl [S4]; · iexists _; iexact S4
    iexists _; iexact S5
  · iintro %_ ⟨H0, H1, H2, H3, H4, ⟨%k5, H5⟩, ⟨%k6, H6⟩, ⟨%k7, %k8, %hk, H7, H8⟩, ⟨%l0, S0⟩, ⟨%l1, S1⟩, ⟨%l2, S2⟩, ⟨%l3, S3⟩, ⟨%l4, S4⟩, ⟨%l5, S5⟩⟩
    isplitl [HP S0 S1 S2 S3 S4 S5]
    · isplitr [HP]
      · isplitl [S0]; · iexists _, _; isplitr; swap; · iexact S0
                        ipureintro; rfl
        isplitl [S1]; · iexists _, _; isplitr; swap; · iexact S1
                        ipureintro; rfl
        isplitl [S2]; · iexists _, _; isplitr; swap; · iexact S2
                        ipureintro; rfl
        isplitl [S3]; · iexists _, _; isplitr; swap; · iexact S3
                        ipureintro; rfl
        isplitl [S4]; · iexists _, _; isplitr; swap; · iexact S4
                        ipureintro; rfl
        iexists _, _; isplitr; swap; · iexact S5
        ipureintro; rfl
      · iexact HP
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _, _; isplitr; swap; · iexact H5
      ipureintro; rfl
    isplitl [H6]
    · iexists _, _; isplitr; swap; · iexact H6
      ipureintro; rfl
    isplitl [H7]
    · iexists _; isplitr; swap; · iexact H7
      ipureintro; exact hk.1
    iexists _; isplitr; swap; · iexact H8
    ipureintro; exact hk.2

/-- The body's row of the table is the body at the point's slots. -/
theorem row (t : Fin cfg0.N) :
    defs₀ (F := Ideal) .tc cfg0.body (cfg0.bodyArgs t (cfg0.slots t)) = bodyAt0 t := by
  unfold defs₀; rw [Defs.onTc_tc]

/-- The obligation of the launch, at every point. -/
theorem body_obligation (c : Dev nD) : BodyObligationLoose (dats m 0 c) (defs₀ (F := Ideal)) Variants.none () Set.univ fgt := fun t => by
  rw [bigSep_W0, bigSep_W0, row]
  exact triple_restated (sound_body m c t) rfl .rfl fun _ => .rfl

set_option backward.isDefEq.respectTransparency.types false in
set_option maxHeartbeats 800000 in
/-- THE RUN: the arrays as the proof data has them, and every counter at zero. -/
theorem run_main : θ_run defs (onTc (τ := τ) (main (F := Ideal))) ⟨m, fun _ => 0, ρ⟩ (fun r =>
    RDat.FramePost cfg0 (fun c => (dats m 0 c).toRForget fgt) (V m) r ∧ r.2.sem = fun _ => 0) :=
  Pipeline.θ_run_frame_forget (Q' := fun r => RDat.FramePost cfg0 (fun c => (dats m 0 c).toRForget fgt) (V m) r ∧ r.2.sem = fun _ => 0)
    cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl) (hQ' := fun _ h => h)

set_option backward.isDefEq.respectTransparency.types false in
set_option maxHeartbeats 800000 in
/-- The arguments after the run. -/
theorem args_of (r : PUnit × MemSt nD τ sig (Elt Ideal)) (h : RDat.FramePost cfg0 (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · have h0 := (h c).1 0
    rw [RDat.ArrAt_in (rd := (dats m 0 c).toRForget fgt) 0 rfl] at h0
    exact h0.trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)

/-- THE FRAME: every run terminates, leaves the argument arrays unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m r h.1, h.2⟩) (run_main m ρ)

end Frame

end Cert.KernelIdeal.Body

end
-- ==== Proof.QueryValue.lean ====
module

public import proofs.«01_k».proof.Proof.FrameIdeal
public import Idealize.ShloMosaic.Lib.Pipeline.Value
public import Idealize.ShloMosaic.Lib.Pipeline.ValueKit.Geometry

/-!
# The codes and scales of the queries, as whole arrays

The last two results of the kernel are the codes and the scales of the queries: the blocks of the grid's points make
up the arrays.
-/

@[expose] public section

set_option maxRecDepth 65536
set_option maxHeartbeats 4000000

noncomputable section

open Idealize.ShloMosaic Idealize.ShloMosaic.TcCoe Idealize.ShloMosaic.Tactic
open Idealize.SL Idealize.SL.Sem
open Idealize.ShloMosaic.Pipeline

namespace Cert.KernelIdeal.Body.Frame
open Cert.KernelIdeal Cert.KernelIdeal.Gen Cert.Value

variable (m : (ℓ : Loc nD τ sig) → Buf (Elt Ideal) ℓ) (ρ : Dev nD → PrngReg)

/-- Where the block of queries of a point lies. -/
theorem at0 : ∀ t : Fin grid0.N, win0_0.index t 0 * win0_0.size 0 = t.val / 5 ∧ win0_0.index t 1 * win0_0.size 1 = 128 * (t.val % 5)
    ∧ win0_0.index t 2 * win0_0.size 2 = 0 := by decide +kernel
/-- Where the block of codes of a point lies. -/
theorem at7 : ∀ t : Fin grid0.N, win0_7.index t 0 * win0_7.size 0 = t.val / 5 ∧ win0_7.index t 1 * win0_7.size 1 = 128 * (t.val % 5)
    ∧ win0_7.index t 2 * win0_7.size 2 = 0 := by decide +kernel
/-- Where the block of scales of a point lies. -/
theorem at8 : ∀ t : Fin grid0.N, win0_8.index t 0 * win0_8.size 0 = t.val / 5 ∧ win0_8.index t 1 * win0_8.size 1 = 0
    ∧ win0_8.index t 2 * win0_8.size 2 = 128 * (t.val % 5) := by decide +kernel

/-- The batch of a point. -/
def batch (t : Fin cfg0.N) : Fin 3 := ⟨t.val / 5, by have : t.val < 15 := t.isLt; omega⟩
/-- The token of row `r` of the block of a point. -/
def token (t : Fin cfg0.N) (r : Fin 128) : Fin 640 := ⟨128 * (t.val % 5) + r.val, by have := r.isLt; omega⟩

theorem emb0 (t : Fin cfg0.N) (r : Fin 128) (k : Fin 10240) :
    (((cfg0.win 0).blk t).view.emb (ix3 (0 : Fin 1) r k : S1x128x10240.Idx) : S3x640x10240.Idx) = ix3 (batch t) (token t r) k := by
  funext a
  refine Fin.ext ((win0_0.rect_emb_val t (ix3 (0 : Fin 1) r k : S1x128x10240.Idx) a).trans ?_)
  have h := at0 t
  match a with
  | ⟨0, _⟩ => exact congrArg (· + 0) h.1
  | ⟨1, _⟩ => exact congrArg (· + r.val) h.2.1
  | ⟨2, _⟩ => exact (congrArg (· + k.val) h.2.2).trans (Nat.zero_add _)

theorem emb7 (t : Fin cfg0.N) (r : Fin 128) (k : Fin 10240) :
    (((cfg0.win 7).blk t).view.emb (ix3 (0 : Fin 1) r k : S1x128x10240.Idx) : S3x640x10240.Idx) = ix3 (batch t) (token t r) k := by
  funext a
  refine Fin.ext ((win0_7.rect_emb_val t (ix3 (0 : Fin 1) r k : S1x128x10240.Idx) a).trans ?_)
  have h := at7 t
  match a with
  | ⟨0, _⟩ => exact congrArg (· + 0) h.1
  | ⟨1, _⟩ => exact congrArg (· + r.val) h.2.1
  | ⟨2, _⟩ => exact (congrArg (· + k.val) h.2.2).trans (Nat.zero_add _)

theorem emb8 (t : Fin cfg0.N) (h : Fin 40) (r : Fin 128) :
    (((cfg0.win 8).blk t).view.emb (ix3 (0 : Fin 1) h r : S1x40x128.Idx) : S3x40x640.Idx) = ix3 (batch t) h (token t r) := by
  funext a
  refine Fin.ext ((win0_8.rect_emb_val t (ix3 (0 : Fin 1) h r : S1x40x128.Idx) a).trans ?_)
  have e := at8 t
  match a with
  | ⟨0, _⟩ => exact congrArg (· + 0) e.1
  | ⟨1, _⟩ => exact (congrArg (· + h.val) e.2.1).trans (Nat.zero_add _)
  | ⟨2, _⟩ => exact congrArg (· + r.val) e.2.2

/-- The queries of the arguments. -/
abbrev xs (c : Dev nD) : S3x640x10240.Idx → EReal := m ((c : Thread nD τ).loc main_arg0)

theorem xblk_apply (c : Dev nD) (t : Fin cfg0.N) (r : Fin 128) (k : Fin 10240) :
    xblk m c t (ix3 0 r k) = xs m c (ix3 (batch t) (token t r) k) := by
  show V m c main_arg0 (((cfg0.win 0).blk t).view.emb (ix3 (0 : Fin 1) r k : S1x128x10240.Idx)) = _
  rw [V_main_arg0]
  exact congrArg (xs m c) (emb0 t r k)

theorem headScale_apply (c : Dev nD) (t : Fin cfg0.N) (h : Fin 40) (r : Fin 128) :
    headScale (xblk m c t) h r = qScale (xs m c) (batch t) (token t r) h := by
  unfold headScale qScale
  simp only [xblk_apply]

theorem headCode_apply (c : Dev nD) (t : Fin cfg0.N) (h : Fin 40) (r : Fin 128) (k : Fin 256) :
    headCode (xblk m c t) h r k = qCode (xs m c) (batch t) (token t r) h k := by
  unfold headCode qCode
  rw [headScale_apply, xblk_apply]

/-- THE CODES: the array of codes after the run. -/
theorem final7 (c : Dev nD) : (dats m 0 c).arrAt 7 cfg0.N = (qCodes (xs m c) : S3x640x10240.Idx → EReal) := by
  refine (dats m 0 c).arrAt_eq_of_covers 7 _ (by decide +kernel) fun t _ y => ?_
  rw [after7]
  refine all_block (P := fun y : S1x128x10240.Idx => codesC (xblk m c t) y = qCodes (xs m c) (((cfg0.win 7).blk t).view.emb y)) (fun r k => ?_) y
  rw [emb7]
  exact headCode_apply m c t ⟨k.val / 256, by omega⟩ r ⟨k.val % 256, Nat.mod_lt _ (by decide)⟩

/-- THE SCALES: the array of scales after the run. -/
theorem final8 (c : Dev nD) : (dats m 0 c).arrAt 8 cfg0.N = (qScales (xs m c) : S3x40x640.Idx → EReal) := by
  refine (dats m 0 c).arrAt_eq_of_covers 8 _ (by decide +kernel) fun t _ y => ?_
  rw [after8]
  refine all_block (P := fun y : S1x40x128.Idx => scalesC (xblk m c t) y = qScales (xs m c) (((cfg0.win 8).blk t).view.emb y)) (fun h r => ?_) y
  rw [emb8]
  exact headScale_apply m c t h r

/-- The run of the kernel: the codes and scales of the queries, the arguments unchanged. -/
theorem run : θ_run defs (onTc (τ := τ) (main (F := Ideal))) ⟨m, fun _ => 0, ρ⟩ (fun r => ∀ c : Dev nD,
      r.2.mem ((c.tc : Thread nD τ).loc main_v4_2) = qCodes (xs m c) ∧ r.2.mem ((c.tc : Thread nD τ).loc main_v4_3) = qScales (xs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(((dats m 0 c).toRForget_arrAt_iff (w := 7) rfl _ _).mp ((h.1 c).1 7)).trans (final7 m c),
      (((dats m 0 c).toRForget_arrAt_iff (w := 8) rfl _ _).mp ((h.1 c).1 8)).trans (final8 m c), args_of m r h.1 c⟩) (run_main m ρ)

end Cert.KernelIdeal.Body.Frame

end
-- ==== Proof.ArraysValue.lean ====
module

public import proofs.«01_k».proof.Proof.BodyParts
public import proofs.«01_k».proof.Proof.QueryValue

/-!
# The blocks of a point, as parts of the arguments

Each input block holds a part of an argument of the kernel.
-/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.Value

namespace Whole

open Cert.KernelIdeal.Body.Frame (xblk batch token xs emb0 xblk_apply emb7 emb8 headScale_apply headCode_apply row scalesC)

local notation "𝕄" => MT nD τ sig Unit (Elt Ideal) ℕ (UR sig nD τ) ℕ

variable (m : (ℓ : Loc nD τ sig) → Buf (Elt Ideal) ℓ) (ρ : Dev nD → PrngReg)

/-- The keys of the arguments. -/
abbrev kA (c : Dev nD) : (⟨4, ![3, 640, 8, 256]⟩ : Shape).Idx → EReal := m ((c : Thread nD τ).loc main_arg1)
/-- The scales of the keys. -/
abbrev ksA (c : Dev nD) : S3x5x8.Idx → EReal := m ((c : Thread nD τ).loc main_arg2)
/-- The values of the arguments. -/
abbrev vA (c : Dev nD) : (⟨4, ![3, 640, 8, 256]⟩ : Shape).Idx → EReal := m ((c : Thread nD τ).loc main_arg3)
/-- The scales of the values. -/
abbrev vsA (c : Dev nD) : S3x5x8.Idx → EReal := m ((c : Thread nD τ).loc main_arg4)

/-- The query block of a point. -/
def blockAt (t : Fin cfg0.N) : Fin 5 := ⟨t.val % 5, Nat.mod_lt _ (by decide)⟩

theorem token_eq (t : Fin cfg0.N) (r : Fin 128) : tokenOf (blockAt t) r = token t r := rfl

/-- Where the block of keys of a point lies. -/
theorem at1 : ∀ t : Fin grid0.N, win0_1.index t 0 * win0_1.size 0 = t.val / 5 ∧ win0_1.index t 1 * win0_1.size 1 = 0
    ∧ win0_1.index t 2 * win0_1.size 2 = 0 := by decide +kernel
/-- Where the block of values of a point lies. -/
theorem at2 : ∀ t : Fin grid0.N, win0_2.index t 0 * win0_2.size 0 = t.val / 5 ∧ win0_2.index t 1 * win0_2.size 1 = 0
    ∧ win0_2.index t 2 * win0_2.size 2 = 0 := by decide +kernel
theorem at3 : ∀ (t : Fin grid0.N) (a : Fin 3), win0_3.index t a * win0_3.size a = 0 := by decide +kernel
theorem at4 : ∀ (t : Fin grid0.N) (a : Fin 3), win0_4.index t a * win0_4.size a = 0 := by decide +kernel
/-- Where the block of output codes of a point lies. -/
theorem at5 : ∀ t : Fin grid0.N, win0_5.index t 0 * win0_5.size 0 = t.val / 5 ∧ win0_5.index t 1 * win0_5.size 1 = 128 * (t.val % 5)
    ∧ win0_5.index t 2 * win0_5.size 2 = 0 := by decide +kernel
/-- Where the block of output scales of a point lies. -/
theorem at6 : ∀ t : Fin grid0.N, win0_6.index t 0 * win0_6.size 0 = t.val / 5 ∧ win0_6.index t 1 * win0_6.size 1 = 0
    ∧ win0_6.index t 2 * win0_6.size 2 = 128 * (t.val % 5) := by decide +kernel

theorem emb1 (t : Fin cfg0.N) (u : Fin 640) (k : Fin 2048) :
    (((cfg0.win 1).blk t).view.emb (ix3 (0 : Fin 1) u k : S1x640x2048.Idx) : S3x640x2048.Idx) = ix3 (batch t) u k := by
  funext a
  refine Fin.ext ((win0_1.rect_emb_val t (ix3 (0 : Fin 1) u k : S1x640x2048.Idx) a).trans ?_)
  have h := at1 t
  match a with
  | ⟨0, _⟩ => exact congrArg (· + 0) h.1
  | ⟨1, _⟩ => exact (congrArg (· + u.val) h.2.1).trans (Nat.zero_add _)
  | ⟨2, _⟩ => exact (congrArg (· + k.val) h.2.2).trans (Nat.zero_add _)

theorem emb2 (t : Fin cfg0.N) (u : Fin 640) (k : Fin 2048) :
    (((cfg0.win 2).blk t).view.emb (ix3 (0 : Fin 1) u k : S1x640x2048.Idx) : S3x640x2048.Idx) = ix3 (batch t) u k := by
  funext a
  refine Fin.ext ((win0_2.rect_emb_val t (ix3 (0 : Fin 1) u k : S1x640x2048.Idx) a).trans ?_)
  have h := at2 t
  match a with
  | ⟨0, _⟩ => exact congrArg (· + 0) h.1
  | ⟨1, _⟩ => exact (congrArg (· + u.val) h.2.1).trans (Nat.zero_add _)
  | ⟨2, _⟩ => exact (congrArg (· + k.val) h.2.2).trans (Nat.zero_add _)

theorem emb3 (t : Fin cfg0.N) (y : S5x3x8.Idx) : (((cfg0.win 3).blk t).view.emb y : S5x3x8.Idx) = y :=
  funext fun a => Fin.ext ((win0_3.rect_emb_val t y a).trans ((congrArg (· + (y a).val) (at3 t a)).trans (Nat.zero_add _)))

theorem emb4 (t : Fin cfg0.N) (y : S5x3x8.Idx) : (((cfg0.win 4).blk t).view.emb y : S5x3x8.Idx) = y :=
  funext fun a => Fin.ext ((win0_4.rect_emb_val t y a).trans ((congrArg (· + (y a).val) (at4 t a)).trans (Nat.zero_add _)))

theorem emb5 (t : Fin cfg0.N) (r : Fin 128) (k : Fin 10240) :
    (((cfg0.win 5).blk t).view.emb (ix3 (0 : Fin 1) r k : S1x128x10240.Idx) : S3x640x10240.Idx) = ix3 (batch t) (token t r) k := by
  funext a
  refine Fin.ext ((win0_5.rect_emb_val t (ix3 (0 : Fin 1) r k : S1x128x10240.Idx) a).trans ?_)
  have h := at5 t
  match a with
  | ⟨0, _⟩ => exact congrArg (· + 0) h.1
  | ⟨1, _⟩ => exact congrArg (· + r.val) h.2.1
  | ⟨2, _⟩ => exact (congrArg (· + k.val) h.2.2).trans (Nat.zero_add _)

theorem emb6 (t : Fin cfg0.N) (h : Fin 80) (r : Fin 128) :
    (((cfg0.win 6).blk t).view.emb (ix3 (0 : Fin 1) h r : S1x80x128.Idx) : S3x80x640.Idx) = ix3 (batch t) h (token t r) := by
  funext a
  refine Fin.ext ((win0_6.rect_emb_val t (ix3 (0 : Fin 1) h r : S1x80x128.Idx) a).trans ?_)
  have e := at6 t
  match a with
  | ⟨0, _⟩ => exact congrArg (· + 0) e.1
  | ⟨1, _⟩ => exact (congrArg (· + h.val) e.2.1).trans (Nat.zero_add _)
  | ⟨2, _⟩ => exact congrArg (· + r.val) e.2.2

/-- The keys with their heads side by side. -/
theorem V_v0 (c : Dev nD) (b : Fin 3) (u : Fin 640) (h : Fin 8) (d : Fin 256) (w : 256 * h.val + d.val < 2048) :
    (V m c main_v0 : S3x640x2048.Idx → EReal) (ix3 b u ⟨256 * h.val + d.val, w⟩) = kA m c (ix4 b u h d) := by
  entry_read
  pointwise

/-- The values with their heads side by side. -/
theorem V_v1 (c : Dev nD) (b : Fin 3) (u : Fin 640) (h : Fin 8) (d : Fin 256) (w : 256 * h.val + d.val < 2048) :
    (V m c main_v1 : S3x640x2048.Idx → EReal) (ix3 b u ⟨256 * h.val + d.val, w⟩) = vA m c (ix4 b u h d) := by
  entry_read
  pointwise

/-- The scales of the keys, by block first. -/
theorem V_v2 (c : Dev nD) (b : Fin 3) (j : Fin 5) (h : Fin 8) : (V m c main_v2 : S5x3x8.Idx → EReal) (ix3 j b h) = ksA m c (ix3 b j h) := by
  entry_read
  pointwise

/-- The scales of the values, by block first. -/
theorem V_v3 (c : Dev nD) (b : Fin 3) (j : Fin 5) (h : Fin 8) : (V m c main_v3 : S5x3x8.Idx → EReal) (ix3 j b h) = vsA m c (ix3 b j h) := by
  entry_read
  pointwise

theorem kblk_is (c : Dev nD) (t : Fin cfg0.N) : KvIs (iblk m c 1 t) (kA m c) (batch t) := fun u h d w =>
  (congrArg (V m c main_v0 : S3x640x2048.Idx → EReal) (emb1 t u ⟨256 * h.val + d.val, w⟩)).trans (V_v0 m c (batch t) u h d w)
theorem vblk_is (c : Dev nD) (t : Fin cfg0.N) : KvIs (iblk m c 2 t) (vA m c) (batch t) := fun u h d w =>
  (congrArg (V m c main_v1 : S3x640x2048.Idx → EReal) (emb2 t u ⟨256 * h.val + d.val, w⟩)).trans (V_v1 m c (batch t) u h d w)
theorem ksblk_is (c : Dev nD) (t : Fin cfg0.N) (j : Fin 5) (kv : Fin 8) : (iblk m c 3 t : S5x3x8.Idx → EReal) (ix3 j (batch t) kv) = ksA m c (ix3 (batch t) j kv) :=
  (congrArg (V m c main_v2 : S5x3x8.Idx → EReal) (emb3 t _)).trans (V_v2 m c (batch t) j kv)
theorem vsblk_is (c : Dev nD) (t : Fin cfg0.N) (j : Fin 5) (kv : Fin 8) : (iblk m c 4 t : S5x3x8.Idx → EReal) (ix3 j (batch t) kv) = vsA m c (ix3 (batch t) j kv) :=
  (congrArg (V m c main_v3 : S5x3x8.Idx → EReal) (emb4 t _)).trans (V_v3 m c (batch t) j kv)
theorem xblk_is (c : Dev nD) (t : Fin cfg0.N) : XbIs (xs m c) (batch t) (blockAt t) (xblk m c t) := fun r k => xblk_apply m c t r k

/-- The batch of a point is the first coordinate of the grid there. -/
theorem batch_coord : ∀ t : Fin grid0.N, ((grid0.coords t) 0).val = t.val / 5 := by decide +kernel
theorem cond2_iff : ∀ t : Fin grid0.N, k0_cond2 (grid0.coords t) = 1#1 ↔ t.val % 5 = 0 := by decide +kernel
theorem cond3_iff : ∀ t : Fin grid0.N, k0_cond3 (grid0.coords t) = 1#1 ↔ t.val % 5 = 1 := by decide +kernel
theorem cond4_iff : ∀ t : Fin grid0.N, k0_cond4 (grid0.coords t) = 1#1 ↔ t.val % 5 = 2 := by decide +kernel
theorem cond5_iff : ∀ t : Fin grid0.N, k0_cond5 (grid0.coords t) = 1#1 ↔ t.val % 5 = 3 := by decide +kernel
theorem cond6_iff : ∀ t : Fin grid0.N, k0_cond6 (grid0.coords t) = 1#1 ↔ t.val % 5 = 4 := by decide +kernel
theorem cond1_iff : ∀ t : Fin grid0.N, k0_cond1 (grid0.coords t) = 1#1 ↔ t.val % 5 = 0 := by decide +kernel

end Whole

end Cert.KernelIdeal.Body

end
-- ==== Proof.FrameAttend.lean ====
module

public import proofs.«01_k».proof.Proof.BodyValue
public import proofs.«01_k».proof.Proof.ArraysValue

/-!
# The run of the kernel, with all its results followed

As the run before, and with the keys and values of a batch carried in scratch from its first point to its last: every
point then leaves the codes and scales of the output of its query block too.
-/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.Value

namespace Whole

open Cert.KernelIdeal.Body.Frame (xblk batch token xs emb0 xblk_apply emb7 emb8 headScale_apply headCode_apply row scalesC)

local notation "𝕄" => MT nD τ sig Unit (Elt Ideal) ℕ (UR sig nD τ) ℕ

variable (m : (ℓ : Loc nD τ sig) → Buf (Elt Ideal) ℓ) (ρ : Dev nD → PrngReg)

/-- The batch of the `j`-th point of its count. -/
def batchN (j : ℕ) : Fin 3 := ⟨j % 3, Nat.mod_lt _ (by decide)⟩

theorem batchN_eq (t : Fin cfg0.N) : batchN (t.val / 5) = batch t := by
  have h : t.val < 15 := t.isLt
  refine Fin.ext ?_
  show t.val / 5 % 3 = t.val / 5
  omega

/-- What is carried in scratch before point `j`: inside a batch, its keys and its values times their scales. -/
def carried (c : Dev nD) (j : ℕ) : sProp 𝕄 :=
  iprop(((∃ X11 X12, ⌜j % 5 ≠ 0 → X11 = keysB (kA m c) (batchN (j / 5)) ∧ X12 = valsB (vA m c) (vsA m c) (batchN (j / 5))⌝
      ∗ owns (Val := Elt Ideal) (c : Thread nD τ) (Memref.whole cc0_scratch0) fullShare X11 ∗ owns (Val := Elt Ideal) (c : Thread nD τ) (Memref.whole cc0_scratch1) fullShare X12)
    ∗ (∃ X, owns (Val := Elt Ideal) (c : Thread nD τ) (Memref.whole cc0_scratch2) fullShare X)
    ∗ (∃ X, owns (Val := Elt Ideal) (c : Thread nD τ) (Memref.whole cc0_scratch3) fullShare X)
    ∗ (∃ X, owns (Val := Elt Ideal) (c : Thread nD τ) (Memref.whole cc0_scratch4) fullShare X)
    ∗ (∃ X, owns (Val := Elt Ideal) (c : Thread nD τ) (Memref.whole cc0_scratch5) fullShare X))
    ∗ ∃ r, prngReg c r)

/-- The proof data of the run. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outC (xs m c) (kA m c) (ksA m c) (vA m c) (vsA m c) (batch t) (blockAt t)
    | ⟨6, _⟩ => outS (xs m c) (kA m c) (ksA m c) (vA m c) (vsA m c) (batch t) (blockAt t)
    | ⟨7, _⟩ => codesC (xblk m c t)
    | ⟨8, _⟩ => scalesC (xblk m c t)
  Φ t := carried m c t.val
  q _ := fullShare
  owed _ := 0

/-- The arrays of the proof data are what the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem after5 (c : Dev nD) (t : Fin cfg0.N) : (dats m 0 c).after 5 t = outC (xs m c) (kA m c) (ksA m c) (vA m c) (vsA m c) (batch t) (blockAt t) := by dsimp only [dats]
theorem after6 (c : Dev nD) (t : Fin cfg0.N) : (dats m 0 c).after 6 t = outS (xs m c) (kA m c) (ksA m c) (vA m c) (vsA m c) (batch t) (blockAt t) := by dsimp only [dats]
theorem after7 (c : Dev nD) (t : Fin cfg0.N) : (dats m 0 c).after 7 t = codesC (xblk m c t) := by dsimp only [dats]
theorem after8 (c : Dev nD) (t : Fin cfg0.N) : (dats m 0 c).after 8 t = scalesC (xblk m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is given at point `t`. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body leaves at point `t`. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- What the body leaves in the buffers at point `t`. -/
structure Left (c : Dev nD) (t : Fin cfg0.N) (a7 : S1x128x10240.Idx → EReal) (a8 : S1x80x128.Idx → EReal) (a9 : S1x128x10240.Idx → EReal)
    (a10 : S1x40x128.Idx → EReal) (a11 : S8x640x256.Idx → EReal) (a12 : S8x256x640.Idx → EReal) : Prop where
  oc : a7 = outC (xs m c) (kA m c) (ksA m c) (vA m c) (vsA m c) (batch t) (blockAt t)
  os : a8 = outS (xs m c) (kA m c) (ksA m c) (vA m c) (vsA m c) (batch t) (blockAt t)
  qc : a9 = codesC (xblk m c t)
  qs : a10 = scalesC (xblk m c t)
  keys : a11 = keysB (kA m c) (batch t)
  vals : a12 = valsB (vA m c) (vsA m c) (batch t)

/-- The body at point `t`, over the blocks of the arguments. -/
theorem body_at (hks : ∀ (c : Dev nD) i, 0 ≤ ksA m c i) (c : Dev nD) (t : Fin cfg0.N) (g0 : BufTy.Contents (Elt Ideal) (st0_0 t).view.ty) (g1 : BufTy.Contents (Elt Ideal) (st0_1 t).view.ty) (g2 : BufTy.Contents (Elt Ideal) (st0_2 t).view.ty) (g3 : BufTy.Contents (Elt Ideal) (st0_3 t).view.ty) (g4 : BufTy.Contents (Elt Ideal) (st0_4 t).view.ty) (e0 : (st0_0 t).view.read (Elt Ideal) g0 = iblk m c 0 t) (e1 : (st0_1 t).view.read (Elt Ideal) g1 = iblk m c 1 t) (e2 : (st0_2 t).view.read (Elt Ideal) g2 = iblk m c 2 t) (e3 : (st0_3 t).view.read (Elt Ideal) g3 = iblk m c 3 t) (e4 : (st0_4 t).view.read (Elt Ideal) g4 = iblk m c 4 t) :
    HeldV (F := Ideal) c (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (Memref.whole cc0_scratch4) (Memref.whole cc0_scratch5) g0 g1 g2 g3 g4
      (fun _ _ _ _ f11 f12 _ _ => PreQ (kA m c) (vA m c) (vsA m c) (batch t) (blockAt t) (Memref.whole cc0_scratch0) (Memref.whole cc0_scratch1) f11 f12)
    ⊢ wp frame (wpE (defs₀ (F := Ideal)) Variants.none (c : Thread nD τ) none) Set.univ (bodyAt0 t) (fun _ => HeldV (F := Ideal) c (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (Memref.whole cc0_scratch4) (Memref.whole cc0_scratch5) g0 g1 g2 g3 g4
      (fun f7 f8 f9 f10 f11 f12 _ _ => Left m c t ((st0_5 t).view.read (Elt Ideal) f7) ((st0_6 t).view.read (Elt Ideal) f8) ((st0_7 t).view.read (Elt Ideal) f9) ((st0_8 t).view.read (Elt Ideal) f10)
        ((Memref.whole cc0_scratch0).view.read (Elt Ideal) f11) ((Memref.whole cc0_scratch1).view.read (Elt Ideal) f12))) := by
  have hb : (⟨((grid0.coords t) 0).val, ((grid0.coords t) 0).isLt⟩ : Fin 3) = batch t := Fin.ext (batch_coord t)
  have key := body_heldV (x := xs m c) (k := kA m c) (ks := ksA m c) (v := vA m c) (vs := vsA m c) (n := blockAt t) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    g0 g1 g2 g3 g4 (by rw [hb, e0]; exact xblk_is m c t) (by rw [hb, e3]; exact ksblk_is m c t) (by rw [hb, e1]; exact kblk_is m c t) (by rw [hb, e2]; exact vblk_is m c t)
    (by rw [hb, e4]; exact vsblk_is m c t) (hks c) (cond1_iff t) (cond2_iff t) (cond3_iff t) (cond4_iff t) (cond5_iff t) (cond6_iff t) Set.univ
  rw [hb] at key
  unfold bodyAt0
  refine key.trans (wp_mono _ _ _ fun _ => heldV_mono (F := Ideal) c (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (Memref.whole cc0_scratch4) (Memref.whole cc0_scratch5) g0 g1 g2 g3 g4 fun f7 f8 f9 f10 f11 f12 f13 f14 h => ?_)
  have ho := h.outs (blockAt t).isLt
  exact ⟨ho.1, ho.2, h.codes.trans (by rw [e0]), h.scales.trans (by rw [e0]; rfl), h.reads.keys, h.reads.vals⟩

set_option maxHeartbeats 800000 in
/-- The body at any point, between the two. -/
theorem sound_body (hks : ∀ (c : Dev nD) i, 0 ≤ ksA m c i) (c : Dev nD) (t : Fin cfg0.N) :
    bodyPre m c t ⊢ wp frame (wpE (defs₀ (F := Ideal)) Variants.none c none) Set.univ (bodyAt0 t) (fun _ => bodyPost m c t) := by
  unfold bodyPre bodyPost
  simp only [before0, before1, before2, before3, before4]
  rw [show (dats m 0 c).Φ t.succ = carried m c (t.val + 1) from rfl, show (dats m 0 c).Φ t.castSucc = carried m c t.val from rfl,
    show (dats m 0 c).owesAt () t.succ = (dats m 0 c).owesAt () t.castSucc from rfl,
    after0, after1, after2, after3, after4, after5, after6, after7, after8]
  unfold carried owns
  iintro ⟨⟨⟨⟨%s0, %s1, %hc, ⟨%z0, %y0, S0⟩, ⟨%z1, %y1, S1⟩⟩, ⟨%s2, %z2, %y2, S2⟩, ⟨%s3, %z3, %y3, S3⟩, ⟨%s4, %z4, %y4, S4⟩, ⟨%s5, %z5, %y5, S5⟩⟩, HP⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩⟩
  iapply (wp_wand_r frame (wpE (defs₀ (F := Ideal)) Variants.none (c : Thread nD τ) none) Set.univ)
  isplitr [HP Ho]
  · iapply (body_at m hks c t g0 g1 g2 g3 g4 e0 e1 e2 e3 e4)
    isplitl [H0]; · iexact H0
    isplitl [H1]; · iexact H1
    isplitl [H2]; · iexact H2
    isplitl [H3]; · iexact H3
    isplitl [H4]; · iexact H4
    isplitr [S4 S5]
    · iexists g5, g6, g7, g8, z0, z1, z2, z3
      isplitr
      · ipureintro
        intro hn
        rw [y0, y1, ← batchN_eq]
        exact hc hn
      isplitl [H5]; · iexact H5
      isplitl [H6]; · iexact H6
      isplitl [H7]; · iexact H7
      isplitl [H8]; · iexact H8
      isplitl [S0]; · iexact S0
      isplitl [S1]; · iexact S1
      isplitl [S2]; · iexact S2
      iexact S3
    isplitl [S4]; · iexists _; iexact S4
    iexists _; iexact S5
  · iintro %_ ⟨H0, H1, H2, H3, H4, ⟨%k5, %k6, %k7, %k8, %l0, %l1, %l2, %l3, %hk, H5, H6, H7, H8, S0, S1, S2, S3⟩, ⟨%l4, S4⟩, ⟨%l5, S5⟩⟩
    isplitl [HP S0 S1 S2 S3 S4 S5]
    · isplitr [HP]
      · isplitl [S0 S1]
        · iexists ((Memref.whole cc0_scratch0).view.read (Elt Ideal) l0), ((Memref.whole cc0_scratch1).view.read (Elt Ideal) l1)
          isplitr
          · ipureintro
            intro hn
            have e : (t.val + 1) / 5 = t.val / 5 := by omega
            rw [e, batchN_eq]
            exact ⟨hk.keys, hk.vals⟩
          isplitl [S0]; · iexists _; isplitr; swap; · iexact S0
                          ipureintro; rfl
          iexists _; isplitr; swap; · iexact S1
          ipureintro; rfl
        isplitl [S2]; · iexists _, _; isplitr; swap; · iexact S2
                        ipureintro; rfl
        isplitl [S3]; · iexists _, _; isplitr; swap; · iexact S3
                        ipureintro; rfl
        isplitl [S4]; · iexists _, _; isplitr; swap; · iexact S4
                        ipureintro; rfl
        iexists _, _; isplitr; swap; · iexact S5
        ipureintro; rfl
      · iexact HP
    isplitl [Ho]; · iexact Ho
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact hk.oc
    isplitl [H6]
    · iexists _; isplitr; swap; · iexact H6
      ipureintro; exact hk.os
    isplitl [H7]
    · iexists _; isplitr; swap; · iexact H7
      ipureintro; exact hk.qc
    iexists _; isplitr; swap; · iexact H8
    ipureintro; exact hk.qs

/-- Every point stores a block of the output. -/
theorem never_idle : ∀ t : Fin grid0.N, (!(k0_cond2 (grid0.coords t) == 1#1) && !(k0_cond3 (grid0.coords t) == 1#1) && !(k0_cond4 (grid0.coords t) == 1#1) && !(k0_cond5 (grid0.coords t) == 1#1) && !(k0_cond6 (grid0.coords t) == 1#1)) = false := by
  decide +kernel

/-- The obligation of the launch, at every point. -/
theorem body_obligation (hks : ∀ (c : Dev nD) i, 0 ≤ ksA m c i) (c : Dev nD) : BodyObligationLoose (dats m 0 c) (defs₀ (F := Ideal)) Variants.none () Set.univ := fun t => by
  rw [bigSep_W0, bigSep_W0, row, show cfg0.idle 5 (cfg0.grid.coords t) = false from never_idle t]
  exact triple_restated (sound_body m hks c t) rfl .rfl fun _ => .rfl

/-- Before the first point nothing is known of the scratch. -/
theorem carried_first (c : Dev nD) : Pipeline.ΦA spec0 c ⊢ (dats m 0 c).Φ 0 := by
  rw [show (dats m 0 c).Φ 0 = carried m c 0 from rfl]
  unfold Pipeline.ΦA carried
  rw [scopedRest0_eq]
  simp only [← owns_whole]
  iintro ⟨⟨⟨%s0, S0⟩, ⟨%s1, S1⟩, S2, S3, S4, S5⟩, HP⟩
  isplitr [HP]
  · isplitl [S0 S1]
    · iexists s0, s1
      isplitr
      · ipureintro
        exact fun h => absurd rfl h
      isplitl [S0]; · iexact S0
      iexact S1
    isplitl [S2]; · iexact S2
    isplitl [S3]; · iexact S3
    isplitl [S4]; · iexact S4
    iexact S5
  iexact HP

/-- After the last point what is known of the scratch is forgotten. -/
theorem carried_last (c : Dev nD) : (dats m 0 c).Φ (Fin.last cfg0.N) ⊢ Pipeline.ΦA spec0 c := by
  rw [show (dats m 0 c).Φ (Fin.last cfg0.N) = carried m c 15 from rfl]
  unfold Pipeline.ΦA carried
  rw [scopedRest0_eq]
  simp only [← owns_whole]
  iintro ⟨⟨⟨%s0, %s1, %hc, S0, S1⟩, S2, S3, S4, S5⟩, HP⟩
  isplitr [HP]
  · isplitl [S0]; · iexists s0; iexact S0
    isplitl [S1]; · iexists s1; iexact S1
    isplitl [S2]; · iexact S2
    isplitl [S3]; · iexact S3
    isplitl [S4]; · iexact S4
    iexact S5
  iexact HP

set_option backward.isDefEq.respectTransparency.types false in
set_option maxHeartbeats 800000 in
/-- THE RUN: the arrays as the proof data has them, and every counter at zero. -/
theorem run_main (hks : ∀ (c : Dev nD) i, 0 ≤ ksA m c i) : θ_run defs (onTc (τ := τ) (main (F := Ideal))) ⟨m, fun _ => 0, ρ⟩ (fun r =>
    Pipeline.FramePost cfgs (dats m) (0 : Fin 1) (V m) r ∧ r.2.sem = fun _ => 0) :=
  Pipeline.θ_run_frame_track (Q' := fun r => Pipeline.FramePost cfgs (dats m) (0 : Fin 1) (V m) r ∧ r.2.sem = fun _ => 0)
    cfgs (dats m) (0 : Fin 1) launch0 defs₀ Variants.none m ρ main
    (hbody := body_obligation m hks) (hshare := fun c => (dats m 0 c).share_full fun _ => rfl)
    (howed := fun _ _ => rfl) (V := V m) (hmain := hmain m Variants.none) (hA := A_eq m) (hin := carried_first m) (hout := carried_last m) (hQ' := fun _ h => h)

/-- The array of result 1 after the run. -/
theorem final5 (c : Dev nD) : (dats m 0 c).arrAt 5 cfg0.N = (oCodes (xs m c) (kA m c) (ksA m c) (vA m c) (vsA m c) : S3x640x10240.Idx → EReal) := by
  refine (dats m 0 c).arrAt_eq_of_covers 5 _ (by decide +kernel) fun t _ y => ?_
  rw [after5]
  refine all_block (P := fun y : S1x128x10240.Idx => outC (xs m c) (kA m c) (ksA m c) (vA m c) (vsA m c) (batch t) (blockAt t) y = oCodes (xs m c) (kA m c) (ksA m c) (vA m c) (vsA m c) (((cfg0.win 5).blk t).view.emb y)) (fun r k => ?_) y
  rw [emb5]
  rfl

/-- The array of result 2 after the run. -/
theorem final6 (c : Dev nD) : (dats m 0 c).arrAt 6 cfg0.N = (oScales (xs m c) (kA m c) (ksA m c) (vA m c) (vsA m c) : S3x80x640.Idx → EReal) := by
  refine (dats m 0 c).arrAt_eq_of_covers 6 _ (by decide +kernel) fun t _ y => ?_
  rw [after6]
  refine all_block (P := fun y : S1x80x128.Idx => outS (xs m c) (kA m c) (ksA m c) (vA m c) (vsA m c) (batch t) (blockAt t) y = oScales (xs m c) (kA m c) (ksA m c) (vA m c) (vsA m c) (((cfg0.win 6).blk t).view.emb y)) (fun h r => ?_) y
  rw [emb6]
  rfl

/-- THE CODES: the array of codes after the run. -/
theorem final7 (c : Dev nD) : (dats m 0 c).arrAt 7 cfg0.N = (qCodes (xs m c) : S3x640x10240.Idx → EReal) := by
  refine (dats m 0 c).arrAt_eq_of_covers 7 _ (by decide +kernel) fun t _ y => ?_
  rw [after7]
  refine all_block (P := fun y : S1x128x10240.Idx => codesC (xblk m c t) y = qCodes (xs m c) (((cfg0.win 7).blk t).view.emb y)) (fun r k => ?_) y
  rw [emb7]
  exact Cert.KernelIdeal.Body.Frame.headCode_apply m c t ⟨k.val / 256, by omega⟩ r ⟨k.val % 256, Nat.mod_lt _ (by decide)⟩

/-- THE SCALES: the array of scales after the run. -/
theorem final8 (c : Dev nD) : (dats m 0 c).arrAt 8 cfg0.N = (qScales (xs m c) : S3x40x640.Idx → EReal) := by
  refine (dats m 0 c).arrAt_eq_of_covers 8 _ (by decide +kernel) fun t _ y => ?_
  rw [after8]
  refine all_block (P := fun y : S1x40x128.Idx => scalesC (xblk m c t) y = qScales (xs m c) (((cfg0.win 8).blk t).view.emb y)) (fun h r => ?_) y
  rw [emb8]
  exact headScale_apply m c t h r

set_option backward.isDefEq.respectTransparency.types false in
set_option maxHeartbeats 800000 in
/-- The arguments after the run. -/
theorem args_of (r : PUnit × MemSt nD τ sig (Elt Ideal)) (h : Pipeline.FramePost cfgs (dats m) (0 : Fin 1) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · have h0 := (h c).1 0
    exact h0.trans (((dats m 0 c).arrAt_in 0 rfl _).trans (V_main_arg0 m c))
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)

/-- The run of the kernel, where no scale of a key is negative: its four results, the arguments unchanged. -/
theorem runAll (hks : ∀ (c : Dev nD) i, 0 ≤ ksA m c i) : θ_run defs (onTc (τ := τ) (main (F := Ideal))) ⟨m, fun _ => 0, ρ⟩ (fun r => ∀ c : Dev nD,
      (r.2.mem ((c.tc : Thread nD τ).loc main_v4_0) = oCodes (xs m c) (kA m c) (ksA m c) (vA m c) (vsA m c) ∧ r.2.mem ((c.tc : Thread nD τ).loc main_v4_1) = oScales (xs m c) (kA m c) (ksA m c) (vA m c) (vsA m c)
      ∧ r.2.mem ((c.tc : Thread nD τ).loc main_v4_2) = qCodes (xs m c) ∧ r.2.mem ((c.tc : Thread nD τ).loc main_v4_3) = qScales (xs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨⟨((h.1 c).1 5).trans (final5 m c), ((h.1 c).1 6).trans (final6 m c), ((h.1 c).1 7).trans (final7 m c), ((h.1 c).1 8).trans (final8 m c)⟩, args_of m r h.1 c⟩) (run_main m ρ hks)

end Whole

end Cert.KernelIdeal.Body

end
-- ==== Proof.RefQuery.lean ====
module

public import proofs.«01_k».proof.Proof.QuantSpec
public import Idealize.ShloMosaic.Lib.Pipeline.Value
public import Idealize.ShloMosaic.Lib.Pipeline.ValueKit.Geometry

/-!
# The last two results of the reference

The reference's quantiser read at an index; one store each leaves the codes and the scales of the queries.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem
open Idealize.ShloMosaic.Pipeline

namespace Cert.ReferenceIdeal.Body
open Cert.ReferenceIdeal Cert.ReferenceIdeal.Gen Cert.Value

/-- The reference's table of powers of two. -/
def tab : FVec Ideal S254 .f32 :=
  exp2 (sitofp .f32 (addi (broadcast S254 4294967170#32) (shapeCast S254 (iota .tc S1x254 32 [1] iota_S1x254_d1_w32) shapeCasts_S1x254_S254)))

theorem tab_apply (k : Fin 254) : tab (ix1 k) = twoPow k := by
  rw [← exp2_pow]
  pointwise [tab]
  rfl

/-- The reference's choice among the powers of two, for the queries. -/
def sel40 (a : FVec Ideal S3x640x40 .f32) : FVec Ideal S3x640x40x254 .f32 :=
  select (cmpf .ole (broadcastTo S3x640x40x254 (shapeCast S1x1x1x254 tab shapeCasts_S254_S1x1x1x254) broadcasts_S1x1x1x254_S3x640x40x254)
      (broadcastTo S3x640x40x254 (shapeCast S3x640x40x1 (mulf a (broadcast S3x640x40 (Scalar.ofBits .f32 0x3B124925#32))) shapeCasts_S3x640x40_S3x640x40x1) broadcasts_S3x640x40x1_S3x640x40x254))
    (broadcastTo S3x640x40x254 (shapeCast S1x1x1x254 tab shapeCasts_S254_S1x1x1x254) broadcasts_S1x1x1x254_S3x640x40x254)
    (broadcast S3x640x40x254 (Scalar.ofBits .f32 0x00000000#32))

theorem sel40_apply (a : FVec Ideal S3x640x40 .f32) (b : Fin 3) (t : Fin 640) (h : Fin 40) (k : Fin 254) :
    sel40 a (ix4 b t h k) = if twoPow k ≤ a (ix3 b t h) * Ideal.ofBits .f32 0x3B124925#32 then twoPow k else 0 := by
  pointwise [sel40]
  rw [tab_apply]

/-- The largest chosen power of two. -/
def max40 (s : FVec Ideal S3x640x40x254 .f32) : FVec Ideal S3x640x40 .f32 :=
  multiReduction .maximumf [3] S3x640x40 s 0xFF800000#32 reduces_S3x640x40x254_S3x640x40 (.inl rfl) rfl

theorem max40_apply (s : FVec Ideal S3x640x40x254 .f32) (b : Fin 3) (t : Fin 640) (h : Fin 40) :
    max40 s (ix3 b t h) = Finset.univ.fold max ⊥ fun k : Fin 254 => s (ix4 b t h k) := by
  pointwise [max40]
  rw [bits_bot]

/-- The scale from the largest chosen power of two. -/
def scale40 (p : FVec Ideal S3x640x40 .f32) : FVec Ideal S3x640x40 .f32 :=
  select (cmpf .oeq p (broadcast S3x640x40 (Scalar.ofBits .f32 0x00000000#32))) (broadcast S3x640x40 (Scalar.ofBits .f32 0x3F800000#32))
    (mulf (broadcast S3x640x40 (Scalar.ofBits .f32 0x40000000#32)) p)

theorem scale40_apply (p : FVec Ideal S3x640x40 .f32) (b : Fin 3) (t : Fin 640) (h : Fin 40) :
    scale40 p (ix3 b t h) = if p (ix3 b t h) = 0 then 1 else p (ix3 b t h) * 2 := by
  pointwise [scale40]
  rw [bits_two, mul_comm]

/-- The largest magnitudes of the heads' queries. -/
def mag40 (x : FVec Ideal S3x640x40x256 .f32) : FVec Ideal S3x640x40 .f32 :=
  multiReduction .maximumf [3] S3x640x40 (absf x) 0xFF800000#32 reduces_S3x640x40x256_S3x640x40 (.inl rfl) rfl

theorem mag40_apply (x : FVec Ideal S3x640x40x256 .f32) (b : Fin 3) (t : Fin 640) (h : Fin 40) :
    mag40 x (ix3 b t h) = topMag fun d : Fin 256 => x (ix4 b t h d) := by
  pointwise [mag40]
  rw [bits_bot]; rfl

theorem pay4_apply (x : Vec Ideal S3x640x10240 .bf16) (b : Fin 3) (t : Fin 640) (h : Fin 40) (d : Fin 256) :
    k0_pay4 x (ix4 b t h d) = x (ix3 b t ⟨256 * h.val + d.val, by omega⟩) := by
  pointwise [k0_pay4]
  exact congrArg (fun e => x (ix3 b t e)) (Fin.ext (by show h.val * 256 + d.val = 256 * h.val + d.val; omega))

/-- The reference's scales of the queries. -/
theorem pay5_apply (x : Vec Ideal S3x640x10240 .bf16) (b : Fin 3) (t : Fin 640) (h : Fin 40) :
    k0_pay5 x (ix3 b t h) = scaleOf (topMag fun d : Fin 256 => x (ix3 b t ⟨256 * h.val + d.val, by omega⟩)) := by
  rw [show k0_pay5 x = scale40 (max40 (sel40 (mag40 (k0_pay4 x)))) from rfl, scale40_apply, max40_apply]
  simp only [sel40_apply, mag40_apply, pay4_apply]
  unfold scaleOf below
  rfl

/-- The inverse of a table of scales, along each group. -/
def inv40 (z : FVec Ideal S3x640x40 .f32) : FVec Ideal S3x640x40x256 .f32 :=
  broadcastTo S3x640x40x256 (shapeCast S3x640x40x1 (divf (broadcast S3x640x40 (Scalar.ofBits .f32 0x3F800000#32)) z)
    shapeCasts_S3x640x40_S3x640x40x1) broadcasts_S3x640x40x1_S3x640x40x256

theorem inv40_apply (z : FVec Ideal S3x640x40 .f32) (b : Fin 3) (t : Fin 640) (h : Fin 40) (d : Fin 256) :
    inv40 z (ix4 b t h d) = Ideal.div 1 (z (ix3 b t h)) := by
  pointwise [inv40]

/-- The codes of numbers with given scales. -/
def code40 (y : FVec Ideal S3x640x40x256 .f32) (z : FVec Ideal S3x640x40 .f32) : FVec Ideal S3x640x40x256 .fp8e4m3 :=
  truncf .fp8e4m3 (minimumf (broadcast S3x640x40x256 (Scalar.ofBits .f32 0x43E00000#32))
    (maximumf (broadcast S3x640x40x256 (Scalar.ofBits .f32 0xC3E00000#32)) (mulf y (inv40 z)))) bitsLt_fp8e4m3_f32

theorem code40_apply (y : FVec Ideal S3x640x40x256 .f32) (z : FVec Ideal S3x640x40 .f32) (b : Fin 3) (t : Fin 640) (h : Fin 40) (d : Fin 256) :
    code40 y z (ix4 b t h d) = clip (y (ix4 b t h d) * Ideal.div 1 (z (ix3 b t h))) := by
  rw [← inv40_apply]
  rfl

theorem pay6_apply (x : Vec Ideal S3x640x10240 .bf16) (b : Fin 3) (t : Fin 640) (h : Fin 40) (d : Fin 256) :
    k0_pay6 x (ix4 b t h d) = clip (k0_pay4 x (ix4 b t h d) * Ideal.div 1 (k0_pay5 x (ix3 b t h))) := by
  rw [show k0_pay6 x = code40 (k0_pay4 x) (k0_pay5 x) from by unfold k0_pay6 code40; rfl, code40_apply]

theorem pay7_apply (x : Vec Ideal S3x640x10240 .bf16) (b : Fin 3) (t : Fin 640) (h : Fin 40) (d : Fin 256) :
    k0_pay7 x (ix3 b t ⟨256 * h.val + d.val, by omega⟩) = k0_pay6 x (ix4 b t h d) := by
  unfold k0_pay7
  generalize k0_pay6 x = y
  pointwise

theorem pay8_apply (x : Vec Ideal S3x640x10240 .bf16) (b : Fin 3) (t : Fin 640) (h : Fin 40) :
    k0_pay8 x (ix3 b h t) = k0_pay5 x (ix3 b t h) := by
  unfold k0_pay8
  generalize k0_pay5 x = y
  pointwise

variable (m : (ℓ : Loc nD τ sig) → Buf (Elt Ideal) ℓ) (ρ : Dev nD → PrngReg)

/-- The queries of the arguments. -/
abbrev xs (c : Dev nD) : S3x640x10240.Idx → EReal := m ((c : Thread nD τ).loc main_arg0)

theorem at0 : ∀ (t : Fin grid0.N) (a : Fin 3), win0_0.index t a = 0 := by decide +kernel
theorem at7 : ∀ (t : Fin grid0.N) (a : Fin 3), win0_7.index t a = 0 := by decide +kernel
theorem at8 : ∀ (t : Fin grid0.N) (a : Fin 3), win0_8.index t a = 0 := by decide +kernel

theorem emb0 (t : Fin cfg0.N) (y : S3x640x10240.Idx) : (((cfg0.win 0).blk t).view.emb y : S3x640x10240.Idx) = y :=
  funext fun a => Fin.ext (win0_0.rect_emb_val_of_index_zero t a (at0 t a) y)
theorem emb7 (t : Fin cfg0.N) (y : S3x640x10240.Idx) : (((cfg0.win 7).blk t).view.emb y : S3x640x10240.Idx) = y :=
  funext fun a => Fin.ext (win0_7.rect_emb_val_of_index_zero t a (at7 t a) y)
theorem emb8 (t : Fin cfg0.N) (y : S3x40x640.Idx) : (((cfg0.win 8).blk t).view.emb y : S3x40x640.Idx) = y :=
  funext fun a => Fin.ext (win0_8.rect_emb_val_of_index_zero t a (at8 t a) y)

/-- The block of queries is the array of queries. -/
theorem xblk_eq (c : Dev nD) (t : Fin cfg0.N) : (iblk m c 0 t : S3x640x10240.Idx → EReal) = xs m c :=
  funext fun y => congrArg (xs m c) (emb0 t y)

theorem hz : (![0, 0, 0] : Fin 3 → Nat) = fun _ => 0 := funext fun a => by fin_cases a <;> rfl

/-- The stored codes. -/
theorem codes_apply (x : Vec Ideal S3x640x10240 .bf16) (y : S3x640x10240.Idx) : k0_pay7 x y = qCodes x y := by
  have y2 : (y 2).val < 10240 := (y 2).isLt
  obtain ⟨h, d, e⟩ : ∃ (h : Fin 40) (d : Fin 256), (y 2).val = 256 * h.val + d.val :=
    ⟨⟨(y 2).val / 256, by omega⟩, ⟨(y 2).val % 256, Nat.mod_lt _ (by decide)⟩, by show (y 2).val = 256 * ((y 2).val / 256) + (y 2).val % 256; omega⟩
  have e' : y = ix3 (y 0) (y 1) ⟨256 * h.val + d.val, by omega⟩ :=
    (eq_ix3 y).trans (congrArg (fun k => ix3 (y 0) (y 1) k) (Fin.ext e))
  have hq : qCodes x y = qCode x (y 0) (y 1) h d := by
    unfold qCodes
    congr 1 <;> refine Fin.ext ?_
    · show (y 2).val / 256 = h.val; omega
    · show (y 2).val % 256 = d.val; omega
  rw [hq]
  refine (congrArg (k0_pay7 x) e').trans ((pay7_apply x (y 0) (y 1) h d).trans ((pay6_apply x (y 0) (y 1) h d).trans ?_))
  rw [pay4_apply x (y 0) (y 1) h d, pay5_apply x (y 0) (y 1) h]
  rfl

/-- The stored scales. -/
theorem scales_apply (x : Vec Ideal S3x640x10240 .bf16) (y : S3x40x640.Idx) : k0_pay8 x y = qScales x y :=
  (congrArg (k0_pay8 x) (eq_ix3 y)).trans ((pay8_apply x (y 0) (y 2) (y 1)).trans (pay5_apply x (y 0) (y 2) (y 1)))

/-- THE CODES: the array of codes after the run. -/
theorem final7 (c : Dev nD) : (dats m 0 c).arrAt 7 cfg0.N = (qCodes (xs m c) : S3x640x10240.Idx → EReal) := by
  refine (dats m 0 c).arrAt_eq_of_covers 7 _ (by decide +kernel) fun t _ y => ?_
  rw [after0_7]
  unfold out0_7
  rw [View.canon_unit_zero hz, View.ld_unit_zero hz]
  refine (codes_apply _ y).trans ?_
  rw [xblk_eq]
  exact congrArg (qCodes (xs m c)) (emb7 t y).symm

/-- THE SCALES: the array of scales after the run. -/
theorem final8 (c : Dev nD) : (dats m 0 c).arrAt 8 cfg0.N = (qScales (xs m c) : S3x40x640.Idx → EReal) := by
  refine (dats m 0 c).arrAt_eq_of_covers 8 _ (by decide +kernel) fun t _ y => ?_
  rw [after0_8]
  unfold out0_8
  rw [View.canon_unit_zero hz, View.ld_unit_zero hz]
  rw [show k0_pay8 (iblk m c 0 t) = qScales (xs m c) from (funext (scales_apply (iblk m c 0 t))).trans (congrArg qScales (xblk_eq m c t))]
  exact congrArg (qScales (xs m c)) (emb8 t y).symm

/-- The codes and the scales after the run. -/
theorem results_of (r : PUnit × MemSt nD τ sig (Elt Ideal)) (h : Pipeline.FramePost cfgs (dats m) 0 (V m) r) (c : Dev nD) :
    r.2.mem ((c.tc : Thread nD τ).loc main_v0_2) = qCodes (xs m c) ∧ r.2.mem ((c.tc : Thread nD τ).loc main_v0_3) = qScales (xs m c) := by
  constructor
  · have e := (h c).1 7
    rw [final7] at e
    exact e
  · have e := (h c).1 8
    rw [final8] at e
    exact e

/-- The run of the reference: the codes and scales of the queries, the arguments unchanged. -/
theorem run : θ_run defs (onTc (τ := τ) (main (F := Ideal))) ⟨m, fun _ => 0, ρ⟩ (fun r => ∀ c : Dev nD,
      r.2.mem ((c.tc : Thread nD τ).loc main_v0_2) = qCodes (xs m c) ∧ r.2.mem ((c.tc : Thread nD τ).loc main_v0_3) = qScales (xs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨(results_of m r h.1 c).1, (results_of m r h.1 c).2, h.2 c⟩

end Cert.ReferenceIdeal.Body

end
-- ==== Proof.RefAttend.lean ====
module

public import proofs.«01_k».proof.Proof.RefQuery
public import proofs.«01_k».proof.Proof.AttendSpec

/-!
# The first two results of the reference

The reference's attention read at an index, step by step.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem
open Idealize.ShloMosaic.Pipeline

namespace Cert.ReferenceIdeal.Body
open Cert.ReferenceIdeal Cert.ReferenceIdeal.Gen Cert.Value

/-- A block's scale, for each of its tokens. -/
theorem pay9_apply (s : Vec Ideal S3x5x8 .f32) (b : Fin 3) (kv : Fin 8) (u : Fin 640) :
    k0_pay9 s (ix3 b kv u) = s (ix3 b ⟨u.val / 128, by omega⟩ kv) := by
  pointwise [k0_pay9]

/-- The products of the codes. -/
def dotQK (q : FVec Ideal S3x640x40x256 .fp8e4m3) (k : FVec Ideal S3x640x8x256 .fp8e4m3) : FVec Ideal S3x8x640x5x640 .f32 :=
  matmul dot_S3x640x8x5x256_S3x640x8x256_S3x8x640x5x640_4_3_13_1_02_02 none (shapeCast S3x640x8x5x256 q shapeCasts_S3x640x40x256_S3x640x8x5x256) k
    (constant S3x8x640x5x640 .f32 0x00000000#32)

theorem dotQK_apply (q : FVec Ideal S3x640x40x256 .fp8e4m3) (k : FVec Ideal S3x640x8x256 .fp8e4m3) (b : Fin 3) (kv : Fin 8) (t : Fin 640) (g : Fin 5) (u : Fin 640) :
    dotQK q k (ix5 b kv t g u) = ∑ d : Fin 256, q (ix4 b t ⟨kv.val * 5 + g.val, by omega⟩ d) * k (ix4 b u kv d) := by
  pointwise [dotQK]

/-- The queries' scales times the score scale. -/
def facQ (z : FVec Ideal S3x640x40 .f32) : FVec Ideal S3x8x640x5x640 .f32 :=
  broadcastTo S3x8x640x5x640 (shapeCast S3x8x640x5x1 (mulf (transpose S3x8x640x5 [0, 2, 1, 3] (shapeCast S3x640x8x5 z shapeCasts_S3x640x40_S3x640x8x5)
    transposes_S3x640x8x5_p0_2_1_3_S3x8x640x5) (broadcast S3x8x640x5 (Scalar.ofBits .f32 0x3D800000#32))) shapeCasts_S3x8x640x5_S3x8x640x5x1)
    broadcasts_S3x8x640x5x1_S3x8x640x5x640

theorem facQ_apply (z : FVec Ideal S3x640x40 .f32) (b : Fin 3) (kv : Fin 8) (t : Fin 640) (g : Fin 5) (u : Fin 640) :
    facQ z (ix5 b kv t g u) = z (ix3 b t ⟨kv.val * 5 + g.val, by omega⟩) * Ideal.ofBits .f32 0x3D800000#32 := by
  pointwise [facQ]

/-- A table of scales by token, for each query. -/
def wideK (z : FVec Ideal S3x8x640 .f32) : FVec Ideal S3x8x640x5x640 .f32 :=
  broadcastTo S3x8x640x5x640 (shapeCast S3x8x1x1x640 z shapeCasts_S3x8x640_S3x8x1x1x640) broadcasts_S3x8x1x1x640_S3x8x640x5x640

theorem wideK_apply (z : FVec Ideal S3x8x640 .f32) (b : Fin 3) (kv : Fin 8) (t : Fin 640) (g : Fin 5) (u : Fin 640) :
    wideK z (ix5 b kv t g u) = z (ix3 b kv u) := by
  pointwise [wideK]

/-- Which keys are visible to which queries. -/
def vis : IVec S3x8x640x5x640 1 :=
  broadcastTo S3x8x640x5x640 (shapeCast S1x1x640x1x640 (shapeCast S1x1x640x1x640
    (cmpi .sle (iota .tc S640x640 32 [1] iota_S640x640_d1_w32) (iota .tc S640x640 32 [0] iota_S640x640_d0_w32))
    shapeCasts_S640x640_S1x1x640x1x640) shapeCasts_S1x1x640x1x640_S1x1x640x1x640) broadcasts_S1x1x640x1x640_S3x8x640x5x640

theorem vis_apply (b : Fin 3) (kv : Fin 8) (t : Fin 640) (g : Fin 5) (u : Fin 640) :
    vis (ix5 b kv t g u) = IntOp.cmpi .sle (BitVec.ofNat 32 u.val) (BitVec.ofNat 32 t.val) := by
  pointwise [vis]

/-- The scores. -/
def scT (q : FVec Ideal S3x640x40x256 .fp8e4m3) (z : FVec Ideal S3x640x40 .f32) (ks : Vec Ideal S3x5x8 .f32)
    (k : FVec Ideal S3x640x8x256 .fp8e4m3) : FVec Ideal S3x8x640x5x640 .f32 :=
  select vis (mulf (mulf (dotQK q k) (facQ z)) (wideK (k0_pay9 ks))) (broadcast S3x8x640x5x640 (Scalar.ofBits .f32 0xFF800000#32))

theorem scT_apply (q : FVec Ideal S3x640x40x256 .fp8e4m3) (z : FVec Ideal S3x640x40 .f32) (ks : Vec Ideal S3x5x8 .f32)
    (k : FVec Ideal S3x640x8x256 .fp8e4m3) (b : Fin 3) (kv : Fin 8) (t : Fin 640) (g : Fin 5) (u : Fin 640) :
    scT q z ks k (ix5 b kv t g u) = if u.val ≤ t.val then
      (∑ d : Fin 256, q (ix4 b t ⟨kv.val * 5 + g.val, by omega⟩ d) * k (ix4 b u kv d))
        * (z (ix3 b t ⟨kv.val * 5 + g.val, by omega⟩) * Ideal.ofBits .f32 0x3D800000#32) * ks (ix3 b ⟨u.val / 128, by omega⟩ kv) else ⊥ := by
  rw [← dotQK_apply, ← facQ_apply z b kv t g u, ← pay9_apply ks b kv u, ← wideK_apply (k0_pay9 ks) b kv t g u, ← bits_bot, ← select_le u.val t.val u.isLt t.isLt, ← vis_apply b kv t g u]
  rfl

/-- The largest entry of each row, along the row. -/
def maxT (s : FVec Ideal S3x8x640x5x640 .f32) : FVec Ideal S3x8x640x5x640 .f32 :=
  broadcastTo S3x8x640x5x640 (shapeCast S3x8x640x5x1 (multiReduction .maximumf [4] S3x8x640x5 s 0xFF800000#32
    reduces_S3x8x640x5x640_S3x8x640x5 (.inl rfl) rfl) shapeCasts_S3x8x640x5_S3x8x640x5x1) broadcasts_S3x8x640x5x1_S3x8x640x5x640

theorem maxT_apply (s : FVec Ideal S3x8x640x5x640 .f32) (b : Fin 3) (kv : Fin 8) (t : Fin 640) (g : Fin 5) (u : Fin 640) :
    maxT s (ix5 b kv t g u) = Finset.univ.fold max ⊥ fun w : Fin 640 => s (ix5 b kv t g w) := by
  pointwise [maxT]
  rw [bits_bot]

/-- The sum of each row. -/
def sumT (p : FVec Ideal S3x8x640x5x640 .f32) : FVec Ideal S3x8x640x5 .f32 :=
  multiReduction .add [4] S3x8x640x5 p 0x00000000#32 reduces_S3x8x640x5x640_S3x8x640x5 (.inl rfl) rfl

theorem sumT_apply (p : FVec Ideal S3x8x640x5x640 .f32) (b : Fin 3) (kv : Fin 8) (t : Fin 640) (g : Fin 5) :
    sumT p (ix4 b kv t g) = ∑ w : Fin 640, p (ix5 b kv t g w) := by
  pointwise [sumT]

/-- The codes of the weights, times the values' scales. -/
def codeT (p : FVec Ideal S3x8x640x5x640 .f32) (vc : FVec Ideal S3x8x640 .f32) : FVec Ideal S3x8x640x5x640 .bf16 :=
  truncf .bf16 (mulf (extf .f32 (truncf .fp8e4m3 (minimumf (broadcast S3x8x640x5x640 (Scalar.ofBits .f32 0x43E00000#32))
    (maximumf (broadcast S3x8x640x5x640 (Scalar.ofBits .f32 0xC3E00000#32)) (mulf p (broadcast S3x8x640x5x640 (Scalar.ofBits .f32 0x43800000#32)))))
      bitsLt_fp8e4m3_f32) bitsLt_fp8e4m3_f32) (wideK vc)) bitsLt_bf16_f32

theorem codeT_apply (p : FVec Ideal S3x8x640x5x640 .f32) (vc : FVec Ideal S3x8x640 .f32) (b : Fin 3) (kv : Fin 8) (t : Fin 640) (g : Fin 5) (u : Fin 640) :
    codeT p vc (ix5 b kv t g u) = clip (p (ix5 b kv t g u) * Ideal.ofBits .f32 0x43800000#32) * vc (ix3 b kv u) := by
  rw [← wideK_apply vc b kv t g u]
  rfl

/-- The weighted sums of values. -/
def dotPV (p : FVec Ideal S3x8x640x5x640 .bf16) (v : FVec Ideal S3x640x8x256 .bf16) : FVec Ideal S3x8x640x5x256 .f32 :=
  matmul dot_S3x8x640x5x640_S3x640x8x256_S3x8x640x5x256_4_1_23_3_01_02 none p v (constant S3x8x640x5x256 .f32 0x00000000#32)

theorem dotPV_apply (p : FVec Ideal S3x8x640x5x640 .bf16) (v : FVec Ideal S3x640x8x256 .bf16) (b : Fin 3) (kv : Fin 8) (t : Fin 640) (g : Fin 5) (d : Fin 256) :
    dotPV p v (ix5 b kv t g d) = ∑ u : Fin 640, p (ix5 b kv t g u) * v (ix4 b u kv d) := by
  pointwise [dotPV]

/-- The inverses of the sums, along the columns. -/
def invT (l : FVec Ideal S3x8x640x5 .f32) : FVec Ideal S3x8x640x5x256 .f32 :=
  broadcastTo S3x8x640x5x256 (shapeCast S3x8x640x5x1 (divf (broadcast S3x8x640x5 (Scalar.ofBits .f32 0x3F800000#32))
    (mulf (broadcast S3x8x640x5 (Scalar.ofBits .f32 0x43800000#32)) l)) shapeCasts_S3x8x640x5_S3x8x640x5x1) broadcasts_S3x8x640x5x1_S3x8x640x5x256

theorem invT_apply (l : FVec Ideal S3x8x640x5 .f32) (b : Fin 3) (kv : Fin 8) (t : Fin 640) (g : Fin 5) (d : Fin 256) :
    invT l (ix5 b kv t g d) = Ideal.div 1 (Ideal.ofBits .f32 0x43800000#32 * l (ix4 b kv t g)) := by
  pointwise [invT]

/-- The output by tokens and groups of columns. -/
def outT (o : FVec Ideal S3x8x640x5x256 .f32) : FVec Ideal S3x640x80x128 .f32 :=
  shapeCast S3x640x80x128 (transpose S3x640x8x5x256 [0, 2, 1, 3, 4] o transposes_S3x8x640x5x256_p0_2_1_3_4_S3x640x8x5x256)
    shapeCasts_S3x640x8x5x256_S3x640x80x128

theorem outT_apply (o : FVec Ideal S3x8x640x5x256 .f32) (b : Fin 3) (t : Fin 640) (c : Fin 80) (e : Fin 128) :
    outT o (ix4 b t c e) = o (ix5 b ⟨c.val / 10, by omega⟩ t ⟨c.val / 2 % 5, by omega⟩ ⟨128 * (c.val % 2) + e.val, by omega⟩) := by
  unfold outT
  pointwise
  exact congrArg (fun d => o (ix5 b _ t _ d)) (Fin.ext (by show c.val % 2 * 128 + e.val = 128 * (c.val % 2) + e.val; omega))

theorem pay12_eq (vc : FVec Ideal S3x8x640 .f32) (v : FVec Ideal S3x640x8x256 .bf16) (y : FVec Ideal S3x8x640x5x640 .f32) :
    k0_pay12 vc v y = outT (mulf (dotPV (codeT (exp y) vc) v) (invT (sumT (exp y)))) := by
  unfold k0_pay12; rfl

theorem pay11_eq (z : FVec Ideal S3x640x40 .f32) (q : FVec Ideal S3x640x40x256 .fp8e4m3) (ks : Vec Ideal S3x5x8 .f32) (k : Vec Ideal S3x640x8x256 .fp8e4m3) :
    k0_pay11 z q ks k = subf (scT q z ks k) (maxT (scT q z ks k)) := by
  unfold k0_pay11; rfl

section Output

variable (x : Vec Ideal S3x640x10240 .bf16) (k : Vec Ideal S3x640x8x256 .fp8e4m3) (ks : Vec Ideal S3x5x8 .f32)
  (v : Vec Ideal S3x640x8x256 .fp8e4m3) (vs : Vec Ideal S3x5x8 .f32)

/-- The scores less the largest. -/
abbrev lessT : FVec Ideal S3x8x640x5x640 .f32 := k0_pay11 (k0_pay5 x) (k0_pay6 x) ks k

/-- A query head by its key head and its place in the group. -/
def headF (kv : Fin 8) (g : Fin 5) : Fin 40 := ⟨kv.val * 5 + g.val, by omega⟩

theorem kvOf_headF (kv : Fin 8) (g : Fin 5) : kvOf (headF kv g) = kv := Fin.ext (by show (kv.val * 5 + g.val) / 5 = kv.val; omega)

theorem pay5_scale (b : Fin 3) (t : Fin 640) (h : Fin 40) : k0_pay5 x (ix3 b t h) = qScale x b t h := pay5_apply x b t h

theorem pay6_code (b : Fin 3) (t : Fin 640) (h : Fin 40) (d : Fin 256) : k0_pay6 x (ix4 b t h d) = qCode x b t h d := by
  rw [pay6_apply, pay4_apply, pay5_scale]; rfl

theorem score_eq (b : Fin 3) (kv : Fin 8) (t : Fin 640) (g : Fin 5) (u : Fin 640) :
    scT (k0_pay6 x) (k0_pay5 x) ks k (ix5 b kv t g u)
      = sc t.val (rawOf x k b t (headF kv g)) (fun w => scaleAt ks b (headF kv g) (w / 128)) (qScale x b t (headF kv g)) u.val := by
  rw [scT_apply]
  unfold sc rawOf scaleAt
  rw [kvOf_headF, pay5_scale]
  simp only [pay6_code, tokF_val]
  have e : blkF (u.val / 128) = ⟨u.val / 128, by omega⟩ := Fin.ext (Nat.mod_eq_of_lt (by omega))
  rw [e]
  simp only [mul_comm (k _)]
  rfl

theorem less_eq (b : Fin 3) (kv : Fin 8) (t : Fin 640) (g : Fin 5) (u : Fin 640) :
    Ideal.exp (lessT x k ks (ix5 b kv t g u))
      = wt t.val (rawOf x k b t (headF kv g)) (fun w => scaleAt ks b (headF kv g) (w / 128)) (qScale x b t (headF kv g)) u.val := by
  have e : lessT x k ks (ix5 b kv t g u) = scT (k0_pay6 x) (k0_pay5 x) ks k (ix5 b kv t g u) - maxT (scT (k0_pay6 x) (k0_pay5 x) ks k) (ix5 b kv t g u) := by
    unfold lessT; rw [pay11_eq]; rfl
  rw [e, maxT_apply]
  simp only [score_eq]
  rfl

/-- The output of the reference. -/
theorem out_eq (b : Fin 3) (t : Fin 640) (c : Fin 80) (e : Fin 128) :
    k0_pay12 (k0_pay9 vs) (k0_pay10 v) (lessT x k ks) (ix4 b t c e) = grpO x k ks v vs b t c e := by
  have hh : headF ⟨c.val / 10, by omega⟩ ⟨c.val / 2 % 5, by omega⟩ = (⟨c.val / 2, by omega⟩ : Fin 40) :=
    Fin.ext (by show c.val / 10 * 5 + c.val / 2 % 5 = c.val / 2; omega)
  rw [pay12_eq, outT_apply]
  generalize hd : (⟨128 * (c.val % 2) + e.val, by omega⟩ : Fin 256) = d
  generalize hkv : (⟨c.val / 10, by omega⟩ : Fin 8) = kv at hh ⊢
  generalize hg : (⟨c.val / 2 % 5, by omega⟩ : Fin 5) = g at hh ⊢
  show dotPV _ _ (ix5 b kv t g d) * invT _ (ix5 b kv t g d) = _
  rw [dotPV_apply, invT_apply, sumT_apply]
  unfold grpO
  rw [← hh, hd]
  unfold outO mixed itot tot wcode
  simp only [codeT_apply, pay9_apply]
  simp only [show ∀ i, exp (lessT x k ks) i = Ideal.exp (lessT x k ks i) from fun i => rfl]
  simp only [less_eq, tokF_val, kvOf_headF]
  refine congrArg (· * _) (Finset.sum_congr rfl fun u _ => ?_)
  unfold scaleAt
  have e : blkF (u.val / 128) = ⟨u.val / 128, by omega⟩ := Fin.ext (Nat.mod_eq_of_lt (by omega))
  rw [e, kvOf_headF]
  rfl

end Output

end Cert.ReferenceIdeal.Body

end
-- ==== Proof.RefOutput.lean ====
module

public import proofs.«01_k».proof.Proof.RefAttend

/-!
# The run of the reference, with all four results

The quantiser of the output read at an index, and what the arrays of results hold after the run.
-/

@[expose] public section

set_option maxRecDepth 65536
set_option maxHeartbeats 4000000

noncomputable section

open Idealize.ShloMosaic Idealize.ShloMosaic.TcCoe Idealize.ShloMosaic.Tactic
open Idealize.SL Idealize.SL.RA Idealize.SL.BI Idealize.SL.Sem
open Idealize.ShloMosaic.Pipeline

namespace Cert.ReferenceIdeal.Body
open Cert.ReferenceIdeal Cert.ReferenceIdeal.Gen Cert.Value

/-- The reference's choice among the powers of two, for the groups of the output. -/
def sel80 (a : FVec Ideal S3x640x80 .f32) : FVec Ideal S3x640x80x254 .f32 :=
  select (cmpf .ole (broadcastTo S3x640x80x254 (shapeCast S1x1x1x254 tab shapeCasts_S254_S1x1x1x254) broadcasts_S1x1x1x254_S3x640x80x254)
      (broadcastTo S3x640x80x254 (shapeCast S3x640x80x1 (mulf a (broadcast S3x640x80 (Scalar.ofBits .f32 0x3B124925#32))) shapeCasts_S3x640x80_S3x640x80x1) broadcasts_S3x640x80x1_S3x640x80x254))
    (broadcastTo S3x640x80x254 (shapeCast S1x1x1x254 tab shapeCasts_S254_S1x1x1x254) broadcasts_S1x1x1x254_S3x640x80x254)
    (broadcast S3x640x80x254 (Scalar.ofBits .f32 0x00000000#32))

theorem sel80_apply (a : FVec Ideal S3x640x80 .f32) (b : Fin 3) (t : Fin 640) (h : Fin 80) (k : Fin 254) :
    sel80 a (ix4 b t h k) = if twoPow k ≤ a (ix3 b t h) * Ideal.ofBits .f32 0x3B124925#32 then twoPow k else 0 := by
  pointwise [sel80]
  rw [tab_apply]

/-- The largest chosen power of two. -/
def max80 (s : FVec Ideal S3x640x80x254 .f32) : FVec Ideal S3x640x80 .f32 :=
  multiReduction .maximumf [3] S3x640x80 s 0xFF800000#32 reduces_S3x640x80x254_S3x640x80 (.inl rfl) rfl

theorem max80_apply (s : FVec Ideal S3x640x80x254 .f32) (b : Fin 3) (t : Fin 640) (h : Fin 80) :
    max80 s (ix3 b t h) = Finset.univ.fold max ⊥ fun k : Fin 254 => s (ix4 b t h k) := by
  pointwise [max80]
  rw [bits_bot]

/-- The scale from the largest chosen power of two. -/
theorem pay1_apply (p : FVec Ideal S3x640x80 .f32) (b : Fin 3) (t : Fin 640) (h : Fin 80) :
    k0_pay1 p (cmpf .oeq p (broadcast S3x640x80 (Scalar.ofBits .f32 0x00000000#32))) (Scalar.ofBits .f32 0x40000000#32) (ix3 b t h)
      = if p (ix3 b t h) = 0 then 1 else p (ix3 b t h) * 2 := by
  pointwise [k0_pay1]
  rw [bits_two, mul_comm]

/-- The largest magnitudes of the groups. -/
def mag80 (x : FVec Ideal S3x640x80x128 .f32) : FVec Ideal S3x640x80 .f32 :=
  multiReduction .maximumf [3] S3x640x80 (absf x) 0xFF800000#32 reduces_S3x640x80x128_S3x640x80 (.inl rfl) rfl

theorem mag80_apply (x : FVec Ideal S3x640x80x128 .f32) (b : Fin 3) (t : Fin 640) (h : Fin 80) :
    mag80 x (ix3 b t h) = topMag fun d : Fin 128 => x (ix4 b t h d) := by
  pointwise [mag80]
  rw [bits_bot]; rfl

theorem pay13_eq (a : FVec Ideal S3x8x640 .f32) (b : FVec Ideal S3x640x8x256 .bf16) (y : FVec Ideal S3x8x640x5x640 .f32) :
    k0_pay13 a b y = max80 (sel80 (mag80 (k0_pay12 a b y))) := by
  unfold k0_pay13; rfl

/-- The inverse of a table of scales, along each group. -/
def inv80 (z : FVec Ideal S3x640x80 .f32) : FVec Ideal S3x640x80x128 .f32 :=
  broadcastTo S3x640x80x128 (shapeCast S3x640x80x1 (divf (broadcast S3x640x80 (Scalar.ofBits .f32 0x3F800000#32)) z)
    shapeCasts_S3x640x80_S3x640x80x1) broadcasts_S3x640x80x1_S3x640x80x128

theorem inv80_apply (z : FVec Ideal S3x640x80 .f32) (b : Fin 3) (t : Fin 640) (h : Fin 80) (d : Fin 128) :
    inv80 z (ix4 b t h d) = Ideal.div 1 (z (ix3 b t h)) := by
  pointwise [inv80]

/-- The codes of numbers with given scales. -/
def code80 (y : FVec Ideal S3x640x80x128 .f32) (z : FVec Ideal S3x640x80 .f32) : FVec Ideal S3x640x80x128 .fp8e4m3 :=
  truncf .fp8e4m3 (minimumf (broadcast S3x640x80x128 (Scalar.ofBits .f32 0x43E00000#32))
    (maximumf (broadcast S3x640x80x128 (Scalar.ofBits .f32 0xC3E00000#32)) (mulf y (inv80 z)))) bitsLt_fp8e4m3_f32

theorem code80_apply (y : FVec Ideal S3x640x80x128 .f32) (z : FVec Ideal S3x640x80 .f32) (b : Fin 3) (t : Fin 640) (h : Fin 80) (d : Fin 128) :
    code80 y z (ix4 b t h d) = clip (y (ix4 b t h d) * Ideal.div 1 (z (ix3 b t h))) := by
  rw [← inv80_apply]
  rfl

/-- Codes side by side. -/
theorem flat80_apply (y : FVec Ideal S3x640x80x128 .fp8e4m3) (b : Fin 3) (t : Fin 640) (c : Fin 10240) :
    shapeCast S3x640x10240 y shapeCasts_S3x640x80x128_S3x640x10240 (ix3 b t c)
      = y (ix4 b t ⟨c.val / 128, by omega⟩ ⟨c.val % 128, Nat.mod_lt _ (by decide)⟩) := by
  pointwise

/-- A table by tokens and groups, turned. -/
theorem turn80_apply (y : FVec Ideal S3x640x80 .f32) (b : Fin 3) (g : Fin 80) (t : Fin 640) :
    transpose S3x80x640 [0, 2, 1] y transposes_S3x640x80_p0_2_1_S3x80x640 (ix3 b g t) = y (ix3 b t g) := by
  pointwise

section Output

variable (x : Vec Ideal S3x640x10240 .bf16) (k : Vec Ideal S3x640x8x256 .fp8e4m3) (ks : Vec Ideal S3x5x8 .f32)
  (v : Vec Ideal S3x640x8x256 .fp8e4m3) (vs : Vec Ideal S3x5x8 .f32)

/-- The output of the reference. -/
abbrev outR : FVec Ideal S3x640x80x128 .f32 := k0_pay12 (k0_pay9 vs) (k0_pay10 v) (lessT x k ks)
/-- The powers of two of the output's scales. -/
abbrev powR : FVec Ideal S3x640x80 .f32 := k0_pay13 (k0_pay9 vs) (k0_pay10 v) (lessT x k ks)
/-- The scales of the output. -/
abbrev scaleR : FVec Ideal S3x640x80 .f32 :=
  k0_pay1 (powR x k ks v vs) (k0_pay14 (k0_pay9 vs) (k0_pay10 v) (lessT x k ks)) (Scalar.ofBits .f32 0x40000000#32)

theorem outR_apply (b : Fin 3) (t : Fin 640) (g : Fin 80) (e : Fin 128) : outR x k ks v vs (ix4 b t g e) = grpO x k ks v vs b t g e :=
  out_eq x k ks v vs b t g e

theorem scaleR_apply (b : Fin 3) (t : Fin 640) (g : Fin 80) : scaleR x k ks v vs (ix3 b t g) = oScale x k ks v vs b t g := by
  rw [show scaleR x k ks v vs = k0_pay1 (powR x k ks v vs) (cmpf .oeq (powR x k ks v vs) (broadcast S3x640x80 (Scalar.ofBits .f32 0x00000000#32)))
    (Scalar.ofBits .f32 0x40000000#32) from rfl, pay1_apply]
  rw [show powR x k ks v vs = _ from pay13_eq _ _ _, max80_apply]
  simp only [sel80_apply, mag80_apply, out_eq]
  rfl

/-- The stored codes of the output. -/
theorem outCodes_apply (i : S3x640x10240.Idx) :
    k0_pay2 (outR x k ks v vs) (powR x k ks v vs) (k0_pay14 (k0_pay9 vs) (k0_pay10 v) (lessT x k ks)) (Scalar.ofBits .f32 0x40000000#32) i
      = oCodes x k ks v vs i := by
  obtain ⟨b, t, c, rfl⟩ : ∃ (b : Fin 3) (t : Fin 640) (c : Fin 10240), i = ix3 b t c := ⟨i 0, i 1, i 2, eq_ix3 i⟩
  rw [show k0_pay2 (outR x k ks v vs) (powR x k ks v vs) (k0_pay14 (k0_pay9 vs) (k0_pay10 v) (lessT x k ks)) (Scalar.ofBits .f32 0x40000000#32)
    = shapeCast S3x640x10240 (code80 (outR x k ks v vs) (scaleR x k ks v vs)) shapeCasts_S3x640x80x128_S3x640x10240 from by unfold k0_pay2 code80 inv80; rfl,
    flat80_apply, code80_apply, outR_apply, scaleR_apply]
  rfl

/-- The stored scales of the output. -/
theorem outScales_apply (i : S3x80x640.Idx) :
    k0_pay3 (powR x k ks v vs) (k0_pay14 (k0_pay9 vs) (k0_pay10 v) (lessT x k ks)) (Scalar.ofBits .f32 0x40000000#32) i
      = oScales x k ks v vs i := by
  rw [show k0_pay3 (powR x k ks v vs) (k0_pay14 (k0_pay9 vs) (k0_pay10 v) (lessT x k ks)) (Scalar.ofBits .f32 0x40000000#32)
    = transpose S3x80x640 [0, 2, 1] (scaleR x k ks v vs) transposes_S3x640x80_p0_2_1_S3x80x640 from by unfold k0_pay3; rfl]
  obtain ⟨b, g, t, rfl⟩ : ∃ (b : Fin 3) (g : Fin 80) (t : Fin 640), i = ix3 b g t := ⟨i 0, i 1, i 2, eq_ix3 i⟩
  rw [turn80_apply, scaleR_apply]
  rfl

end Output

variable (m : (ℓ : Loc nD τ sig) → Buf (Elt Ideal) ℓ) (ρ : Dev nD → PrngReg)

/-- The codes of the keys among the arguments. -/
abbrev kA (c : Dev nD) : S3x640x8x256.Idx → EReal := m ((c : Thread nD τ).loc main_arg1)
/-- The scales of the keys. -/
abbrev ksA (c : Dev nD) : S3x5x8.Idx → EReal := m ((c : Thread nD τ).loc main_arg2)
/-- The codes of the values. -/
abbrev vA (c : Dev nD) : S3x640x8x256.Idx → EReal := m ((c : Thread nD τ).loc main_arg3)
/-- The scales of the values. -/
abbrev vsA (c : Dev nD) : S3x5x8.Idx → EReal := m ((c : Thread nD τ).loc main_arg4)

theorem at1 : ∀ (t : Fin grid0.N) (a : Fin 4), win0_1.index t a = 0 := by decide +kernel
theorem at2 : ∀ (t : Fin grid0.N) (a : Fin 3), win0_2.index t a = 0 := by decide +kernel
theorem at3 : ∀ (t : Fin grid0.N) (a : Fin 4), win0_3.index t a = 0 := by decide +kernel
theorem at4 : ∀ (t : Fin grid0.N) (a : Fin 3), win0_4.index t a = 0 := by decide +kernel
theorem at5 : ∀ (t : Fin grid0.N) (a : Fin 3), win0_5.index t a = 0 := by decide +kernel
theorem at6 : ∀ (t : Fin grid0.N) (a : Fin 3), win0_6.index t a = 0 := by decide +kernel

theorem emb1 (t : Fin cfg0.N) (y : S3x640x8x256.Idx) : (((cfg0.win 1).blk t).view.emb y : S3x640x8x256.Idx) = y :=
  funext fun a => Fin.ext (win0_1.rect_emb_val_of_index_zero t a (at1 t a) y)
theorem emb2 (t : Fin cfg0.N) (y : S3x5x8.Idx) : (((cfg0.win 2).blk t).view.emb y : S3x5x8.Idx) = y :=
  funext fun a => Fin.ext (win0_2.rect_emb_val_of_index_zero t a (at2 t a) y)
theorem emb3 (t : Fin cfg0.N) (y : S3x640x8x256.Idx) : (((cfg0.win 3).blk t).view.emb y : S3x640x8x256.Idx) = y :=
  funext fun a => Fin.ext (win0_3.rect_emb_val_of_index_zero t a (at3 t a) y)
theorem emb4 (t : Fin cfg0.N) (y : S3x5x8.Idx) : (((cfg0.win 4).blk t).view.emb y : S3x5x8.Idx) = y :=
  funext fun a => Fin.ext (win0_4.rect_emb_val_of_index_zero t a (at4 t a) y)
theorem emb5 (t : Fin cfg0.N) (y : S3x640x10240.Idx) : (((cfg0.win 5).blk t).view.emb y : S3x640x10240.Idx) = y :=
  funext fun a => Fin.ext (win0_5.rect_emb_val_of_index_zero t a (at5 t a) y)
theorem emb6 (t : Fin cfg0.N) (y : S3x80x640.Idx) : (((cfg0.win 6).blk t).view.emb y : S3x80x640.Idx) = y :=
  funext fun a => Fin.ext (win0_6.rect_emb_val_of_index_zero t a (at6 t a) y)

theorem kblk_eq (c : Dev nD) (t : Fin cfg0.N) : (iblk m c 1 t : S3x640x8x256.Idx → EReal) = kA m c :=
  funext fun y => congrArg (kA m c) (emb1 t y)
theorem ksblk_eq (c : Dev nD) (t : Fin cfg0.N) : (iblk m c 2 t : S3x5x8.Idx → EReal) = ksA m c :=
  funext fun y => congrArg (ksA m c) (emb2 t y)
theorem vblk_eq (c : Dev nD) (t : Fin cfg0.N) : (iblk m c 3 t : S3x640x8x256.Idx → EReal) = vA m c :=
  funext fun y => congrArg (vA m c) (emb3 t y)
theorem vsblk_eq (c : Dev nD) (t : Fin cfg0.N) : (iblk m c 4 t : S3x5x8.Idx → EReal) = vsA m c :=
  funext fun y => congrArg (vsA m c) (emb4 t y)

theorem hz4 : (![0, 0, 0, 0] : Fin 4 → Nat) = fun _ => 0 := funext fun a => by fin_cases a <;> rfl

theorem ld_x (x : Vec Ideal S3x640x10240 .bf16) : View.ld x r0_0 = x := View.ld_unit_zero hz _ _
theorem ld_k (x : Vec Ideal S3x640x8x256 .fp8e4m3) : View.ld x r0_3 = x := View.ld_unit_zero hz4 _ _
theorem ld_s (x : Vec Ideal S3x5x8 .f32) : View.ld x r0_2 = x := View.ld_unit_zero hz _ _

theorem out5_eq (x : Vec Ideal S3x640x10240 .bf16) (k : Vec Ideal S3x640x8x256 .fp8e4m3) (ks : Vec Ideal S3x5x8 .f32)
    (v : Vec Ideal S3x640x8x256 .fp8e4m3) (vs : Vec Ideal S3x5x8 .f32) : out0_5 x k ks v vs = oCodes x k ks v vs := by
  unfold out0_5 k0_pay19 k0_pay18 k0_pay17 k0_pay16 k0_pay15
  rw [View.canon_unit_zero hz]
  simp only [ld_x, ld_k, ld_s]
  exact funext (outCodes_apply x k ks v vs)

theorem out6_eq (x : Vec Ideal S3x640x10240 .bf16) (k : Vec Ideal S3x640x8x256 .fp8e4m3) (ks : Vec Ideal S3x5x8 .f32)
    (v : Vec Ideal S3x640x8x256 .fp8e4m3) (vs : Vec Ideal S3x5x8 .f32) : out0_6 x k ks v vs = oScales x k ks v vs := by
  unfold out0_6 k0_pay19 k0_pay18 k0_pay17 k0_pay16 k0_pay15
  rw [View.canon_unit_zero hz]
  simp only [ld_x, ld_k, ld_s]
  exact funext (outScales_apply x k ks v vs)

/-- The codes of the output after the run. -/
theorem final5 (c : Dev nD) : (dats m 0 c).arrAt 5 cfg0.N = (oCodes (xs m c) (kA m c) (ksA m c) (vA m c) (vsA m c) : S3x640x10240.Idx → EReal) := by
  refine (dats m 0 c).arrAt_eq_of_covers 5 _ (by decide +kernel) fun t _ y => ?_
  rw [after0_5, out5_eq]
  rw [show oCodes (iblk m c 0 t) (iblk m c 1 t) (iblk m c 2 t) (iblk m c 3 t) (iblk m c 4 t) = oCodes (xs m c) (kA m c) (ksA m c) (vA m c) (vsA m c) by
    rw [← xblk_eq m c t, ← kblk_eq m c t, ← ksblk_eq m c t, ← vblk_eq m c t, ← vsblk_eq m c t]]
  exact congrArg (oCodes _ _ _ _ _) (emb5 t y).symm

/-- The scales of the output after the run. -/
theorem final6 (c : Dev nD) : (dats m 0 c).arrAt 6 cfg0.N = (oScales (xs m c) (kA m c) (ksA m c) (vA m c) (vsA m c) : S3x80x640.Idx → EReal) := by
  refine (dats m 0 c).arrAt_eq_of_covers 6 _ (by decide +kernel) fun t _ y => ?_
  rw [after0_6, out6_eq]
  rw [show oScales (iblk m c 0 t) (iblk m c 1 t) (iblk m c 2 t) (iblk m c 3 t) (iblk m c 4 t) = oScales (xs m c) (kA m c) (ksA m c) (vA m c) (vsA m c) by
    rw [← xblk_eq m c t, ← kblk_eq m c t, ← ksblk_eq m c t, ← vblk_eq m c t, ← vsblk_eq m c t]]
  exact congrArg (oScales _ _ _ _ _) (emb6 t y).symm

/-- The run of the reference: all four results, the arguments unchanged. -/
theorem runAll : θ_run defs (onTc (τ := τ) (main (F := Ideal))) ⟨m, fun _ => 0, ρ⟩ (fun r => ∀ c : Dev nD,
      (r.2.mem ((c.tc : Thread nD τ).loc main_v0_0) = oCodes (xs m c) (kA m c) (ksA m c) (vA m c) (vsA m c)
        ∧ r.2.mem ((c.tc : Thread nD τ).loc main_v0_1) = oScales (xs m c) (kA m c) (ksA m c) (vA m c) (vsA m c)
        ∧ r.2.mem ((c.tc : Thread nD τ).loc main_v0_2) = qCodes (xs m c) ∧ r.2.mem ((c.tc : Thread nD τ).loc main_v0_3) = qScales (xs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  have e5 := (h.1 c).1 5
  rw [final5] at e5
  have e6 := (h.1 c).1 6
  rw [final6] at e6
  exact ⟨⟨e5, e6, (results_of m r h.1 c).1, (results_of m r h.1 c).2⟩, h.2 c⟩

end Cert.ReferenceIdeal.Body

end
-- ==== Proof.lean ====
/- The certificate: the frames of the kernel, of its ideal twin and of the reference, the named constant, and the
   equality of all four results of the two programs where no key scale is negative, and of the
   query codes and scales with no such condition. -/
module

public import proofs.«01_k».proof.Defs
public import proofs.«01_k».proof.Proof.FrameKernel
public import proofs.«01_k».proof.Proof.FrameAttend
public import proofs.«01_k».proof.Proof.QueryValue
public import proofs.«01_k».proof.Proof.RefOutput
public import proofs.«01_k».proof.Proof.RefQuery
public import proofs.«01_k».proof.Proof.Gen.ReferenceIdeal

@[expose] public section

set_option maxRecDepth 65536

noncomputable section

namespace Cert.Proof

open Idealize.ShloMosaic Idealize.SL.Sem

/-- The side conditions of the precondition. -/
theorem preFacts : Cert.Pre_scales_not_negative.Facts := by constructor <;> decide

/-- What the precondition says: no scale of a key is negative. -/
theorem scales_of_pre (m : (ℓ : Loc Cert.KernelIdeal.nD Cert.KernelIdeal.τ Cert.KernelIdeal.sig) → Buf (Elt Ideal) ℓ)
    (h : @Cert.Pre_KernelIdeal_scales_not_negative preFacts m) (c : Dev Cert.KernelIdeal.nD) (i : Cert.KernelIdeal.S3x5x8.Idx) :
    0 ≤ Cert.KernelIdeal.Body.Whole.ksA m c i := by
  have e : Ideal.cmp .oge (Cert.KernelIdeal.Body.Whole.ksA m c i) (Ideal.ofBits .f32 0x00000000#32) = 1#1 := congrFun (h c) i
  rw [Ideal.ofBits_zero_f32, Ideal.cmp_oge] at e
  by_contra hn
  rw [decide_eq_false hn] at e
  exact absurd e (by decide)

/-- The four results are the same in the two programs. -/
theorem results : @Cert.algebraic_KernelIdeal_ReferenceIdeal_pre_scales_not_negative Cert.KernelIdeal.Gen.facts Cert.ReferenceIdeal.Gen.facts preFacts := by
  intro m g m' g' hpre hargs
  refine ⟨fun c => Cert.Value.oCodes (Cert.KernelIdeal.Body.Frame.xs m c) (Cert.KernelIdeal.Body.Whole.kA m c) (Cert.KernelIdeal.Body.Whole.ksA m c) (Cert.KernelIdeal.Body.Whole.vA m c) (Cert.KernelIdeal.Body.Whole.vsA m c),
    fun c => Cert.Value.oScales (Cert.KernelIdeal.Body.Frame.xs m c) (Cert.KernelIdeal.Body.Whole.kA m c) (Cert.KernelIdeal.Body.Whole.ksA m c) (Cert.KernelIdeal.Body.Whole.vA m c) (Cert.KernelIdeal.Body.Whole.vsA m c),
    fun c => Cert.Value.qCodes (Cert.KernelIdeal.Body.Frame.xs m c), fun c => Cert.Value.qScales (Cert.KernelIdeal.Body.Frame.xs m c), ?_, ?_⟩
  · refine (θ_run _ _ _).mono (fun r h c => ?_) (Cert.KernelIdeal.Body.Whole.runAll m g (scales_of_pre m hpre))
    exact ⟨(h c).1.1, (h c).1.2.1, (h c).1.2.2.1, (h c).1.2.2.2, (h c).2⟩
  · refine (θ_run _ _ _).mono (fun r h c => ?_) (Cert.ReferenceIdeal.Body.runAll m' g')
    have e0 : Cert.ReferenceIdeal.Body.xs m' c = Cert.KernelIdeal.Body.Frame.xs m c := (hargs c).1
    have e1 : Cert.ReferenceIdeal.Body.kA m' c = Cert.KernelIdeal.Body.Whole.kA m c := (hargs c).2.1
    have e2 : Cert.ReferenceIdeal.Body.ksA m' c = Cert.KernelIdeal.Body.Whole.ksA m c := (hargs c).2.2.1
    have e3 : Cert.ReferenceIdeal.Body.vA m' c = Cert.KernelIdeal.Body.Whole.vA m c := (hargs c).2.2.2.1
    have e4 : Cert.ReferenceIdeal.Body.vsA m' c = Cert.KernelIdeal.Body.Whole.vsA m c := (hargs c).2.2.2.2
    have h' := (h c).1
    rw [e0, e1, e2, e3, e4] at h'
    exact ⟨h'.1, h'.2.1, h'.2.2.1, h'.2.2.2, (h c).2⟩

/-- The side conditions of the mask. -/
theorem maskFacts : Cert.On_query_results.Facts := by constructor <;> decide

/-- Where a word is zero it is not one. -/
theorem zero_ne_one {α : Prop} (h : (0#1 : BitVec 1) = 1#1) : α := absurd h (by decide)

/-- The codes and the scales of the queries are the same in the two programs. -/
theorem queries : @Cert.algebraic_KernelIdeal_ReferenceIdeal_on_query_results Cert.KernelIdeal.Gen.facts Cert.ReferenceIdeal.Gen.facts maskFacts := by
  intro m g m' g' _ hargs
  refine ⟨fun c => m ((c.tc : Thread Cert.KernelIdeal.nD Cert.KernelIdeal.τ).loc Cert.KernelIdeal.main_v4_0),
    fun c => m ((c.tc : Thread Cert.KernelIdeal.nD Cert.KernelIdeal.τ).loc Cert.KernelIdeal.main_v4_1),
    fun c => Cert.Value.qCodes (Cert.KernelIdeal.Body.Frame.xs m c), fun c => Cert.Value.qScales (Cert.KernelIdeal.Body.Frame.xs m c), ?_, ?_⟩
  · refine (θ_run _ _ _).mono (fun r h c => ?_) (Cert.KernelIdeal.Body.Frame.run m g)
    exact ⟨fun _ e => zero_ne_one e, fun _ e => zero_ne_one e, fun i _ => congrFun (h c).1 i, fun i _ => congrFun (h c).2.1 i, (h c).2.2⟩
  · refine (θ_run _ _ _).mono (fun r h c => ?_) (Cert.ReferenceIdeal.Body.run m' g')
    have e : Cert.ReferenceIdeal.Body.xs m' c = Cert.KernelIdeal.Body.Frame.xs m c := (hargs c).1
    refine ⟨fun _ e => zero_ne_one e, fun _ e => zero_ne_one e, fun i _ => ?_, fun i _ => ?_, (h c).2.2⟩
    · exact (congrFun (h c).1 i).trans (congrFun (congrArg Cert.Value.qCodes e) i)
    · exact (congrFun (h c).2.1 i).trans (congrFun (congrArg Cert.Value.qScales e) i)

/-- All that the certificate claims. -/
theorem claim : Cert.Claim := ⟨Cert.Kernel.Gen.facts, Cert.KernelIdeal.Gen.facts, Cert.ReferenceIdeal.Gen.facts, preFacts, maskFacts,
  fun m ρ _ => Cert.Kernel.Body.Frame.frame m ρ, fun m ρ _ => Cert.KernelIdeal.Body.Frame.frame m ρ, fun m ρ _ => Cert.KernelIdeal.Body.Frame.frame m ρ,
  fun m ρ _ => Cert.ReferenceIdeal.Gen.frame m ρ, fun m ρ _ => Cert.ReferenceIdeal.Gen.frame m ρ,
  IdealRules.named_const.statement Cert.KernelIdeal.κ "log2e_16" .f32 0x3DB8AA3B#32 (((((Real.log 2) * 16)⁻¹ : ℝ)) : EReal) rfl, queries, results⟩

end Cert.Proof

end
